-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def preserves_Ret_RetIdeal : Prop :=
  True

def preserves_Out_OutIdeal : Prop :=
  True

def preserves_Mid_MidIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v49)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v49) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v82) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v49) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v47_0)) (v1 : (c : Dev Cert.MidIdeal.nD) → Buf (Elt Ideal) ((c.tc : Thread Cert.MidIdeal.nD Cert.MidIdeal.τ).loc Cert.MidIdeal.main_v47_1)) (v2 : (c : Dev Cert.MidIdeal.nD) → Buf (Elt Ideal) ((c.tc : Thread Cert.MidIdeal.nD Cert.MidIdeal.τ).loc Cert.MidIdeal.main_v47_2)) (v3 : (c : Dev Cert.MidIdeal.nD) → Buf (Elt Ideal) ((c.tc : Thread Cert.MidIdeal.nD Cert.MidIdeal.τ).loc Cert.MidIdeal.main_v47_3)) (v4 : (c : Dev Cert.MidIdeal.nD) → Buf (Elt Ideal) ((c.tc : Thread Cert.MidIdeal.nD Cert.MidIdeal.τ).loc Cert.MidIdeal.main_v47_4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v47_0) = v0 c
          ∧ r.2.mem ((c.tc : Thread Cert.MidIdeal.nD Cert.MidIdeal.τ).loc Cert.MidIdeal.main_v47_1) = v1 c
          ∧ r.2.mem ((c.tc : Thread Cert.MidIdeal.nD Cert.MidIdeal.τ).loc Cert.MidIdeal.main_v47_2) = v2 c
          ∧ r.2.mem ((c.tc : Thread Cert.MidIdeal.nD Cert.MidIdeal.τ).loc Cert.MidIdeal.main_v47_3) = v3 c
          ∧ r.2.mem ((c.tc : Thread Cert.MidIdeal.nD Cert.MidIdeal.τ).loc Cert.MidIdeal.main_v47_4) = v4 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v102) = v0 c
          ∧ r.2.mem ((c.tc : Thread Cert.MidRefIdeal.nD Cert.MidRefIdeal.τ).loc Cert.MidRefIdeal.main_v104) = v1 c
          ∧ r.2.mem ((c.tc : Thread Cert.MidRefIdeal.nD Cert.MidRefIdeal.τ).loc Cert.MidRefIdeal.main_v106) = v2 c
          ∧ r.2.mem ((c.tc : Thread Cert.MidRefIdeal.nD Cert.MidRefIdeal.τ).loc Cert.MidRefIdeal.main_v108) = v3 c
          ∧ r.2.mem ((c.tc : Thread Cert.MidRefIdeal.nD Cert.MidRefIdeal.τ).loc Cert.MidRefIdeal.main_v110) = v4 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def Claim : Prop :=
  ∃ (hRet : Cert.Ret.Facts) (hRetIdeal : Cert.RetIdeal.Facts) (hRetRefIdeal : Cert.RetRefIdeal.Facts) (hOut : Cert.Out.Facts) (hOutIdeal : Cert.OutIdeal.Facts) (hOutRefIdeal : Cert.OutRefIdeal.Facts) (hMid : Cert.Mid.Facts) (hMidIdeal : Cert.MidIdeal.Facts) (hMidRefIdeal : Cert.MidRefIdeal.Facts),
    quiescent_Ret (hRet := hRet)
    ∧ quiescent_RetIdeal (hRetIdeal := hRetIdeal)
    ∧ quiescent_RetRefIdeal (hRetRefIdeal := hRetRefIdeal)
    ∧ quiescent_Out (hOut := hOut)
    ∧ quiescent_OutIdeal (hOutIdeal := hOutIdeal)
    ∧ quiescent_OutRefIdeal (hOutRefIdeal := hOutRefIdeal)
    ∧ quiescent_Mid (hMid := hMid)
    ∧ quiescent_MidIdeal (hMidIdeal := hMidIdeal)
    ∧ quiescent_MidRefIdeal (hMidRefIdeal := hMidRefIdeal)
    ∧ preserves_Ret_RetIdeal
    ∧ preserves_Out_OutIdeal
    ∧ preserves_Mid_MidIdeal
    ∧ algebraic_RetIdeal_RetRefIdeal (hRetIdeal := hRetIdeal) (hRetRefIdeal := hRetRefIdeal)
    ∧ algebraic_OutIdeal_OutRefIdeal (hOutIdeal := hOutIdeal) (hOutRefIdeal := hOutRefIdeal)
    ∧ algebraic_MidIdeal_MidRefIdeal (hMidIdeal := hMidIdeal) (hMidRefIdeal := hMidRefIdeal)
-- ==== Ret.lean ====
abbrev S16x2048x1024 : Shape := ⟨3, ![16, 2048, 1024]⟩
abbrev S16x2048x2048 : Shape := ⟨3, ![16, 2048, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x128x256 : Shape := ⟨3, ![4, 128, 256]⟩
abbrev S4x1x512 : Shape := ⟨3, ![4, 1, 512]⟩
abbrev S1x1024x1024 : Shape := ⟨3, ![1, 1024, 1024]⟩
abbrev S1x1024x2048 : Shape := ⟨3, ![1, 1024, 2048]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 65
  | .vmem => 15
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .bf16⟩
  | .hbm, ⟨3, _⟩ => ⟨S16x2048x2048, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S1x128x128, .f32⟩
  | .hbm, ⟨22, _⟩ => ⟨S_, .f32⟩
  | .hbm, ⟨23, _⟩ => ⟨S1x128x128, .f32⟩
  | .hbm, ⟨24, _⟩ => ⟨S1x128x128, .i1⟩
  | .hbm, ⟨25, _⟩ => ⟨S1x128x128, .f32⟩
  | .hbm, ⟨26, _⟩ => ⟨S4x1x1, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S_, .f32⟩
  | .hbm, ⟨32, _⟩ => ⟨S_, .f32⟩
  | .hbm, ⟨33, _⟩ => ⟨S4x128x128, .i1⟩
  | .hbm, ⟨34, _⟩ => ⟨S4x128x128, .f32⟩
  | .hbm, ⟨35, _⟩ => ⟨S4x128x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S4x1, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S4x1, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4x128x1, .f32⟩
  | .hbm, ⟨59, _⟩ => ⟨S4x128x512, .f32⟩
  | .hbm, ⟨60, _⟩ => ⟨S4x128x1, .f32⟩
  | .hbm, ⟨61, _⟩ => ⟨S4x128x256, .f32⟩
  | .hbm, ⟨62, _⟩ => ⟨S4x1x1, .f32⟩
  | .hbm, ⟨63, _⟩ => ⟨S4x1x512, .f32⟩
  | .hbm, ⟨64, _⟩ => ⟨S16x2048x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S4x128x128, .f32⟩
  | .local _ .vmem, ⟨9, _⟩ => ⟨S4x128x512, .f32⟩
  | .local _ .vmem, ⟨10, _⟩ => ⟨S4x128x256, .f32⟩
  | .local _ .vmem, ⟨11, _⟩ => ⟨S4x1x512, .f32⟩
  | .local _ .vmem, ⟨12, _⟩ => ⟨S1x1024x2048, .bf16⟩
  | .local _ .vmem, ⟨13, _⟩ => ⟨S1x1024x2048, .bf16⟩
  | .local _ .vmem, ⟨14, _⟩ => ⟨S4x256x512, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S16x2048x1024 : Shape := ⟨3, ![16, 2048, 1024]⟩
abbrev S16x2048x2048 : Shape := ⟨3, ![16, 2048, 2048]⟩
abbrev S16x2048x4x256 : Shape := ⟨4, ![16, 2048, 4, 256]⟩
abbrev S16x2048x4x512 : Shape := ⟨4, ![16, 2048, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S16x4x256x512 : Shape := ⟨4, ![16, 4, 256, 512]⟩
abbrev S16x16x128x4x256 : Shape := ⟨5, ![16, 16, 128, 4, 256]⟩
abbrev S16x16x128x4x512 : Shape := ⟨5, ![16, 16, 128, 4, 512]⟩
abbrev S1x16x128x4x256 : Shape := ⟨5, ![1, 16, 128, 4, 256]⟩
abbrev S16x128x4x256 : Shape := ⟨4, ![16, 128, 4, 256]⟩
abbrev S1x16x128x4x512 : Shape := ⟨5, ![1, 16, 128, 4, 512]⟩
abbrev S16x128x4x512 : Shape := ⟨4, ![16, 128, 4, 512]⟩
abbrev S16x4x128x128 : Shape := ⟨4, ![16, 4, 128, 128]⟩
abbrev S1x4x128x128 : Shape := ⟨4, ![1, 4, 128, 128]⟩
abbrev S16x4x512x128 : Shape := ⟨4, ![16, 4, 512, 128]⟩
abbrev S1x128x4x1 : Shape := ⟨4, ![1, 128, 4, 1]⟩
abbrev S1x4x1x1 : Shape := ⟨4, ![1, 4, 1, 1]⟩
abbrev S16x2048x4 : Shape := ⟨3, ![16, 2048, 4]⟩
abbrev S16x2048x4x1 : Shape := ⟨4, ![16, 2048, 4, 1]⟩

abbrev nBuf : Space → Nat
  | .hbm => 164
  | .vmem => 0
  | .smem => 0
  | _ => 0

abbrev hbmTy0_0 (i : Nat) : BufTy := match i % 128 with
  | 0 => ⟨S16x2048x1024, .bf16⟩
  | 1 => ⟨S16x2048x1024, .bf16⟩
  | 2 => ⟨S16x2048x2048, .bf16⟩
  | 3 => ⟨S16x2048x2048, .bf16⟩
  | 4 => ⟨S16x2048x4x256, .bf16⟩
  | 5 => ⟨S16x2048x4x256, .f32⟩
  | 6 => ⟨S16x2048x4x256, .bf16⟩
  | 7 => ⟨S16x2048x4x256, .f32⟩
  | 8 => ⟨S16x2048x4x512, .bf16⟩
  | 9 => ⟨S16x2048x4x512, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S1x128x128, .f32⟩
  | 28 => ⟨S_, .f32⟩
  | 29 => ⟨S1x128x128, .f32⟩
  | 30 => ⟨S1x128x128, .i1⟩
  | 31 => ⟨S1x128x128, .f32⟩
  | 32 => ⟨S4x1x1, .f32⟩
  | 33 => ⟨S4x128x128, .f32⟩
  | 34 => ⟨S4x128x128, .f32⟩
  | 35 => ⟨S4x128x128, .f32⟩
  | 36 => ⟨S4x128x128, .f32⟩
  | 37 => ⟨S_, .f32⟩
  | 38 => ⟨S_, .f32⟩
  | 39 => ⟨S4x128x128, .i1⟩
  | 40 => ⟨S4x128x128, .f32⟩
  | 41 => ⟨S4x128x128, .f32⟩
  | 42 => ⟨S1x128, .f32⟩
  | 43 => ⟨S_, .f32⟩
  | 44 => ⟨S1x128, .f32⟩
  | 45 => ⟨S1x128, .f32⟩
  | 46 => ⟨S4x1, .f32⟩
  | 47 => ⟨S4x128, .f32⟩
  | 48 => ⟨S4x128, .f32⟩
  | 49 => ⟨S4x128, .f32⟩
  | 50 => ⟨S4x128, .f32⟩
  | 51 => ⟨S128x4, .f32⟩
  | 52 => ⟨S1x128, .f32⟩
  | 53 => ⟨S_, .f32⟩
  | 54 => ⟨S1x128, .f32⟩
  | 55 => ⟨S1x128, .f32⟩
  | 56 => ⟨S4x1, .f32⟩
  | 57 => ⟨S4x128, .f32⟩
  | 58 => ⟨S4x128, .f32⟩
  | 59 => ⟨S4x128, .f32⟩
  | 60 => ⟨S4x128, .f32⟩
  | 61 => ⟨S_, .f32⟩
  | 62 => ⟨S4, .f32⟩
  | 63 => ⟨S4, .f32⟩
  | 64 => ⟨S4, .f32⟩
  | 65 => ⟨S_, .f32⟩
  | 66 => ⟨S16x4x256x512, .f32⟩
  | 67 => ⟨S16x16x128x4x256, .f32⟩
  | 68 => ⟨S16x16x128x4x256, .f32⟩
  | 69 => ⟨S16x16x128x4x256, .f32⟩
  | 70 => ⟨S16x16x128x4x256, .f32⟩
  | 71 => ⟨S16x16x128x4x512, .f32⟩
  | 72 => ⟨S16x16x128x4x512, .f32⟩
  | 73 => ⟨S_, .f32⟩
  | 74 => ⟨S16x16x128x4x512, .f32⟩
  | 75 => ⟨S_, .i32⟩
  | 76 => ⟨S16x16x128x4x256, .f32⟩
  | 77 => ⟨S16x16x128x4x256, .f32⟩
  | 78 => ⟨S16x16x128x4x512, .f32⟩
  | 79 => ⟨S4x128x128, .f32⟩
  | 80 => ⟨S128x4, .f32⟩
  | 81 => ⟨S4, .f32⟩
  | 82 => ⟨S4x128, .f32⟩
  | 83 => ⟨S_, .i32⟩
  | 84 => ⟨S16x4x256x512, .f32⟩
  | 85 => ⟨S16x16x128x4x512, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x16x128x4x256, .f32⟩
  | 93 => ⟨S16x128x4x256, .f32⟩
  | 94 => ⟨S_, .i32⟩
  | 95 => ⟨S_, .i32⟩
  | 96 => ⟨S_, .i32⟩
  | 97 => ⟨S_, .i32⟩
  | 98 => ⟨S1x16x128x4x256, .f32⟩
  | 99 => ⟨S16x128x4x256, .f32⟩
  | 100 => ⟨S_, .i32⟩
  | 101 => ⟨S_, .i32⟩
  | 102 => ⟨S_, .i32⟩
  | 103 => ⟨S_, .i32⟩
  | 104 => ⟨S1x16x128x4x512, .f32⟩
  | 105 => ⟨S16x128x4x512, .f32⟩
  | 106 => ⟨S16x4x128x128, .f32⟩
  | 107 => ⟨S1x4x128x128, .f32⟩
  | 108 => ⟨S16x4x128x128, .f32⟩
  | 109 => ⟨S16x4x128x128, .f32⟩
  | 110 => ⟨S16x4x512x128, .f32⟩
  | 111 => ⟨S16x128x4x512, .f32⟩
  | 112 => ⟨S16x4x512x128, .f32⟩
  | 113 => ⟨S16x128x4x512, .f32⟩
  | 114 => ⟨S1x128x4x1, .f32⟩
  | 115 => ⟨S16x128x4x512, .f32⟩
  | 116 => ⟨S16x128x4x512, .f32⟩
  | 117 => ⟨S1x4x1x1, .f32⟩
  | 118 => ⟨S16x4x256x512, .f32⟩
  | 119 => ⟨S16x4x256x512, .f32⟩
  | 120 => ⟨S128x4, .f32⟩
  | 121 => ⟨S1x128x4x1, .f32⟩
  | 122 => ⟨S16x128x4x256, .f32⟩
  | 123 => ⟨S16x128x4x256, .f32⟩
  | 124 => ⟨S16x4x256x512, .f32⟩
  | 125 => ⟨S16x4x256x512, .f32⟩
  | 126 => ⟨S16x128x4x512, .f32⟩
  | 127 => ⟨S1x16x128x4x512, .f32⟩
  | _ => ⟨S16x2048x1024, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S16x16x128x4x512, .f32⟩
  | 5 => ⟨S_, .i32⟩
  | 6 => ⟨S_, .i32⟩
  | 7 => ⟨S16x16x128x4x512, .f32⟩
  | 8 => ⟨S16x2048x4x512, .f32⟩
  | 9 => ⟨S_, .f32⟩
  | 10 => ⟨S16x2048x4, .f32⟩
  | 11 => ⟨S16x2048x4x1, .f32⟩
  | 12 => ⟨S_, .f32⟩
  | 13 => ⟨S16x2048x4x1, .f32⟩
  | 14 => ⟨S16x2048x4x1, .f32⟩
  | 15 => ⟨S16x2048x4x512, .f32⟩
  | 16 => ⟨S16x2048x4x512, .f32⟩
  | 17 => ⟨S16x2048x4x512, .f32⟩
  | 18 => ⟨S_, .f32⟩
  | 19 => ⟨S16x2048x4, .f32⟩
  | 20 => ⟨S16x2048x4x1, .f32⟩
  | 21 => ⟨S_, .f32⟩
  | 22 => ⟨S16x2048x4x1, .f32⟩
  | 23 => ⟨S16x2048x4x1, .f32⟩
  | 24 => ⟨S16x2048x4x512, .f32⟩
  | 25 => ⟨S16x2048x4x512, .f32⟩
  | 26 => ⟨S_, .f32⟩
  | 27 => ⟨S16x2048x4x1, .f32⟩
  | 28 => ⟨S16x2048x4x1, .f32⟩
  | 29 => ⟨S16x2048x4x1, .f32⟩
  | 30 => ⟨S16x2048x4x512, .f32⟩
  | 31 => ⟨S16x2048x4x512, .f32⟩
  | 32 => ⟨S16x2048x2048, .f32⟩
  | 33 => ⟨S16x2048x2048, .f32⟩
  | 34 => ⟨S16x2048x2048, .f32⟩
  | 35 => ⟨S16x2048x2048, .bf16⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_c : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_v58_3 : Ref sig .tc := ⟨.hbm, 79, rfl⟩
abbrev main_v58_4 : Ref sig .tc := ⟨.hbm, 80, rfl⟩
abbrev main_v58_5 : Ref sig .tc := ⟨.hbm, 81, rfl⟩
abbrev main_v58_6 : Ref sig .tc := ⟨.hbm, 82, rfl⟩
abbrev main_v58_7 : Ref sig .tc := ⟨.hbm, 83, rfl⟩
abbrev main_v58_8 : Ref sig .tc := ⟨.hbm, 84, rfl⟩
abbrev main_v58_9 : Ref sig .tc := ⟨.hbm, 85, rfl⟩
abbrev main_while0c_c_23 : Ref sig .tc := ⟨.hbm, 86, rfl⟩
abbrev main_while0c_v83 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v83 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v84 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v85 : Ref sig .tc := ⟨.hbm, 105, rfl⟩
abbrev main_while0b_v86 : Ref sig .tc := ⟨.hbm, 106, rfl⟩
abbrev main_while0b_v87 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v107 : Ref sig .tc := ⟨.hbm, 132, rfl⟩
abbrev main_while0b_c_23 : Ref sig .tc := ⟨.hbm, 133, rfl⟩
abbrev main_while0b_v108 : Ref sig .tc := ⟨.hbm, 134, rfl⟩
abbrev main_v59 : Ref sig .tc := ⟨.hbm, 135, rfl⟩
abbrev main_v60 : Ref sig .tc := ⟨.hbm, 136, rfl⟩
abbrev main_cst_9 : Ref sig .tc := ⟨.hbm, 137, rfl⟩
abbrev main_v61 : Ref sig .tc := ⟨.hbm, 138, rfl⟩
abbrev main_v62 : Ref sig .tc := ⟨.hbm, 139, rfl⟩
abbrev main_cst_10 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_11 : Ref sig .tc := ⟨.hbm, 146, rfl⟩
abbrev main_v68 : Ref sig .tc := ⟨.hbm, 147, rfl⟩
abbrev main_v69 : Ref sig .tc := ⟨.hbm, 148, rfl⟩
abbrev main_cst_12 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_cst_13 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩

abbrev nD : Nat := 1
abbrev τ : Topo := Topo.v7x

variable {F : FTy → Type} [FloatOps F]

abbrev main_while0_count : Scf.Loop 32 := ⟨0#32, 16#32, 1#32⟩
-- ==== Out.lean ====
abbrev S16x2048x2048 : Shape := ⟨3, ![16, 2048, 2048]⟩
abbrev S32768x1024 : Shape := ⟨2, ![32768, 1024]⟩
abbrev S2x16x2048x256 : Shape := ⟨4, ![2, 16, 2048, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S2x32768x256 : Shape := ⟨3, ![2, 32768, 256]⟩
abbrev S32768x2048 : Shape := ⟨2, ![32768, 2048]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1024x2048 : Shape := ⟨2, ![1024, 2048]⟩
abbrev S1x1024x256 : Shape := ⟨3, ![1, 1024, 256]⟩
abbrev S256x2048 : Shape := ⟨2, ![256, 2048]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 23
  | .vmem => 13
  | .smem => 0
  | _ => 0

abbrev bufTy : (tb : Table) → Fin (tcTables nBuf tb) → BufTy
  | .hbm, ⟨0, _⟩ => ⟨S16x2048x2048, .bf16⟩
  | .hbm, ⟨1, _⟩ => ⟨S32768x1024, .f32⟩
  | .hbm, ⟨2, _⟩ => ⟨S2x16x2048x256, .f32⟩
  | .hbm, ⟨3, _⟩ => ⟨S1x2048x1024, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S1024, .f32⟩
  | .hbm, ⟨8, _⟩ => ⟨S2x32768x256, .f32⟩
  | .hbm, ⟨9, _⟩ => ⟨S32768x2048, .bf16⟩
  | .hbm, ⟨10, _⟩ => ⟨S2048x1024, .f32⟩
  | .hbm, ⟨11, _⟩ => ⟨S2048x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024x1024, .f32⟩
  | .hbm, ⟨16, _⟩ => ⟨S1024x1024, .f32⟩
  | .hbm, ⟨17, _⟩ => ⟨S1024x1024, .bf16⟩
  | .hbm, ⟨18, _⟩ => ⟨S1x256x1024, .f32⟩
  | .hbm, ⟨19, _⟩ => ⟨S256x1024, .f32⟩
  | .hbm, ⟨20, _⟩ => ⟨S256x1024, .bf16⟩
  | .hbm, ⟨21, _⟩ => ⟨S1x1024, .f32⟩
  | .hbm, ⟨22, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1x1024x256, .f32⟩
  | .local _ .vmem, ⟨5, _⟩ => ⟨S1x1024x256, .f32⟩
  | .local _ .vmem, ⟨6, _⟩ => ⟨S2048x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S16x2048x2048 : Shape := ⟨3, ![16, 2048, 2048]⟩
abbrev S32768x1024 : Shape := ⟨2, ![32768, 1024]⟩
abbrev S2x16x2048x256 : Shape := ⟨4, ![2, 16, 2048, 256]⟩
abbrev S1x2048x1024 : Shape := ⟨3, ![1, 2048, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S16x2048x1024 : Shape := ⟨3, ![16, 2048, 1024]⟩
abbrev S2048x1024 : Shape := ⟨2, ![2048, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x16x2048x256 : Shape := ⟨4, ![1, 16, 2048, 256]⟩
abbrev S16x2048x256 : Shape := ⟨3, ![16, 2048, 256]⟩
abbrev S1x256x1024 : Shape := ⟨3, ![1, 256, 1024]⟩
abbrev S256x1024 : Shape := ⟨2, ![256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S32768x1024, .f32⟩
  | .hbm, ⟨2, _⟩ => ⟨S2x16x2048x256, .f32⟩
  | .hbm, ⟨3, _⟩ => ⟨S1x2048x1024, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S1024, .f32⟩
  | .hbm, ⟨8, _⟩ => ⟨S16x2048x1024, .f32⟩
  | .hbm, ⟨9, _⟩ => ⟨S16x2048x2048, .f32⟩
  | .hbm, ⟨10, _⟩ => ⟨S2048x1024, .f32⟩
  | .hbm, ⟨11, _⟩ => ⟨S16x2048x1024, .f32⟩
  | .hbm, ⟨12, _⟩ => ⟨S16x2048x1024, .f32⟩
  | .hbm, ⟨13, _⟩ => ⟨S1x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S1x1024x1024, .f32⟩
  | .hbm, ⟨32, _⟩ => ⟨S1024x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S1x16x2048x256, .f32⟩
  | .hbm, ⟨43, _⟩ => ⟨S16x2048x256, .f32⟩
  | .hbm, ⟨44, _⟩ => ⟨S1x256x1024, .f32⟩
  | .hbm, ⟨45, _⟩ => ⟨S256x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x1024, .f32⟩
  | .hbm, ⟨61, _⟩ => ⟨S16x2048x1024, .f32⟩
  | .hbm, ⟨62, _⟩ => ⟨S1x1x1024, .f32⟩
  | .hbm, ⟨63, _⟩ => ⟨S16x2048x1024, .f32⟩
  | .hbm, ⟨64, _⟩ => ⟨S16x2048x1024, .f32⟩
  | .hbm, ⟨65, _⟩ => ⟨S32768x1024, .f32⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Mid.lean ====
abbrev S16x2048x1024 : Shape := ⟨3, ![16, 2048, 1024]⟩
abbrev S2x16x2048x256 : Shape := ⟨4, ![2, 16, 2048, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x6144 : Shape := ⟨3, ![1, 1024, 6144]⟩
abbrev S32768x1024 : Shape := ⟨2, ![32768, 1024]⟩
abbrev S2x32768x256 : Shape := ⟨3, ![2, 32768, 256]⟩
abbrev S1024x6144 : Shape := ⟨2, ![1024, 6144]⟩
abbrev S1024x1024 : Shape := ⟨2, ![1024, 1024]⟩
abbrev S1024x2048 : Shape := ⟨2, ![1024, 2048]⟩
abbrev S_ : Shape := ⟨0, ![]⟩
abbrev S127 : Shape := ⟨1, ![127]⟩
abbrev S1 : Shape := ⟨1, ![1]⟩
abbrev S128 : Shape := ⟨1, ![128]⟩
abbrev S2048 : Shape := ⟨1, ![2048]⟩
abbrev S2048x1 : Shape := ⟨2, ![2048, 1]⟩
abbrev S128x2 : Shape := ⟨2, ![128, 2]⟩
abbrev S256 : Shape := ⟨1, ![256]⟩
abbrev S1x256 : Shape := ⟨2, ![1, 256]⟩
abbrev S2048x256 : Shape := ⟨2, ![2048, 256]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S32768x2048 : Shape := ⟨2, ![32768, 2048]⟩
abbrev S512x1024 : Shape := ⟨2, ![512, 1024]⟩
abbrev S1x512x256 : Shape := ⟨3, ![1, 512, 256]⟩
abbrev S512x256 : Shape := ⟨2, ![512, 256]⟩
abbrev S512x2048 : Shape := ⟨2, ![512, 2048]⟩
abbrev S256x1 : Shape := ⟨2, ![256, 1]⟩
abbrev S1x256x256 : Shape := ⟨3, ![1, 256, 256]⟩
abbrev S256x256 : Shape := ⟨2, ![256, 256]⟩
abbrev S256x128 : Shape := ⟨2, ![256, 128]⟩
abbrev S256x2048 : Shape := ⟨2, ![256, 2048]⟩

abbrev nBuf : Space → Nat
  | .hbm => 115
  | .vmem => 31
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x16x2048x256, .f32⟩
  | .hbm, ⟨3, _⟩ => ⟨S1x1024x1024, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S2x1024, .f32⟩
  | .hbm, ⟨8, _⟩ => ⟨S1x1024x6144, .f32⟩
  | .hbm, ⟨9, _⟩ => ⟨S32768x1024, .f32⟩
  | .hbm, ⟨10, _⟩ => ⟨S2x32768x256, .f32⟩
  | .hbm, ⟨11, _⟩ => ⟨S1024x6144, .f32⟩
  | .hbm, ⟨12, _⟩ => ⟨S1024x6144, .bf16⟩
  | .hbm, ⟨13, _⟩ => ⟨S1024x1024, .bf16⟩
  | .hbm, ⟨14, _⟩ => ⟨S1024x1024, .bf16⟩
  | .hbm, ⟨15, _⟩ => ⟨S1024x2048, .bf16⟩
  | .hbm, ⟨16, _⟩ => ⟨S1024x2048, .bf16⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S127, .f32⟩
  | .hbm, ⟨25, _⟩ => ⟨S_, .f32⟩
  | .hbm, ⟨26, _⟩ => ⟨S127, .f32⟩
  | .hbm, ⟨27, _⟩ => ⟨S127, .f32⟩
  | .hbm, ⟨28, _⟩ => ⟨S1, .f32⟩
  | .hbm, ⟨29, _⟩ => ⟨S_, .f32⟩
  | .hbm, ⟨30, _⟩ => ⟨S127, .f32⟩
  | .hbm, ⟨31, _⟩ => ⟨S127, .f32⟩
  | .hbm, ⟨32, _⟩ => ⟨S127, .f32⟩
  | .hbm, ⟨33, _⟩ => ⟨S127, .f32⟩
  | .hbm, ⟨34, _⟩ => ⟨S1, .f32⟩
  | .hbm, ⟨35, _⟩ => ⟨S127, .f32⟩
  | .hbm, ⟨36, _⟩ => ⟨S127, .f32⟩
  | .hbm, ⟨37, _⟩ => ⟨S127, .f32⟩
  | .hbm, ⟨38, _⟩ => ⟨S1, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S2048, .f32⟩
  | .hbm, ⟨47, _⟩ => ⟨S2048x1, .f32⟩
  | .hbm, ⟨48, _⟩ => ⟨S128x2, .f32⟩
  | .hbm, ⟨49, _⟩ => ⟨S256, .f32⟩
  | .hbm, ⟨50, _⟩ => ⟨S1x256, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S256, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i1⟩
  | .hbm, ⟨69, _⟩ => ⟨S_, .i32⟩
  | .hbm, ⟨70, _⟩ => ⟨S_, .i1⟩
  | .hbm, ⟨71, _⟩ => ⟨S256, .i1⟩
  | .hbm, ⟨72, _⟩ => ⟨S256, .i1⟩
  | .hbm, ⟨73, _⟩ => ⟨S256, .i1⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S_, .i32⟩
  | .hbm, ⟨78, _⟩ => ⟨S256, .i32⟩
  | .hbm, ⟨79, _⟩ => ⟨S256, .i1⟩
  | .hbm, ⟨80, _⟩ => ⟨S1x256, .i1⟩
  | .hbm, ⟨81, _⟩ => ⟨S2048x256, .f32⟩
  | .hbm, ⟨82, _⟩ => ⟨S2048x256, .f32⟩
  | .hbm, ⟨83, _⟩ => ⟨S2048x256, .f32⟩
  | .hbm, ⟨84, _⟩ => ⟨S_, .f32⟩
  | .hbm, ⟨85, _⟩ => ⟨S_, .f32⟩
  | .hbm, ⟨86, _⟩ => ⟨S2048x256, .i1⟩
  | .hbm, ⟨87, _⟩ => ⟨S2048x256, .f32⟩
  | .hbm, ⟨88, _⟩ => ⟨S2048x256, .f32⟩
  | .hbm, ⟨89, _⟩ => ⟨S2048x256, .f32⟩
  | .hbm, ⟨90, _⟩ => ⟨S_, .f32⟩
  | .hbm, ⟨91, _⟩ => ⟨S_, .f32⟩
  | .hbm, ⟨92, _⟩ => ⟨S2048x256, .i1⟩
  | .hbm, ⟨93, _⟩ => ⟨S2048x256, .f32⟩
  | .hbm, ⟨94, _⟩ => ⟨S2048x256, .f32⟩
  | .hbm, ⟨95, _⟩ => ⟨S32768x1024, .bf16⟩
  | .hbm, ⟨96, _⟩ => ⟨S1024x1024, .f32⟩
  | .hbm, ⟨97, _⟩ => ⟨S1024x1024, .bf16⟩
  | .hbm, ⟨98, _⟩ => ⟨S1x1024, .f32⟩
  | .hbm, ⟨99, _⟩ => ⟨S1024, .f32⟩
  | .hbm, ⟨100, _⟩ => ⟨S1x1024, .f32⟩
  | .hbm, ⟨101, _⟩ => ⟨S1x1024x1024, .f32⟩
  | .hbm, ⟨102, _⟩ => ⟨S1024x1024, .f32⟩
  | .hbm, ⟨103, _⟩ => ⟨S1024x1024, .bf16⟩
  | .hbm, ⟨104, _⟩ => ⟨S1x256x1024, .f32⟩
  | .hbm, ⟨105, _⟩ => ⟨S256x1024, .f32⟩
  | .hbm, ⟨106, _⟩ => ⟨S256x1024, .bf16⟩
  | .hbm, ⟨107, _⟩ => ⟨S1x1024, .f32⟩
  | .hbm, ⟨108, _⟩ => ⟨S1024, .f32⟩
  | .hbm, ⟨109, _⟩ => ⟨S1x1024, .f32⟩
  | .hbm, ⟨110, _⟩ => ⟨S32768x1024, .f32⟩
  | .hbm, ⟨111, _⟩ => ⟨S32768x1024, .bf16⟩
  | .hbm, ⟨112, _⟩ => ⟨S32768x1024, .bf16⟩
  | .hbm, ⟨113, _⟩ => ⟨S32768x2048, .bf16⟩
  | .hbm, ⟨114, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_cst : Ref sig .tc := ⟨.hbm, 22, rfl⟩
abbrev main_call0_v3 : Ref sig .tc := ⟨.hbm, 23, rfl⟩
abbrev main_call0_v4 : Ref sig .tc := ⟨.hbm, 24, rfl⟩
abbrev main_call0_cst_0 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v22 : Ref sig .tc := ⟨.hbm, 76, rfl⟩
abbrev main_c_3 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_4 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v29 : Ref sig .tc := ⟨.hbm, 88, rfl⟩
abbrev main_v30 : Ref sig .tc := ⟨.hbm, 89, rfl⟩
abbrev main_cst_5 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47_0 : Ref sig .tc := ⟨.hbm, 110, rfl⟩
abbrev main_v47_1 : Ref sig .tc := ⟨.hbm, 111, rfl⟩
abbrev main_v47_2 : Ref sig .tc := ⟨.hbm, 112, rfl⟩
abbrev main_v47_3 : Ref sig .tc := ⟨.hbm, 113, rfl⟩
abbrev main_v47_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MidRefIdeal.lean ====
abbrev S16x2048x1024 : Shape := ⟨3, ![16, 2048, 1024]⟩
abbrev S2x16x2048x256 : Shape := ⟨4, ![2, 16, 2048, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x6144 : Shape := ⟨3, ![1, 1024, 6144]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x16x2048x256 : Shape := ⟨4, ![1, 16, 2048, 256]⟩
abbrev S16x2048x256 : Shape := ⟨3, ![16, 2048, 256]⟩
abbrev S1x256x1024 : Shape := ⟨3, ![1, 256, 1024]⟩
abbrev S256x1024 : Shape := ⟨2, ![256, 1024]⟩
abbrev S1024x6144 : Shape := ⟨2, ![1024, 6144]⟩
abbrev S16x2048x6144 : Shape := ⟨3, ![16, 2048, 6144]⟩
abbrev S16x2048x2048 : Shape := ⟨3, ![16, 2048, 2048]⟩
abbrev S16x2048x4x256 : Shape := ⟨4, ![16, 2048, 4, 256]⟩
abbrev S2048 : Shape := ⟨1, ![2048]⟩
abbrev S127 : Shape := ⟨1, ![127]⟩
abbrev S1 : Shape := ⟨1, ![1]⟩
abbrev S128 : Shape := ⟨1, ![128]⟩
abbrev S128x2 : Shape := ⟨2, ![128, 2]⟩
abbrev S256 : Shape := ⟨1, ![256]⟩
abbrev S2048x1 : Shape := ⟨2, ![2048, 1]⟩
abbrev S1x256 : Shape := ⟨2, ![1, 256]⟩
abbrev S2048x256 : Shape := ⟨2, ![2048, 256]⟩
abbrev S1x2048x1x256 : Shape := ⟨4, ![1, 2048, 1, 256]⟩
abbrev S16x2048x4x128 : Shape := ⟨4, ![16, 2048, 4, 128]⟩
abbrev S16x2048x4x128x1 : Shape := ⟨5, ![16, 2048, 4, 128, 1]⟩
abbrev S16x2048x4x128x2 : Shape := ⟨5, ![16, 2048, 4, 128, 2]⟩
abbrev S32768x1024 : Shape := ⟨2, ![32768, 1024]⟩
abbrev S32768x2048 : Shape := ⟨2, ![32768, 2048]⟩

abbrev nBuf : Space → Nat
  | .hbm => 161
  | .vmem => 0
  | .smem => 0
  | _ => 0

abbrev hbmTy0_0 (i : Nat) : BufTy := match i % 128 with
  | 0 => ⟨S16x2048x1024, .bf16⟩
  | 1 => ⟨S16x2048x1024, .f32⟩
  | 2 => ⟨S2x16x2048x256, .f32⟩
  | 3 => ⟨S1x1024x1024, .f32⟩
  | 4 => ⟨S2x1024, .f32⟩
  | 5 => ⟨S2x1024x1024, .f32⟩
  | 6 => ⟨S2x256x1024, .f32⟩
  | 7 => ⟨S2x1024, .f32⟩
  | 8 => ⟨S1x1024x6144, .f32⟩
  | 9 => ⟨S16x2048x1024, .f32⟩
  | 10 => ⟨S1024x1024, .f32⟩
  | 11 => ⟨S16x2048x1024, .f32⟩
  | 12 => ⟨S16x2048x1024, .f32⟩
  | 13 => ⟨S1x1024, .f32⟩
  | 14 => ⟨S1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S1x1024x1024, .f32⟩
  | 32 => ⟨S1024x1024, .f32⟩
  | 33 => ⟨S16x2048x1024, .f32⟩
  | 34 => ⟨S16x2048x1024, .f32⟩
  | 35 => ⟨S16x2048x1024, .f32⟩
  | 36 => ⟨S_, .f32⟩
  | 37 => ⟨S16x2048x1024, .f32⟩
  | 38 => ⟨S16x2048x1024, .f32⟩
  | 39 => ⟨S_, .f32⟩
  | 40 => ⟨S16x2048x1024, .f32⟩
  | 41 => ⟨S16x2048x1024, .f32⟩
  | 42 => ⟨S1x16x2048x256, .f32⟩
  | 43 => ⟨S16x2048x256, .f32⟩
  | 44 => ⟨S1x256x1024, .f32⟩
  | 45 => ⟨S256x1024, .f32⟩
  | 46 => ⟨S16x2048x1024, .f32⟩
  | 47 => ⟨S16x2048x1024, .f32⟩
  | 48 => ⟨S16x2048x1024, .f32⟩
  | 49 => ⟨S1x1024, .f32⟩
  | 50 => ⟨S1024, .f32⟩
  | 51 => ⟨S16x2048x1024, .f32⟩
  | 52 => ⟨S_, .f32⟩
  | 53 => ⟨S16x2048, .f32⟩
  | 54 => ⟨S16x2048x1, .f32⟩
  | 55 => ⟨S_, .f32⟩
  | 56 => ⟨S16x2048x1, .f32⟩
  | 57 => ⟨S16x2048x1, .f32⟩
  | 58 => ⟨S_, .f32⟩
  | 59 => ⟨S16x2048x1, .f32⟩
  | 60 => ⟨S16x2048x1, .f32⟩
  | 61 => ⟨S16x2048x1, .f32⟩
  | 62 => ⟨S16x2048x1024, .f32⟩
  | 63 => ⟨S16x2048x1024, .f32⟩
  | 64 => ⟨S1x1x1024, .f32⟩
  | 65 => ⟨S16x2048x1024, .f32⟩
  | 66 => ⟨S16x2048x1024, .f32⟩
  | 67 => ⟨S1024x6144, .f32⟩
  | 68 => ⟨S16x2048x6144, .f32⟩
  | 69 => ⟨S16x2048x1024, .f32⟩
  | 70 => ⟨S16x2048x1024, .f32⟩
  | 71 => ⟨S16x2048x2048, .f32⟩
  | 72 => ⟨S16x2048x2048, .f32⟩
  | 73 => ⟨S16x2048x4x256, .f32⟩
  | 74 => ⟨S16x2048x4x256, .f32⟩
  | 75 => ⟨S_, .f32⟩
  | 76 => ⟨S16x2048x4x256, .f32⟩
  | 77 => ⟨S16x2048x4x256, .f32⟩
  | 78 => ⟨S2048, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S127, .f32⟩
  | 87 => ⟨S_, .f32⟩
  | 88 => ⟨S127, .f32⟩
  | 89 => ⟨S127, .f32⟩
  | 90 => ⟨S1, .f32⟩
  | 91 => ⟨S_, .f32⟩
  | 92 => ⟨S127, .f32⟩
  | 93 => ⟨S127, .f32⟩
  | 94 => ⟨S127, .f32⟩
  | 95 => ⟨S127, .f32⟩
  | 96 => ⟨S1, .f32⟩
  | 97 => ⟨S127, .f32⟩
  | 98 => ⟨S127, .f32⟩
  | 99 => ⟨S127, .f32⟩
  | 100 => ⟨S1, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S128, .f32⟩
  | 108 => ⟨S128x2, .f32⟩
  | 109 => ⟨S256, .f32⟩
  | 110 => ⟨S2048x1, .f32⟩
  | 111 => ⟨S1x256, .f32⟩
  | 112 => ⟨S2048x256, .f32⟩
  | 113 => ⟨S2048x256, .f32⟩
  | 114 => ⟨S2048x256, .f32⟩
  | 115 => ⟨S2048x256, .f32⟩
  | 116 => ⟨S1x2048x1x256, .f32⟩
  | 117 => ⟨S2048x256, .f32⟩
  | 118 => ⟨S1x2048x1x256, .f32⟩
  | 119 => ⟨S16x2048x4x256, .f32⟩
  | 120 => ⟨S16x2048x4x256, .f32⟩
  | 121 => ⟨S16x2048x4x128, .f32⟩
  | 122 => ⟨S16x2048x4x128, .f32⟩
  | 123 => ⟨S16x2048x4x128, .f32⟩
  | 124 => ⟨S16x2048x4x128x1, .f32⟩
  | 125 => ⟨S16x2048x4x128x1, .f32⟩
  | 126 => ⟨S16x2048x4x128x2, .f32⟩
  | 127 => ⟨S16x2048x4x256, .f32⟩
  | _ => ⟨S16x2048x1024, .bf16⟩

abbrev hbmTy0_1 (i : Nat) : BufTy := match i % 128 with
  | 0 => ⟨S16x2048x4x256, .f32⟩
  | 1 => ⟨S16x2048x4x256, .f32⟩
  | 2 => ⟨S16x2048x4x256, .f32⟩
  | 3 => ⟨S16x2048x4x256, .f32⟩
  | 4 => ⟨S16x2048x4x256, .f32⟩
  | 5 => ⟨S16x2048x4x128, .f32⟩
  | 6 => ⟨S16x2048x4x128, .f32⟩
  | 7 => ⟨S16x2048x4x128, .f32⟩
  | 8 => ⟨S16x2048x4x128x1, .f32⟩
  | 9 => ⟨S16x2048x4x128x1, .f32⟩
  | 10 => ⟨S16x2048x4x128x2, .f32⟩
  | 11 => ⟨S16x2048x4x256, .f32⟩
  | 12 => ⟨S16x2048x4x256, .f32⟩
  | 13 => ⟨S16x2048x4x256, .f32⟩
  | 14 => ⟨S16x2048x4x256, .f32⟩
  | 15 => ⟨S16x2048x2048, .f32⟩
  | 16 => ⟨S16x2048x2048, .f32⟩
  | 17 => ⟨S_, .f32⟩
  | 18 => ⟨S16x2048x2048, .f32⟩
  | 19 => ⟨S16x2048x2048, .f32⟩
  | 20 => ⟨S_, .f32⟩
  | 21 => ⟨S16x2048x2048, .f32⟩
  | 22 => ⟨S16x2048x2048, .f32⟩
  | 23 => ⟨S16x2048x2048, .f32⟩
  | 24 => ⟨S32768x1024, .f32⟩
  | 25 => ⟨S32768x1024, .f32⟩
  | 26 => ⟨S32768x1024, .bf16⟩
  | 27 => ⟨S32768x1024, .f32⟩
  | 28 => ⟨S32768x1024, .bf16⟩
  | 29 => ⟨S32768x2048, .f32⟩
  | 30 => ⟨S32768x2048, .bf16⟩
  | 31 => ⟨S32768x2048, .f32⟩
  | 32 => ⟨S32768x2048, .bf16⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_cst_9 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_cst : Ref sig .tc := ⟨.hbm, 84, rfl⟩
abbrev main_call0_v3 : Ref sig .tc := ⟨.hbm, 85, rfl⟩
abbrev main_call0_v4 : Ref sig .tc := ⟨.hbm, 86, rfl⟩
abbrev main_call0_cst_0 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_v14 : Ref sig .tc := ⟨.hbm, 98, rfl⟩
abbrev main_call0_v15 : Ref sig .tc := ⟨.hbm, 99, rfl⟩
abbrev main_call0_v16 : Ref sig .tc := ⟨.hbm, 100, rfl⟩
abbrev main_v61 : Ref sig .tc := ⟨.hbm, 101, rfl⟩
abbrev main_cst_10 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_call1_v5 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩

abbrev nD : Nat := 1
abbrev τ : Topo := Topo.v7x

variable {F : FTy → Type} [FloatOps F]
-- ==== Proof.Rows.lean ====
/-
  The functions of one token's row that the two row-wise calls compute, over the extended reals: a matrix product of a
  row, the root-mean-square norm of a row, the logistic gate, and the residual stream after a mixer's output projection
  and the per-layer embedding. They name no program.
-/
module

public import Idealize.ShloMosaic.Lib.Pointwise

@[expose] public section

noncomputable section

namespace Cert.Rows

open Idealize.ShloMosaic

/-- A row times a matrix, read at column `j`. -/
def dotRow {K N : ℕ} (x : Fin K → EReal) (w : Fin K → Fin N → EReal) (j : Fin N) : EReal := ∑ k, x k * w k j

/-- The root-mean-square norm of a row of 1024, with gain `g`, read at column `j`. -/
def rmsRow (x g : Fin 1024 → EReal) (j : Fin 1024) : EReal :=
  x j * Ideal.rsqrt (Ideal.div (∑ k, x k * x k) (Ideal.ofBits .f32 0x44800000#32) + Ideal.ofBits .f32 0x358637BD#32) * g j

/-- The logistic function. -/
def sigm (x : EReal) : EReal := Ideal.div 1 (1 + Ideal.exp (-x))

/-- The residual stream after a mixer's output row `og` is projected by `wo` and added to `h`. -/
def resRow {K : ℕ} (og : Fin K → EReal) (h : Fin 1024 → EReal) (wo : Fin K → Fin 1024 → EReal) (j : Fin 1024) : EReal :=
  h j + dotRow og wo j

/-- The per-layer embedding row `p` added to the stream `h` through its gate. -/
def pleRow (h : Fin 1024 → EReal) (p : Fin 256 → EReal) (g : Fin 1024 → EReal) (wg : Fin 1024 → Fin 1024 → EReal)
    (wp : Fin 256 → Fin 1024 → EReal) (j : Fin 1024) : EReal :=
  h j + dotRow p wp j * sigm (dotRow (rmsRow h g) wg j)

/-- The last call's row: output projection, residual, per-layer embedding, final norm. -/
def outRow (og : Fin 2048 → EReal) (h : Fin 1024 → EReal) (p : Fin 256 → EReal) (wo : Fin 2048 → Fin 1024 → EReal)
    (g : Fin 1024 → EReal) (wg : Fin 1024 → Fin 1024 → EReal) (wp : Fin 256 → Fin 1024 → EReal) (gf : Fin 1024 → EReal)
    (j : Fin 1024) : EReal :=
  rmsRow (pleRow (resRow og h wo) p g wg wp) gf j

/-- The sequence a token row of the flattened batch belongs to. -/
abbrev tb (r : Fin 32768) : Fin 16 := ⟨r.val / 2048, by omega⟩
/-- The position of a token row in its sequence. -/
abbrev tl (r : Fin 32768) : Fin 2048 := ⟨r.val % 2048, by omega⟩

/-- The last call's result as a function of the argument arrays: every token's row is `outRow` of the arrays' rows. -/
def outSpec (og : FVec Ideal ⟨3, ![16, 2048, 2048]⟩ .bf16) (h : FVec Ideal ⟨2, ![32768, 1024]⟩ .f32)
    (p : FVec Ideal ⟨4, ![2, 16, 2048, 256]⟩ .f32) (wo : FVec Ideal ⟨3, ![1, 2048, 1024]⟩ .f32)
    (g : FVec Ideal ⟨2, ![2, 1024]⟩ .f32) (wg : FVec Ideal ⟨3, ![2, 1024, 1024]⟩ .f32)
    (wp : FVec Ideal ⟨3, ![2, 256, 1024]⟩ .f32) (gf : FVec Ideal ⟨1, ![1024]⟩ .f32) :
    FVec Ideal ⟨2, ![32768, 1024]⟩ .f32 := fun i =>
  let r : Fin 32768 := i 0
  outRow (fun k => og (ix3 (tb r) (tl r) k)) (fun k => h (ix2 r k)) (fun k => p (ix4 1 (tb r) (tl r) k))
    (fun k j => wo (ix3 0 k j)) (fun k => g (ix2 1 k)) (fun k j => wg (ix3 1 k j)) (fun k j => wp (ix3 1 k j))
    (fun k => gf (ix1 k)) (i 1)

/-- The other column of a column's rotary pair: columns `2i` and `2i + 1` are rotated into one another. -/
def pair (j : Fin 1024) : Fin 1024 := if h : j.val % 2 = 0 then ⟨j.val + 1, by omega⟩ else ⟨j.val - 1, by omega⟩

/-- A column's place in its head of 256. -/
abbrev hd (j : Fin 1024) : Fin 256 := ⟨j.val % 256, by omega⟩

/-- The rotary embedding of a row of four heads of 256: column `2i` takes `z (2i) cos - z (2i+1) sin`, column `2i+1`
    takes `z (2i+1) cos + z (2i) sin`, the angles those of the column's place in its head. -/
def rotRow (z : Fin 1024 → EReal) (cs sn : Fin 256 → EReal) (j : Fin 1024) : EReal :=
  z j * cs (hd j) + (if j.val % 2 = 0 then -z (pair j) else z (pair j)) * sn (hd j)

section Mid

variable (og : FVec Ideal ⟨3, ![16, 2048, 1024]⟩ .bf16) (x : FVec Ideal ⟨3, ![16, 2048, 1024]⟩ .f32)
  (p : FVec Ideal ⟨4, ![2, 16, 2048, 256]⟩ .f32) (wo : FVec Ideal ⟨3, ![1, 1024, 1024]⟩ .f32)
  (g : FVec Ideal ⟨2, ![2, 1024]⟩ .f32) (wg : FVec Ideal ⟨3, ![2, 1024, 1024]⟩ .f32)
  (wp : FVec Ideal ⟨3, ![2, 256, 1024]⟩ .f32) (gp : FVec Ideal ⟨2, ![2, 1024]⟩ .f32)
  (wi : FVec Ideal ⟨3, ![1, 1024, 6144]⟩ .f32) (cs sn : FVec Ideal ⟨2, ![2048, 256]⟩ .f32)

/-- The residual stream's row between the two layers, of token `r`. -/
def midRow (r : Fin 32768) : Fin 1024 → EReal :=
  pleRow (resRow (fun k => og (ix3 (tb r) (tl r) k)) (fun k => x (ix3 (tb r) (tl r) k)) (fun k j => wo (ix3 0 k j)))
    (fun k => p (ix4 0 (tb r) (tl r) k)) (fun k => g (ix2 0 k)) (fun k j => wg (ix3 0 k j)) (fun k j => wp (ix3 0 k j))

/-- The second layer's normed input row, of token `r`. -/
def normRow (r : Fin 32768) : Fin 1024 → EReal :=
  rmsRow (midRow og x p wo g wg wp r) (fun k => gp (ix2 1 k))

/-- The residual stream between the two layers. -/
def hSpec : FVec Ideal ⟨2, ![32768, 1024]⟩ .f32 := fun i => midRow og x p wo g wg wp (i 0) (i 1)

/-- The rotated queries. -/
def qSpec : FVec Ideal ⟨2, ![32768, 1024]⟩ .bf16 := fun i =>
  rotRow (dotRow (normRow og x p wo g wg wp gp (i 0)) fun k (j : Fin 1024) => wi (ix3 0 k ⟨j.val, by omega⟩))
    (fun d => cs (ix2 (tl (i 0)) d)) (fun d => sn (ix2 (tl (i 0)) d)) (i 1)

/-- The rotated keys, scaled before the rotation. -/
def kSpec : FVec Ideal ⟨2, ![32768, 1024]⟩ .bf16 := fun i =>
  rotRow (fun j => dotRow (normRow og x p wo g wg wp gp (i 0)) (fun k (j : Fin 1024) => wi (ix3 0 k ⟨1024 + j.val, by omega⟩)) j
      * Ideal.ofBits .f32 0x3D800000#32)
    (fun d => cs (ix2 (tl (i 0)) d)) (fun d => sn (ix2 (tl (i 0)) d)) (i 1)

/-- The values. -/
def vSpec : FVec Ideal ⟨2, ![32768, 2048]⟩ .bf16 := fun i =>
  dotRow (normRow og x p wo g wg wp gp (i 0)) (fun k (j : Fin 2048) => wi (ix3 0 k ⟨2048 + j.val, by omega⟩)) (i 1)

/-- The output gate, `z` times its logistic. -/
def sgSpec : FVec Ideal ⟨2, ![32768, 2048]⟩ .bf16 := fun i =>
  let z := dotRow (normRow og x p wo g wg wp gp (i 0)) (fun k (j : Fin 2048) => wi (ix3 0 k ⟨4096 + j.val, by omega⟩)) (i 1)
  z * sigm z

end Mid

end Cert.Rows

end
-- ==== Proof.RetTiles.lean ====
/-
  The retention call at one grid point: what its chunks leave in the state and in the output, read at an index.
-/
module

public import proofs.«01_k».proof.Proof.Rows
public import proofs.«01_k».proof.Proof.Gen.RetIdeal.Frame
public import Idealize.ShloMosaic.Lib.Pipeline.ValueKit
public import Idealize.ShloMosaic.Lib.Pipeline.ReadBack
public import Idealize.ShloMosaic.Lib.WholeRead

@[expose] public section

set_option maxRecDepth 16384

noncomputable section

namespace Cert.RetIdeal.Hand

open Cert.RetIdeal Cert.RetIdeal.Gen Idealize.ShloMosaic Idealize.ShloMosaic.TcCoe Cert.Rows

/-- One head's state after a chunk, from the chunk's keys and values, the key weights, the state before and the decay. -/
abbrev upd (k : Vec Ideal S1x128x256 .bf16) (v : Vec Ideal S1x128x512 .bf16) (z : Vec Ideal S1x128x256 .f32)
    (s : Vec Ideal S1x256x512 .f32) (d : Vec Ideal S1x1x512 .f32) : FVec Ideal S1x256x512 .f32 :=
  k0_pay27 (k0_pay11 v) (k0_pay24 (k0_pay7 k) z) s d

/-- One head's output of a chunk before the norm: the masked products within the chunk, and the state before it. -/
abbrev mix (q k : Vec Ideal S1x128x256 .bf16) (v : Vec Ideal S1x128x512 .bf16) (m : Vec Ideal S1x128x128 .f32)
    (x : Vec Ideal S1x128x512 .f32) (s : Vec Ideal S1x256x512 .f32) : FVec Ideal S128x512 .f32 :=
  k0_pay20 (k0_pay11 v) (k0_pay15 (k0_pay3 q) (k0_pay7 k) m) (k0_pay19 (k0_pay3 q) s x)

/-- One head's output of a chunk: the mix, normalised along its row, times the gate. -/
abbrev outp (q k : Vec Ideal S1x128x256 .bf16) (v g : Vec Ideal S1x128x512 .bf16) (m : Vec Ideal S1x128x128 .f32)
    (x : Vec Ideal S1x128x512 .f32) (s : Vec Ideal S1x256x512 .f32) : FVec Ideal S1x128x512 .bf16 :=
  k0_pay34 (k0_pay33 (mix q k v m x s)) g

/-- A row less its mean, over the root of its mean square plus 1e-6. -/
def normRow (o : Fin 512 → EReal) (v : Fin 512) : EReal :=
  (o v - Ideal.div (∑ w, o w) (Ideal.ofBits .f32 0x44000000#32))
    * Ideal.rsqrt (Ideal.div (∑ u, (o u - Ideal.div (∑ w, o w) (Ideal.ofBits .f32 0x44000000#32)) * (o u - Ideal.div (∑ w, o w) (Ideal.ofBits .f32 0x44000000#32)))
        (Ideal.ofBits .f32 0x44000000#32) + Ideal.ofBits .f32 0x358637BD#32)

set_option maxHeartbeats 1000000 in
/-- The state after a chunk, at an index. -/
theorem upd_apply (k : Vec Ideal S1x128x256 .bf16) (v : Vec Ideal S1x128x512 .bf16) (z : Vec Ideal S1x128x256 .f32)
    (s : Vec Ideal S1x256x512 .f32) (d : Vec Ideal S1x1x512 .f32) (a : Fin 256) (b : Fin 512) :
    upd k v z s d (ix3 0 a b) = s (ix3 0 a b) * d (ix3 0 0 b)
      + ∑ j : Fin 128, (k (ix3 0 j a) * z (ix3 0 j a)) * v (ix3 0 j b) := by
  pointwise [k0_pay27, k0_pay11, k0_pay24, k0_pay7]

set_option maxHeartbeats 1000000 in
/-- The mix, at an index. -/
theorem mix_apply (q k : Vec Ideal S1x128x256 .bf16) (v : Vec Ideal S1x128x512 .bf16) (m : Vec Ideal S1x128x128 .f32)
    (x : Vec Ideal S1x128x512 .f32) (s : Vec Ideal S1x256x512 .f32) (i : Fin 128) (b : Fin 512) :
    mix q k v m x s (ix2 i b) = (∑ j : Fin 128, ((∑ a : Fin 256, q (ix3 0 i a) * k (ix3 0 j a)) * m (ix3 0 i j)) * v (ix3 0 j b))
      + (∑ a : Fin 256, q (ix3 0 i a) * s (ix3 0 a b)) * x (ix3 0 i b) := by
  pointwise [k0_pay20, k0_pay11, k0_pay15, k0_pay3, k0_pay7, k0_pay19]

set_option maxHeartbeats 1000000 in
/-- The normalised and gated row, at an index. -/
theorem norm_apply (o : FVec Ideal S128x512 .f32) (g : Vec Ideal S1x128x512 .bf16) (i : Fin 128) (b : Fin 512) :
    k0_pay34 (k0_pay33 o) g (ix3 0 i b) = normRow (fun v => o (ix2 i v)) b * g (ix3 0 i b) := by
  pointwise [k0_pay34, k0_pay33, normRow]

/-- A row of a block of 1024, from its chunk and its place in the chunk. -/
abbrev crow (c : ℕ) (j : Fin 128) : Fin 1024 := ⟨(128 * c + j.val) % 1024, Nat.mod_lt _ (by decide)⟩
/-- A column of the keys, from its head and its place in the head. -/
abbrev kcol (h : Fin 4) (a : Fin 256) : Fin 1024 := ⟨256 * h.val + a.val, by omega⟩
/-- A column of the values, from its head and its place in the head. -/
abbrev vcol (h : Fin 4) (b : Fin 512) : Fin 2048 := ⟨512 * h.val + b.val, by omega⟩

/-- The state of every head after the first chunks of a block, from the state before the block. -/
def stL (x1 : Vec Ideal S1x1024x1024 .bf16) (x2 : Vec Ideal S1x1024x2048 .bf16) (x6 : Vec Ideal S4x128x256 .f32)
    (x7 : Vec Ideal S4x1x512 .f32) (s0 : Fin 4 → Fin 256 → Fin 512 → EReal) : ℕ → Fin 4 → Fin 256 → Fin 512 → EReal
  | 0 => s0
  | c + 1 => fun h a b => stL x1 x2 x6 x7 s0 c h a b * x7 (ix3 h 0 b)
      + ∑ j : Fin 128, (x1 (ix3 0 (crow c j) (kcol h a)) * x6 (ix3 h j a)) * x2 (ix3 0 (crow c j) (vcol h b))

/-- What the first `n` stores into the state leave: each head's state after the chunks it has gone through. The heads
    below `n + g` are known. -/
def Claim (x1 : Vec Ideal S1x1024x1024 .bf16) (x2 : Vec Ideal S1x1024x2048 .bf16) (x6 : Vec Ideal S4x128x256 .f32)
    (x7 : Vec Ideal S4x1x512 .f32) (s0 : Fin 4 → Fin 256 → Fin 512 → EReal) (g n : ℕ)
    (L : List (View.Piece (Elt Ideal) S4x256x512 .f32)) : Prop :=
  ∀ (h : Fin 4) (a : Fin 256) (b : Fin 512), h.val < n + g →
    View.canon L (ix3 h a b) = stL x1 x2 x6 x7 s0 ((n + 3 - h.val) / 4) h a b

/-- The rectangle of one head in the state. -/
abbrev hrect (h : Fin 4) (i : ∀ a, ![h.val, 0, 0] a + S1x256x512.size a ≤ S4x256x512.size a) : Rect S4x256x512 :=
  Rect.unit (s := S4x256x512) ![h.val, 0, 0] S1x256x512.size i

/-- One head's rectangle of the state, as indices of the state. -/
theorem hrect_emb (h : Fin 4) (i) (a : Fin 256) (b : Fin 512) : (hrect h i).emb (ix3 0 a b) = ix3 h a b := by
  funext k; apply Fin.ext
  fin_cases k
  · show h.val + 1 * 0 = h.val; omega
  · show 0 + 1 * a.val = a.val; omega
  · show 0 + 1 * b.val = b.val; omega

variable {x1 : Vec Ideal S1x1024x1024 .bf16} {x2 : Vec Ideal S1x1024x2048 .bf16} {x6 : Vec Ideal S4x128x256 .f32}
    {x7 : Vec Ideal S4x1x512 .f32} {s0 : Fin 4 → Fin 256 → Fin 512 → EReal}

/-- A head's state loaded after the first stores. -/
theorem load (g n c : ℕ) (h : Fin 4) (L : List (View.Piece (Elt Ideal) S4x256x512 .f32)) (hL : Claim x1 x2 x6 x7 s0 g n L)
    (i) (hg : h.val < n + g) (hc : (n + 3 - h.val) / 4 = c) (a : Fin 256) (b : Fin 512) :
    scM0_0.view.readCov (Val := Elt Ideal) L (hrect h i).toLoadRect (ix3 0 a b) = stL x1 x2 x6 x7 s0 c h a b := by
  rw [View.readCov_eq_canon']
  subst hc
  rw [← hL h a b hg]
  exact congrArg _ (hrect_emb h i a b)

/-- A head's state loaded before the first store. -/
theorem load0 (h : Fin 4) (xs : Vec Ideal S4x256x512 .f32) (hw : scM0_0.IsWhole) (i) (a : Fin 256) (b : Fin 512) :
    View.readAt (Elt Ideal) scM0_0.view (hrect h i).toLoadRect (hw.unread xs) (ix3 0 a b) = xs (ix3 h a b) := by
  rw [Memref.IsWhole.readAt_unread]
  exact congrArg _ (hrect_emb h i a b)

/-- A chunk of one head's keys, read off the block. -/
theorem readK (M : Memref sig .tc .vmem S1x1024x1024 .bf16) (H : M.IsWhole) (x : Vec Ideal S1x1024x1024 .bf16) (c : Fin 8) (hd : Fin 4)
    (i : ∀ a, ![0, 128 * c.val, 256 * hd.val] a + S1x128x256.size a ≤ S1x1024x1024.size a) (j : Fin 128) (a : Fin 256) :
    View.readAt (Elt Ideal) M.view (Rect.unit (s := S1x1024x1024) ![0, 128 * c.val, 256 * hd.val] S1x128x256.size i).toLoadRect (H.unread x) (ix3 0 j a)
      = x (ix3 0 (crow c.val j) (kcol hd a)) := by
  rw [Memref.IsWhole.readAt_unread]
  refine congrArg x (funext fun k => Fin.ext ?_)
  have := c.isLt
  fin_cases k
  · rfl
  · show 128 * c.val + 1 * j.val = (128 * c.val + j.val) % 1024; omega
  · show 256 * hd.val + 1 * a.val = 256 * hd.val + a.val; omega

/-- A chunk of one head's values or gates, read off the block. -/
theorem readV (M : Memref sig .tc .vmem S1x1024x2048 .bf16) (H : M.IsWhole) (x : Vec Ideal S1x1024x2048 .bf16) (c : Fin 8) (hd : Fin 4)
    (i : ∀ a, ![0, 128 * c.val, 512 * hd.val] a + S1x128x512.size a ≤ S1x1024x2048.size a) (j : Fin 128) (a : Fin 512) :
    View.readAt (Elt Ideal) M.view (Rect.unit (s := S1x1024x2048) ![0, 128 * c.val, 512 * hd.val] S1x128x512.size i).toLoadRect (H.unread x) (ix3 0 j a)
      = x (ix3 0 (crow c.val j) (vcol hd a)) := by
  rw [Memref.IsWhole.readAt_unread]
  refine congrArg x (funext fun k => Fin.ext ?_)
  have := c.isLt
  fin_cases k
  · rfl
  · show 128 * c.val + 1 * j.val = (128 * c.val + j.val) % 1024; omega
  · show 512 * hd.val + 1 * a.val = 512 * hd.val + a.val; omega

/-- One head's key weights, read off the table. -/
theorem readZ (M : Memref sig .tc .vmem S4x128x256 .f32) (H : M.IsWhole) (x : Vec Ideal S4x128x256 .f32) (hd : Fin 4)
    (i : ∀ a, ![hd.val, 0, 0] a + S1x128x256.size a ≤ S4x128x256.size a) (j : Fin 128) (a : Fin 256) :
    View.readAt (Elt Ideal) M.view (Rect.unit (s := S4x128x256) ![hd.val, 0, 0] S1x128x256.size i).toLoadRect (H.unread x) (ix3 0 j a)
      = x (ix3 hd j a) := by
  rw [Memref.IsWhole.readAt_unread]
  refine congrArg x (funext fun k => Fin.ext ?_)
  fin_cases k
  · show hd.val + 1 * 0 = hd.val; omega
  · show 0 + 1 * j.val = j.val; omega
  · show 0 + 1 * a.val = a.val; omega

/-- One head's decay, read off the table. -/
theorem readD (M : Memref sig .tc .vmem S4x1x512 .f32) (H : M.IsWhole) (x : Vec Ideal S4x1x512 .f32) (hd : Fin 4)
    (i : ∀ a, ![hd.val, 0, 0] a + S1x1x512.size a ≤ S4x1x512.size a) (j : Fin 1) (a : Fin 512) :
    View.readAt (Elt Ideal) M.view (Rect.unit (s := S4x1x512) ![hd.val, 0, 0] S1x1x512.size i).toLoadRect (H.unread x) (ix3 0 j a)
      = x (ix3 hd j a) := by
  rw [Memref.IsWhole.readAt_unread]
  refine congrArg x (funext fun k => Fin.ext ?_)
  fin_cases k
  · show hd.val + 1 * 0 = hd.val; omega
  · show 0 + 1 * j.val = j.val; omega
  · show 0 + 1 * a.val = a.val; omega

/-- One head's mask, read off the table. -/
theorem readM (M : Memref sig .tc .vmem S4x128x128 .f32) (H : M.IsWhole) (x : Vec Ideal S4x128x128 .f32) (hd : Fin 4)
    (i : ∀ a, ![hd.val, 0, 0] a + S1x128x128.size a ≤ S4x128x128.size a) (j : Fin 128) (a : Fin 128) :
    View.readAt (Elt Ideal) M.view (Rect.unit (s := S4x128x128) ![hd.val, 0, 0] S1x128x128.size i).toLoadRect (H.unread x) (ix3 0 j a)
      = x (ix3 hd j a) := by
  rw [Memref.IsWhole.readAt_unread]
  refine congrArg x (funext fun k => Fin.ext ?_)
  fin_cases k
  · show hd.val + 1 * 0 = hd.val; omega
  · show 0 + 1 * j.val = j.val; omega
  · show 0 + 1 * a.val = a.val; omega

/-- One head's weights of the state, read off the table. -/
theorem readX (M : Memref sig .tc .vmem S4x128x512 .f32) (H : M.IsWhole) (x : Vec Ideal S4x128x512 .f32) (hd : Fin 4)
    (i : ∀ a, ![hd.val, 0, 0] a + S1x128x512.size a ≤ S4x128x512.size a) (j : Fin 128) (a : Fin 512) :
    View.readAt (Elt Ideal) M.view (Rect.unit (s := S4x128x512) ![hd.val, 0, 0] S1x128x512.size i).toLoadRect (H.unread x) (ix3 0 j a)
      = x (ix3 hd j a) := by
  rw [Memref.IsWhole.readAt_unread]
  refine congrArg x (funext fun k => Fin.ext ?_)
  fin_cases k
  · show hd.val + 1 * 0 = hd.val; omega
  · show 0 + 1 * j.val = j.val; omega
  · show 0 + 1 * a.val = a.val; omega

/-- One more store into the state. -/
theorem step (g n : ℕ) (g0 : g = 0 ∨ g = 4) (c : Fin 8) (hd : Fin 4) (hn : n = 4 * c.val + hd.val)
    (M1 : Memref sig .tc .vmem S1x1024x1024 .bf16) (H1 : M1.IsWhole) (M2 : Memref sig .tc .vmem S1x1024x2048 .bf16) (H2 : M2.IsWhole)
    (M6 : Memref sig .tc .vmem S4x128x256 .f32) (H6 : M6.IsWhole) (M7 : Memref sig .tc .vmem S4x1x512 .f32) (H7 : M7.IsWhole)
    (ik : ∀ a, ![0, 128 * c.val, 256 * hd.val] a + S1x128x256.size a ≤ S1x1024x1024.size a)
    (iv : ∀ a, ![0, 128 * c.val, 512 * hd.val] a + S1x128x512.size a ≤ S1x1024x2048.size a)
    (iz : ∀ a, ![hd.val, 0, 0] a + S1x128x256.size a ≤ S4x128x256.size a)
    (id : ∀ a, ![hd.val, 0, 0] a + S1x1x512.size a ≤ S4x1x512.size a) (is)
    (L : List (View.Piece (Elt Ideal) S4x256x512 .f32)) (s : Vec Ideal S1x256x512 .f32)
    (es : ∀ a b, s (ix3 0 a b) = stL x1 x2 x6 x7 s0 c.val hd a b) (hL : Claim x1 x2 x6 x7 s0 g n L) :
    Claim x1 x2 x6 x7 s0 g (n + 1) (⟨hrect hd is,
      upd (View.readAt (Elt Ideal) M1.view (Rect.unit (s := S1x1024x1024) ![0, 128 * c.val, 256 * hd.val] S1x128x256.size ik).toLoadRect (H1.unread x1))
        (View.readAt (Elt Ideal) M2.view (Rect.unit (s := S1x1024x2048) ![0, 128 * c.val, 512 * hd.val] S1x128x512.size iv).toLoadRect (H2.unread x2))
        (View.readAt (Elt Ideal) M6.view (Rect.unit (s := S4x128x256) ![hd.val, 0, 0] S1x128x256.size iz).toLoadRect (H6.unread x6))
        s
        (View.readAt (Elt Ideal) M7.view (Rect.unit (s := S4x1x512) ![hd.val, 0, 0] S1x1x512.size id).toLoadRect (H7.unread x7))⟩ :: L) := by
  intro h a b hg
  by_cases e : h = hd
  · subst e
    rw [show (n + 1 + 3 - h.val) / 4 = c.val + 1 by omega]
    have := View.canon_cons_emb (Val := Elt Ideal) (hrect h is) (upd (View.readAt (Elt Ideal) M1.view (Rect.unit (s := S1x1024x1024) ![0, 128 * c.val, 256 * h.val] S1x128x256.size ik).toLoadRect (H1.unread x1))
        (View.readAt (Elt Ideal) M2.view (Rect.unit (s := S1x1024x2048) ![0, 128 * c.val, 512 * h.val] S1x128x512.size iv).toLoadRect (H2.unread x2))
        (View.readAt (Elt Ideal) M6.view (Rect.unit (s := S4x128x256) ![h.val, 0, 0] S1x128x256.size iz).toLoadRect (H6.unread x6))
        s
        (View.readAt (Elt Ideal) M7.view (Rect.unit (s := S4x1x512) ![h.val, 0, 0] S1x1x512.size id).toLoadRect (H7.unread x7))) L (ix3 0 a b)
    rw [hrect_emb] at this
    rw [this]
    refine (upd_apply _ _ _ _ _ a b).trans ?_
    rw [es]
    refine congrArg₂ (· + ·) (congrArg₂ (· * ·) rfl (readD M7 H7 x7 h id 0 b)) (Finset.sum_congr rfl fun j _ => ?_)
    rw [readK, readV, readZ]
  · have e' : h.val ≠ hd.val := fun x => e (Fin.ext x)
    have hh := h.isLt
    have hdl := hd.isLt
    rw [show (n + 1 + 3 - h.val) / 4 = (n + 3 - h.val) / 4 by omega, ← hL h a b (by omega)]
    refine View.canon_cons_of_not_mem _ L fun hm => ?_
    have := (LoadRect.mem_set _).mp hm 0
    obtain ⟨y, hy, h2⟩ := this
    have h1 : h.val = hd.val + 1 * y := h2
    have h3 : y < 1 := hy
    omega

end Cert.RetIdeal.Hand

end
-- ==== Proof.RetOut.lean ====
/- The retention call: one stored tile of its output, read at an index. -/
module

public import proofs.«01_k».proof.Proof.RetTiles

@[expose] public section

set_option maxRecDepth 16384

noncomputable section

namespace Cert.RetIdeal.Hand

open Cert.RetIdeal Cert.RetIdeal.Gen Idealize.ShloMosaic Idealize.ShloMosaic.TcCoe Cert.Rows

/-- One head's output in a chunk of a block, from the head's state before the chunk. -/
def oL (x0 x1 : Vec Ideal S1x1024x1024 .bf16) (x2 x3 : Vec Ideal S1x1024x2048 .bf16) (x4 : Vec Ideal S4x128x128 .f32)
    (x5 : Vec Ideal S4x128x512 .f32) (s : ℕ → Fin 4 → Fin 256 → Fin 512 → EReal) (c : ℕ) (h : Fin 4) (i : Fin 128) (b : Fin 512) : EReal :=
  normRow (fun v => (∑ j : Fin 128, ((∑ a : Fin 256, x0 (ix3 0 (crow c i) (kcol h a)) * x1 (ix3 0 (crow c j) (kcol h a))) * x4 (ix3 h i j))
        * x2 (ix3 0 (crow c j) (vcol h v)))
      + (∑ a : Fin 256, x0 (ix3 0 (crow c i) (kcol h a)) * s c h a v) * x5 (ix3 h i v)) b * x3 (ix3 0 (crow c i) (vcol h b))

/-- What one grid point stores, at an index of its block. -/
def oG (x0 x1 : Vec Ideal S1x1024x1024 .bf16) (x2 x3 : Vec Ideal S1x1024x2048 .bf16) (x4 : Vec Ideal S4x128x128 .f32)
    (x5 : Vec Ideal S4x128x512 .f32) (s : ℕ → Fin 4 → Fin 256 → Fin 512 → EReal) : Vec Ideal S1x1024x2048 .bf16 := fun y =>
  oL x0 x1 x2 x3 x4 x5 s ((y 1).val / 128) ⟨(y 2).val / 512, by have : (y 2).val < 2048 := (y 2).isLt; omega⟩ ⟨(y 1).val % 128, by omega⟩ ⟨(y 2).val % 512, by omega⟩

/-- One stored tile is a block of the point's output. -/
theorem tile {x0 x1 : Vec Ideal S1x1024x1024 .bf16} {x2 x3 : Vec Ideal S1x1024x2048 .bf16} {x4 : Vec Ideal S4x128x128 .f32}
    {x5 : Vec Ideal S4x128x512 .f32} {st : ℕ → Fin 4 → Fin 256 → Fin 512 → EReal} (c : Fin 8) (hd : Fin 4)
    (M0 : Memref sig .tc .vmem S1x1024x1024 .bf16) (H0 : M0.IsWhole) (M1 : Memref sig .tc .vmem S1x1024x1024 .bf16) (H1 : M1.IsWhole)
    (M2 : Memref sig .tc .vmem S1x1024x2048 .bf16) (H2 : M2.IsWhole) (M3 : Memref sig .tc .vmem S1x1024x2048 .bf16) (H3 : M3.IsWhole)
    (M4 : Memref sig .tc .vmem S4x128x128 .f32) (H4 : M4.IsWhole) (M5 : Memref sig .tc .vmem S4x128x512 .f32) (H5 : M5.IsWhole)
    (ik : ∀ a, ![0, 128 * c.val, 256 * hd.val] a + S1x128x256.size a ≤ S1x1024x1024.size a)
    (iv : ∀ a, ![0, 128 * c.val, 512 * hd.val] a + S1x128x512.size a ≤ S1x1024x2048.size a)
    (im : ∀ a, ![hd.val, 0, 0] a + S1x128x128.size a ≤ S4x128x128.size a)
    (ix : ∀ a, ![hd.val, 0, 0] a + S1x128x512.size a ≤ S4x128x512.size a)
    (s : Vec Ideal S1x256x512 .f32) (es : ∀ a b, s (ix3 0 a b) = st c.val hd a b) (x : S1x128x512.Idx) :
    outp (View.readAt (Elt Ideal) M0.view (Rect.unit (s := S1x1024x1024) ![0, 128 * c.val, 256 * hd.val] S1x128x256.size ik).toLoadRect (H0.unread x0))
      (View.readAt (Elt Ideal) M1.view (Rect.unit (s := S1x1024x1024) ![0, 128 * c.val, 256 * hd.val] S1x128x256.size ik).toLoadRect (H1.unread x1))
      (View.readAt (Elt Ideal) M2.view (Rect.unit (s := S1x1024x2048) ![0, 128 * c.val, 512 * hd.val] S1x128x512.size iv).toLoadRect (H2.unread x2))
      (View.readAt (Elt Ideal) M3.view (Rect.unit (s := S1x1024x2048) ![0, 128 * c.val, 512 * hd.val] S1x128x512.size iv).toLoadRect (H3.unread x3))
      (View.readAt (Elt Ideal) M4.view (Rect.unit (s := S4x128x128) ![hd.val, 0, 0] S1x128x128.size im).toLoadRect (H4.unread x4))
      (View.readAt (Elt Ideal) M5.view (Rect.unit (s := S4x128x512) ![hd.val, 0, 0] S1x128x512.size ix).toLoadRect (H5.unread x5)) s x
    = oG x0 x1 x2 x3 x4 x5 st ((Rect.unit (s := S1x1024x2048) ![0, 128 * c.val, 512 * hd.val] S1x128x512.size iv).emb x) := by
  obtain ⟨i, b, rfl⟩ : ∃ (i : Fin 128) (b : Fin 512), x = ix3 0 i b := ⟨x 1, x 2, by
    funext k; fin_cases k
    · exact Subsingleton.elim (α := Fin 1) _ _
    · rfl
    · rfl⟩
  have e : oG x0 x1 x2 x3 x4 x5 st ((Rect.unit (s := S1x1024x2048) ![0, 128 * c.val, 512 * hd.val] S1x128x512.size iv).emb (ix3 0 i b))
      = oL x0 x1 x2 x3 x4 x5 st c.val hd i b := by
    have := c.isLt
    have := hd.isLt
    have a1 : ((Rect.unit (s := S1x1024x2048) ![0, 128 * c.val, 512 * hd.val] S1x128x512.size iv).emb (ix3 0 i b) 1).val = 128 * c.val + 1 * i.val := rfl
    have a2 : ((Rect.unit (s := S1x1024x2048) ![0, 128 * c.val, 512 * hd.val] S1x128x512.size iv).emb (ix3 0 i b) 2).val = 512 * hd.val + 1 * b.val := rfl
    unfold oG
    have key : ∀ (c' : ℕ) (h' : Fin 4) (i' : Fin 128) (b' : Fin 512), c' = c.val → h' = hd → i' = i → b' = b →
        oL x0 x1 x2 x3 x4 x5 st c' h' i' b' = oL x0 x1 x2 x3 x4 x5 st c.val hd i b := by
      rintro _ _ _ _ rfl rfl rfl rfl; rfl
    refine key _ _ _ _ ?_ (Fin.ext ?_) (Fin.ext ?_) (Fin.ext ?_)
    · rw [a1]; omega
    · show ((Rect.unit (s := S1x1024x2048) ![0, 128 * c.val, 512 * hd.val] S1x128x512.size iv).emb (ix3 0 i b) 2).val / 512 = _
      rw [a2]; omega
    · show ((Rect.unit (s := S1x1024x2048) ![0, 128 * c.val, 512 * hd.val] S1x128x512.size iv).emb (ix3 0 i b) 1).val % 128 = _
      rw [a1]; omega
    · show ((Rect.unit (s := S1x1024x2048) ![0, 128 * c.val, 512 * hd.val] S1x128x512.size iv).emb (ix3 0 i b) 2).val % 512 = _
      rw [a2]; omega
  rw [e]
  refine (norm_apply _ _ i b).trans ?_
  unfold oL
  refine congrArg₂ (· * ·) (congrArg (fun o => normRow o b) (funext fun v => ?_)) (readV M3 H3 x3 c hd iv i b)
  refine (mix_apply _ _ _ _ _ _ i v).trans ?_
  refine congrArg₂ (· + ·) (Finset.sum_congr rfl fun j _ => ?_) (congrArg₂ (· * ·) (Finset.sum_congr rfl fun a _ => ?_) (readX M5 H5 x5 hd ix i v))
  · refine congrArg₂ (· * ·) (congrArg₂ (· * ·) (Finset.sum_congr rfl fun a _ => ?_) (readM M4 H4 x4 hd im i j)) (readV M2 H2 x2 c hd iv j v)
    exact congrArg₂ (· * ·) (readK M0 H0 x0 c hd ik i a) (readK M1 H1 x1 c hd ik j a)
  · exact congrArg₂ (· * ·) (readK M0 H0 x0 c hd ik i a) (es a v)

end Cert.RetIdeal.Hand

end
-- ==== Proof.RetSpec.lean ====
/-
  The retention call's result as a function of the argument arrays: every head's state is carried over the chunks of a
  sequence, and each chunk's rows are the masked products within the chunk plus the state before it, normalised and gated.
  Also the four tables of decays, as the host code computes them.
-/
module

public import proofs.«01_k».proof.Proof.RetOut

@[expose] public section

set_option maxRecDepth 16384

noncomputable section

namespace Cert.RetIdeal.Hand

open Cert.RetIdeal Cert.RetIdeal.Gen Idealize.ShloMosaic Idealize.ShloMosaic.TcCoe Cert.Rows

/-- The logarithm of each head's decay. -/
def lgT : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The places in a chunk, as numbers. -/
def ciT : FVec Ideal S128 .f32 := sitofp .f32 (iotaInDim S128 32 0)

/-- The differences of the places in a chunk. -/
def diffT : FVec Ideal S128x128 .f32 :=
  subf (broadcastInDim S128x128 ![0, 1] bcast_S128x1_S128x128_0_1 (broadcastInDim S128x1 ![0] bcast_S128_S128x1_0 ciT))
    (broadcastInDim S128x128 ![0, 1] bcast_S1x128_S128x128_0_1 (broadcastInDim S1x128 ![1] bcast_S128_S1x128_1 ciT))

/-- The decays within a chunk: the power of the difference where it is not negative, zero elsewhere. -/
def dmT : FVec Ideal S4x128x128 .f32 :=
  select (broadcastInDim S4x128x128 ![0, 1, 2] bcast_S1x128x128_S4x128x128_0_1_2
      (cmpf .oge (broadcastInDim S1x128x128 ![1, 2] bcast_S128x128_S1x128x128_1_2 diffT)
        (broadcastInDim S1x128x128 ![] bcast_S_S1x128x128 (constant S_ .f32 0x00000000#32))))
    (Host.exp (mulf (broadcastInDim S4x128x128 ![0, 1, 2] bcast_S1x128x128_S4x128x128_0_1_2 (broadcastInDim S1x128x128 ![1, 2] bcast_S128x128_S1x128x128_1_2 diffT))
      (broadcastInDim S4x128x128 ![0, 1, 2] bcast_S4x1x1_S4x128x128_0_1_2 (broadcastInDim S4x1x1 ![0] bcast_S4_S4x1x1_0 lgT))))
    (broadcastInDim S4x128x128 ![] bcast_S_S4x128x128 (constant S_ .f32 0x00000000#32))

/-- The decays of the state before a chunk at the chunk's rows. -/
def xiT : FVec Ideal S4x128 .f32 :=
  Host.exp (mulf (broadcastInDim S4x128 ![0, 1] bcast_S1x128_S4x128_0_1
      (addf (broadcastInDim S1x128 ![1] bcast_S128_S1x128_1 ciT) (broadcastInDim S1x128 ![] bcast_S_S1x128 (constant S_ .f32 0x3F800000#32))))
    (broadcastInDim S4x128 ![0, 1] bcast_S4x1_S4x128_0_1 (broadcastInDim S4x1 ![0] bcast_S4_S4x1_0 lgT)))

/-- The decays of a chunk's keys to the chunk's end. -/
def zeT : FVec Ideal S4x128 .f32 :=
  Host.exp (mulf (broadcastInDim S4x128 ![0, 1] bcast_S1x128_S4x128_0_1
      (subf (broadcastInDim S1x128 ![] bcast_S_S1x128 (constant S_ .f32 0x42FE0000#32)) (broadcastInDim S1x128 ![1] bcast_S128_S1x128_1 ciT)))
    (broadcastInDim S4x128 ![0, 1] bcast_S4x1_S4x128_0_1 (broadcastInDim S4x1 ![0] bcast_S4_S4x1_0 lgT)))

/-- The decay of the state over a chunk. -/
def deT : FVec Ideal S4 .f32 := Host.exp (mulf (broadcastInDim S4 ![] bcast_S_S4 (constant S_ .f32 0x43000000#32)) lgT)

/-- A token of a sequence, from its chunk and its place in the chunk. -/
abbrev grow (n : ℕ) (j : Fin 128) : Fin 2048 := ⟨(128 * n + j.val) % 2048, Nat.mod_lt _ (by decide)⟩

/-- The state of every head of a sequence after its first chunks. -/
def stG (k : FVec Ideal S16x2048x1024 .bf16) (v : FVec Ideal S16x2048x2048 .bf16) (b : Fin 16) : ℕ → Fin 4 → Fin 256 → Fin 512 → EReal
  | 0 => fun _ _ _ => 0
  | n + 1 => fun h a d => stG k v b n h a d * deT (ix1 h)
      + ∑ j : Fin 128, (k (ix3 b (grow n j) (kcol h a)) * zeT (ix2 h j)) * v (ix3 b (grow n j) (vcol h d))

/-- One head's row of a chunk before the norm. -/
def mixG (q k : FVec Ideal S16x2048x1024 .bf16) (v : FVec Ideal S16x2048x2048 .bf16) (b : Fin 16) (n : ℕ) (h : Fin 4) (i : Fin 128) (w : Fin 512) : EReal :=
  (∑ j : Fin 128, ((∑ a : Fin 256, q (ix3 b (grow n i) (kcol h a)) * k (ix3 b (grow n j) (kcol h a))) * dmT (ix3 h i j))
        * v (ix3 b (grow n j) (vcol h w)))
      + (∑ a : Fin 256, q (ix3 b (grow n i) (kcol h a)) * stG k v b n h a w) * xiT (ix2 h i)

/-- One head's row of a chunk, normalised and gated. -/
def outG (q k : FVec Ideal S16x2048x1024 .bf16) (v g : FVec Ideal S16x2048x2048 .bf16) (b : Fin 16) (n : ℕ) (h : Fin 4) (i : Fin 128) (w : Fin 512) : EReal :=
  normRow (mixG q k v b n h i) w * g (ix3 b (grow n i) (vcol h w))

/-- The retention call's result. -/
def retSpec (q k : FVec Ideal S16x2048x1024 .bf16) (v g : FVec Ideal S16x2048x2048 .bf16) : FVec Ideal S16x2048x2048 .bf16 := fun y =>
  outG q k v g (y 0) ((y 1).val / 128) ⟨(y 2).val / 512, by have : (y 2).val < 2048 := (y 2).isLt; omega⟩ ⟨(y 1).val % 128, by omega⟩ ⟨(y 2).val % 512, by omega⟩

/-- A token of a sequence, from its half and its row in the half. -/
abbrev brow (p : Fin 2) (r : Fin 1024) : Fin 2048 := ⟨1024 * p.val + r.val, by omega⟩

/-- A row of a chunk of a half is a row of a chunk of the sequence. -/
theorem brow_crow (p : Fin 2) (n : ℕ) (hn : n < 8) (j : Fin 128) : brow p (crow n j) = grow (8 * p.val + n) j := by
  apply Fin.ext
  show 1024 * p.val + (128 * n + j.val) % 1024 = (128 * (8 * p.val + n) + j.val) % 2048
  have := p.isLt
  have := j.isLt
  omega

/-- The state a half of a sequence goes through is the sequence's. -/
theorem stL_glob {x1 : Vec Ideal S1x1024x1024 .bf16} {x2 : Vec Ideal S1x1024x2048 .bf16} {x6 : Vec Ideal S4x128x256 .f32}
    {x7 : Vec Ideal S4x1x512 .f32} {s0 : Fin 4 → Fin 256 → Fin 512 → EReal} {k : FVec Ideal S16x2048x1024 .bf16}
    {v : FVec Ideal S16x2048x2048 .bf16} {b : Fin 16} {p : Fin 2}
    (hk : ∀ r a, x1 (ix3 0 r a) = k (ix3 b (brow p r) a)) (hv : ∀ r a, x2 (ix3 0 r a) = v (ix3 b (brow p r) a))
    (hz : ∀ h j a, x6 (ix3 h j a) = zeT (ix2 h j)) (hd : ∀ h d, x7 (ix3 h 0 d) = deT (ix1 h))
    (hs : s0 = stG k v b (8 * p.val)) (n : ℕ) (hn : n ≤ 8) : stL x1 x2 x6 x7 s0 n = stG k v b (8 * p.val + n) := by
  induction n with
  | zero => exact hs
  | succ n ih =>
    have ih := ih (by omega)
    funext h a d
    show stL x1 x2 x6 x7 s0 n h a d * x7 (ix3 h 0 d) + _ = stG k v b (8 * p.val + n) h a d * deT (ix1 h) + _
    refine congrArg₂ (· + ·) (congrArg₂ (· * ·) (by rw [ih]) (hd h d)) (Finset.sum_congr rfl fun j _ => ?_)
    rw [hk, hv, hz, brow_crow p n (by omega) j]
    rfl

/-- What a half's grid point stores is the result's block. -/
theorem oG_glob {x0 x1 : Vec Ideal S1x1024x1024 .bf16} {x2 x3 : Vec Ideal S1x1024x2048 .bf16} {x4 : Vec Ideal S4x128x128 .f32}
    {x5 : Vec Ideal S4x128x512 .f32} {x6 : Vec Ideal S4x128x256 .f32}
    {x7 : Vec Ideal S4x1x512 .f32} {s0 : Fin 4 → Fin 256 → Fin 512 → EReal} {q k : FVec Ideal S16x2048x1024 .bf16}
    {v g : FVec Ideal S16x2048x2048 .bf16} {b : Fin 16} {p : Fin 2}
    (hq : ∀ r a, x0 (ix3 0 r a) = q (ix3 b (brow p r) a))
    (hk : ∀ r a, x1 (ix3 0 r a) = k (ix3 b (brow p r) a)) (hv : ∀ r a, x2 (ix3 0 r a) = v (ix3 b (brow p r) a))
    (hg : ∀ r a, x3 (ix3 0 r a) = g (ix3 b (brow p r) a))
    (hm : ∀ h i j, x4 (ix3 h i j) = dmT (ix3 h i j)) (hx : ∀ h i w, x5 (ix3 h i w) = xiT (ix2 h i))
    (hz : ∀ h j a, x6 (ix3 h j a) = zeT (ix2 h j)) (hd : ∀ h d, x7 (ix3 h 0 d) = deT (ix1 h))
    (hs : s0 = stG k v b (8 * p.val)) (r : Fin 1024) (w : Fin 2048) :
    oG x0 x1 x2 x3 x4 x5 (stL x1 x2 x6 x7 s0) (ix3 0 r w) = retSpec q k v g (ix3 b (brow p r) w) := by
  have key : ∀ (n : ℕ) (_ : n < 8) (h : Fin 4) (i : Fin 128) (d : Fin 512),
      oL x0 x1 x2 x3 x4 x5 (stL x1 x2 x6 x7 s0) n h i d = outG q k v g b (8 * p.val + n) h i d := by
    intro n hn h i d
    unfold oL outG
    refine congrArg₂ (· * ·) (congrArg (fun o => normRow o d) (funext fun u => ?_)) (by rw [hg, brow_crow p n hn i])
    unfold mixG
    refine congrArg₂ (· + ·) (Finset.sum_congr rfl fun j _ => ?_) (congrArg₂ (· * ·) (Finset.sum_congr rfl fun a _ => ?_) (hx h i u))
    · rw [hv, hm, brow_crow p n hn j]
      refine congrArg (fun z => z * _ * _) (Finset.sum_congr rfl fun a _ => ?_)
      rw [hq, hk, brow_crow p n hn j, brow_crow p n hn i]
    · rw [hq, brow_crow p n hn i, stL_glob hk hv hz hd hs n (by omega)]
  have := p.isLt
  have := r.isLt
  refine (key (r.val / 128) (by omega) ⟨w.val / 512, by omega⟩ ⟨r.val % 128, by omega⟩ ⟨w.val % 512, by omega⟩).trans ?_
  have e1 : 8 * p.val + r.val / 128 = (1024 * p.val + r.val) / 128 := by omega
  have e2 : r.val % 128 = (1024 * p.val + r.val) % 128 := by omega
  show outG q k v g b _ _ _ _ = outG q k v g b ((1024 * p.val + r.val) / 128) ⟨w.val / 512, _⟩ ⟨(1024 * p.val + r.val) % 128, _⟩ ⟨w.val % 512, _⟩
  simp only [e1, e2]

end Cert.RetIdeal.Hand

end
-- ==== Proof.RetReads.lean ====
/-
  The blocks the retention call's grid points read: the arguments' rows, and the tables of decays.
-/
module

public import proofs.«01_k».proof.Proof.RetSpec
public import proofs.«01_k».proof.Proof.Gen.RetIdeal.Value
public import Idealize.ShloMosaic.Lib.StableHlo.ReadAt
public import Idealize.ShloMosaic.Lib.StableHlo.RunRead

@[expose] public section

set_option maxRecDepth 16384

noncomputable section

namespace Cert.RetIdeal.Hand

open Cert.RetIdeal Cert.RetIdeal.Gen Idealize.ShloMosaic Idealize.ShloMosaic.TcCoe Cert.Rows Idealize.SL.Sem
open Idealize.ShloMosaic.Pipeline (Dat)

variable (m : (ℓ : Loc nD τ sig) → Buf (Elt Ideal) ℓ)

set_option maxHeartbeats 4000000 in
/-- The decays within a chunk, as the call is given them. -/
theorem dm_tab (c : Dev nD) : (V m c main_v23 : FVec Ideal S4x128x128 .f32) = dmT := by
  unfold V
  after_reads_simp
  rfl

set_option maxHeartbeats 4000000 in
/-- The decays of the state before a chunk, as the call is given them. -/
theorem xi_tab (c : Dev nD) : (V m c main_v44 : FVec Ideal S4x128x512 .f32) =
    broadcastInDim S4x128x512 ![0, 1, 2] bcast_S4x128x1_S4x128x512_0_1_2 (broadcastInDim S4x128x1 ![0, 1] bcast_S4x128_S4x128x1_0_1 xiT) := by
  unfold V
  after_reads_simp
  rfl

set_option maxHeartbeats 4000000 in
/-- The decays of a chunk's keys, as the call is given them. -/
theorem ze_tab (c : Dev nD) : (V m c main_v46 : FVec Ideal S4x128x256 .f32) =
    broadcastInDim S4x128x256 ![0, 1, 2] bcast_S4x128x1_S4x128x256_0_1_2 (broadcastInDim S4x128x1 ![0, 1] bcast_S4x128_S4x128x1_0_1 zeT) := by
  unfold V
  after_reads_simp
  rfl

set_option maxHeartbeats 4000000 in
/-- The decay of the state over a chunk, as the call is given it. -/
theorem de_tab (c : Dev nD) : (V m c main_v48 : FVec Ideal S4x1x512 .f32) =
    broadcastInDim S4x1x512 ![0, 1, 2] bcast_S4x1x1_S4x1x512_0_1_2 (broadcastInDim S4x1x1 ![0] bcast_S4_S4x1x1_0 deT) := by
  unfold V
  after_reads_simp
  rfl

/-- Where each window's block lies at a grid point. -/
theorem idx : ∀ t : Fin cfg0.N,
    win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![0, 0, 0] ∧ win0_5.index t = ![0, 0, 0] ∧ win0_6.index t = ![0, 0, 0] ∧ win0_7.index t = ![0, 0, 0]
    ∧ win0_8.index t = ![t.val / 2, t.val % 2, 0] :=
  (by decide +kernel : ∀ t : Fin grid0.N, _)

/-- A grid point's number is below thirty-two. -/
theorem pt_lt (t : Fin cfg0.N) : t.val < 32 := lt_of_lt_of_eq t.isLt (show cfg0.N = 32 from N_0)

/-- The sequence of a grid point. -/
abbrev bOf (t : Fin cfg0.N) : Fin 16 := ⟨t.val / 2, by have := pt_lt t; omega⟩
/-- The half of the sequence a grid point computes. -/
abbrev pOf (t : Fin cfg0.N) : Fin 2 := ⟨t.val % 2, by omega⟩

/-- Window 0's block of an array, at an index. -/
theorem read0 (A : FVec Ideal S16x2048x1024 .bf16) (t : Fin cfg0.N) (r k : Fin 1024) :
    ((cfg0.win 0).blk t).view.read (Elt Ideal) A (ix3 0 r k) = A (ix3 (bOf t) (brow (pOf t) r) k) := by
  blk_ext [idx t]

/-- Window 1's block of an array, at an index. -/
theorem read1 (A : FVec Ideal S16x2048x1024 .bf16) (t : Fin cfg0.N) (r k : Fin 1024) :
    ((cfg0.win 1).blk t).view.read (Elt Ideal) A (ix3 0 r k) = A (ix3 (bOf t) (brow (pOf t) r) k) := by
  blk_ext [idx t]

/-- Window 2's block of an array, at an index. -/
theorem read2 (A : FVec Ideal S16x2048x2048 .bf16) (t : Fin cfg0.N) (r : Fin 1024) (k : Fin 2048) :
    ((cfg0.win 2).blk t).view.read (Elt Ideal) A (ix3 0 r k) = A (ix3 (bOf t) (brow (pOf t) r) k) := by
  blk_ext [idx t]

/-- Window 3's block of an array, at an index. -/
theorem read3 (A : FVec Ideal S16x2048x2048 .bf16) (t : Fin cfg0.N) (r : Fin 1024) (k : Fin 2048) :
    ((cfg0.win 3).blk t).view.read (Elt Ideal) A (ix3 0 r k) = A (ix3 (bOf t) (brow (pOf t) r) k) := by
  blk_ext [idx t]

/-- Window 4's block of an array, at an index. -/
theorem read4 (A : FVec Ideal S4x128x128 .f32) (t : Fin cfg0.N) (h : Fin 4) (i j : Fin 128) :
    ((cfg0.win 4).blk t).view.read (Elt Ideal) A (ix3 h i j) = A (ix3 h i j) := by
  blk_ext [idx t]

/-- Window 5's block of an array, at an index. -/
theorem read5 (A : FVec Ideal S4x128x512 .f32) (t : Fin cfg0.N) (h : Fin 4) (i : Fin 128) (w : Fin 512) :
    ((cfg0.win 5).blk t).view.read (Elt Ideal) A (ix3 h i w) = A (ix3 h i w) := by
  blk_ext [idx t]

/-- Window 6's block of an array, at an index. -/
theorem read6 (A : FVec Ideal S4x128x256 .f32) (t : Fin cfg0.N) (h : Fin 4) (i : Fin 128) (a : Fin 256) :
    ((cfg0.win 6).blk t).view.read (Elt Ideal) A (ix3 h i a) = A (ix3 h i a) := by
  blk_ext [idx t]

/-- Window 7's block of an array, at an index. -/
theorem read7 (A : FVec Ideal S4x1x512 .f32) (t : Fin cfg0.N) (h : Fin 4) (d : Fin 512) :
    ((cfg0.win 7).blk t).view.read (Elt Ideal) A (ix3 h 0 d) = A (ix3 h 0 d) := by
  blk_ext [idx t]

/-- The queries at a grid point. -/
theorem q_read (c : Dev nD) (t : Fin cfg0.N) (r a : Fin 1024) : (iblk m c 0 t : Vec Ideal S1x1024x1024 .bf16) (ix3 0 r a)
    = (m ((c : Thread nD τ).loc main_arg0) : FVec Ideal S16x2048x1024 .bf16) (ix3 (bOf t) (brow (pOf t) r) a) :=
  (read0 (V m c main_arg0) t r a).trans (congrFun (V_main_arg0 m c) _)

/-- The keys at a grid point. -/
theorem k_read (c : Dev nD) (t : Fin cfg0.N) (r a : Fin 1024) : (iblk m c 1 t : Vec Ideal S1x1024x1024 .bf16) (ix3 0 r a)
    = (m ((c : Thread nD τ).loc main_arg1) : FVec Ideal S16x2048x1024 .bf16) (ix3 (bOf t) (brow (pOf t) r) a) :=
  (read1 (V m c main_arg1) t r a).trans (congrFun (V_main_arg1 m c) _)

/-- The values at a grid point. -/
theorem v_read (c : Dev nD) (t : Fin cfg0.N) (r : Fin 1024) (a : Fin 2048) : (iblk m c 2 t : Vec Ideal S1x1024x2048 .bf16) (ix3 0 r a)
    = (m ((c : Thread nD τ).loc main_arg2) : FVec Ideal S16x2048x2048 .bf16) (ix3 (bOf t) (brow (pOf t) r) a) :=
  (read2 (V m c main_arg2) t r a).trans (congrFun (V_main_arg2 m c) _)

/-- The gates at a grid point. -/
theorem g_read (c : Dev nD) (t : Fin cfg0.N) (r : Fin 1024) (a : Fin 2048) : (iblk m c 3 t : Vec Ideal S1x1024x2048 .bf16) (ix3 0 r a)
    = (m ((c : Thread nD τ).loc main_arg3) : FVec Ideal S16x2048x2048 .bf16) (ix3 (bOf t) (brow (pOf t) r) a) :=
  (read3 (V m c main_arg3) t r a).trans (congrFun (V_main_arg3 m c) _)

/-- The decays within a chunk at a grid point. -/
theorem dm_read (c : Dev nD) (t : Fin cfg0.N) (h : Fin 4) (i j : Fin 128) : (iblk m c 4 t : Vec Ideal S4x128x128 .f32) (ix3 h i j)
    = dmT (ix3 h i j) :=
  (read4 (V m c main_v23) t h i j).trans (congrFun (dm_tab m c) _)

/-- The decays of the state before a chunk at a grid point. -/
theorem xi_read (c : Dev nD) (t : Fin cfg0.N) (h : Fin 4) (i : Fin 128) (w : Fin 512) : (iblk m c 5 t : Vec Ideal S4x128x512 .f32) (ix3 h i w)
    = xiT (ix2 h i) := by
  refine (read5 (V m c main_v44) t h i w).trans ((congrFun (xi_tab m c) _).trans ?_)
  pointwise

/-- The decays of a chunk's keys at a grid point. -/
theorem ze_read (c : Dev nD) (t : Fin cfg0.N) (h : Fin 4) (j : Fin 128) (a : Fin 256) : (iblk m c 6 t : Vec Ideal S4x128x256 .f32) (ix3 h j a)
    = zeT (ix2 h j) := by
  refine (read6 (V m c main_v46) t h j a).trans ((congrFun (ze_tab m c) _).trans ?_)
  pointwise

/-- The decay of the state over a chunk at a grid point. -/
theorem de_read (c : Dev nD) (t : Fin cfg0.N) (h : Fin 4) (d : Fin 512) : (iblk m c 7 t : Vec Ideal S4x1x512 .f32) (ix3 h 0 d)
    = deT (ix1 h) := by
  refine (read7 (V m c main_v48) t h d).trans ((congrFun (de_tab m c) _).trans ?_)
  pointwise

end Cert.RetIdeal.Hand

end
-- ==== Proof.RetStateA.lean ====
/- The retention call: the state at an even grid point, store by store. -/
module

public import proofs.«01_k».proof.Proof.RetTiles

@[expose] public section

set_option maxRecDepth 16384

noncomputable section

namespace Cert.RetIdeal.Hand

open Cert.RetIdeal Cert.RetIdeal.Gen Idealize.ShloMosaic Idealize.ShloMosaic.TcCoe Cert.Rows

/-- The stores into the state before the first chunk. -/
abbrev lA_0 (c : Dev nD) (t : Fin cfg0.N) (x1 : Vec Ideal S1x1024x1024 .bf16) (x2 : Vec Ideal S1x1024x2048 .bf16) (x6 : Vec Ideal S4x128x256 .f32) (x7 : Vec Ideal S4x1x512 .f32)  : List (View.Piece (Elt Ideal) S4x256x512 .f32) := [⟨Rect.unit (s := S4x256x512) ![0, 0, 0] S4x256x512.size inb_S4x256x512_S4x256x512_0_0_0, k0_pay2 (F := Ideal)⟩]

/-- The first 1 stores into the state. -/
abbrev lA_1 (c : Dev nD) (t : Fin cfg0.N) (x1 : Vec Ideal S1x1024x1024 .bf16) (x2 : Vec Ideal S1x1024x2048 .bf16) (x6 : Vec Ideal S4x128x256 .f32) (x7 : Vec Ideal S4x1x512 .f32)  : List (View.Piece (Elt Ideal) S4x256x512 .f32) :=
  ⟨(Rect.unit (s := S4x256x512) ![0, 0, 0] S1x256x512.size inb_S4x256x512_S1x256x512_0_0_0), upd (View.readAt (Elt Ideal) (ms0_1 t).view (Rect.unit (s := S1x1024x1024) ![0, 0, 0] S1x128x256.size inb_S1x1024x1024_S1x128x256_0_0_0).toLoadRect ((hs0_1 t).unread x1)) (View.readAt (Elt Ideal) (ms0_2 t).view (Rect.unit (s := S1x1024x2048) ![0, 0, 0] S1x128x512.size inb_S1x1024x2048_S1x128x512_0_0_0).toLoadRect ((hs0_2 t).unread x2)) (View.readAt (Elt Ideal) (ms0_6 t).view (Rect.unit (s := S4x128x256) ![0, 0, 0] S1x128x256.size inb_S4x128x256_S1x128x256_0_0_0).toLoadRect ((hs0_6 t).unread x6)) (scM0_0.view.readCov (Val := Elt Ideal) (lA_0 c t x1 x2 x6 x7) (Rect.unit (s := S4x256x512) ![0, 0, 0] S1x256x512.size inb_S4x256x512_S1x256x512_0_0_0).toLoadRect) (View.readAt (Elt Ideal) (ms0_7 t).view (Rect.unit (s := S4x1x512) ![0, 0, 0] S1x1x512.size inb_S4x1x512_S1x1x512_0_0_0).toLoadRect ((hs0_7 t).unread x7))⟩ :: lA_0 c t x1 x2 x6 x7

/-- The first 2 stores into the state. -/
abbrev lA_2 (c : Dev nD) (t : Fin cfg0.N) (x1 : Vec Ideal S1x1024x1024 .bf16) (x2 : Vec Ideal S1x1024x2048 .bf16) (x6 : Vec Ideal S4x128x256 .f32) (x7 : Vec Ideal S4x1x512 .f32)  : List (View.Piece (Elt Ideal) S4x256x512 .f32) :=
  ⟨(Rect.unit (s := S4x256x512) ![1, 0, 0] S1x256x512.size inb_S4x256x512_S1x256x512_1_0_0), upd (View.readAt (Elt Ideal) (ms0_1 t).view (Rect.unit (s := S1x1024x1024) ![0, 0, 256] S1x128x256.size inb_S1x1024x1024_S1x128x256_0_0_256).toLoadRect ((hs0_1 t).unread x1)) (View.readAt (Elt Ideal) (ms0_2 t).view (Rect.unit (s := S1x1024x2048) ![0, 0, 512] S1x128x512.size inb_S1x1024x2048_S1x128x512_0_0_512).toLoadRect ((hs0_2 t).unread x2)) (View.readAt (Elt Ideal) (ms0_6 t).view (Rect.unit (s := S4x128x256) ![1, 0, 0] S1x128x256.size inb_S4x128x256_S1x128x256_1_0_0).toLoadRect ((hs0_6 t).unread x6)) (scM0_0.view.readCov (Val := Elt Ideal) (lA_1 c t x1 x2 x6 x7) (Rect.unit (s := S4x256x512) ![1, 0, 0] S1x256x512.size inb_S4x256x512_S1x256x512_1_0_0).toLoadRect) (View.readAt (Elt Ideal) (ms0_7 t).view (Rect.unit (s := S4x1x512) ![1, 0, 0] S1x1x512.size inb_S4x1x512_S1x1x512_1_0_0).toLoadRect ((hs0_7 t).unread x7))⟩ :: lA_1 c t x1 x2 x6 x7

/-- The first 3 stores into the state. -/
abbrev lA_3 (c : Dev nD) (t : Fin cfg0.N) (x1 : Vec Ideal S1x1024x1024 .bf16) (x2 : Vec Ideal S1x1024x2048 .bf16) (x6 : Vec Ideal S4x128x256 .f32) (x7 : Vec Ideal S4x1x512 .f32)  : List (View.Piece (Elt Ideal) S4x256x512 .f32) :=
  ⟨(Rect.unit (s := S4x256x512) ![2, 0, 0] S1x256x512.size inb_S4x256x512_S1x256x512_2_0_0), upd (View.readAt (Elt Ideal) (ms0_1 t).view (Rect.unit (s := S1x1024x1024) ![0, 0, 512] S1x128x256.size inb_S1x1024x1024_S1x128x256_0_0_512).toLoadRect ((hs0_1 t).unread x1)) (View.readAt (Elt Ideal) (ms0_2 t).view (Rect.unit (s := S1x1024x2048) ![0, 0, 1024] S1x128x512.size inb_S1x1024x2048_S1x128x512_0_0_1024).toLoadRect ((hs0_2 t).unread x2)) (View.readAt (Elt Ideal) (ms0_6 t).view (Rect.unit (s := S4x128x256) ![2, 0, 0] S1x128x256.size inb_S4x128x256_S1x128x256_2_0_0).toLoadRect ((hs0_6 t).unread x6)) (scM0_0.view.readCov (Val := Elt Ideal) (lA_2 c t x1 x2 x6 x7) (Rect.unit (s := S4x256x512) ![2, 0, 0] S1x256x512.size inb_S4x256x512_S1x256x512_2_0_0).toLoadRect) (View.readAt (Elt Ideal) (ms0_7 t).view (Rect.unit (s := S4x1x512) ![2, 0, 0] S1x1x512.size inb_S4x1x512_S1x1x512_2_0_0).toLoadRect ((hs0_7 t).unread x7))⟩ :: lA_2 c t x1 x2 x6 x7

/-- The first 4 stores into the state. -/
abbrev lA_4 (c : Dev nD) (t : Fin cfg0.N) (x1 : Vec Ideal S1x1024x1024 .bf16) (x2 : Vec Ideal S1x1024x2048 .bf16) (x6 : Vec Ideal S4x128x256 .f32) (x7 : Vec Ideal S4x1x512 .f32)  : List (View.Piece (Elt Ideal) S4x256x512 .f32) :=
  ⟨(Rect.unit (s := S4x256x512) ![3, 0, 0] S1x256x512.size inb_S4x256x512_S1x256x512_3_0_0), upd (View.readAt (Elt Ideal) (ms0_1 t).view (Rect.unit (s := S1x1024x1024) ![0, 0, 768] S1x128x256.size inb_S1x1024x1024_S1x128x256_0_0_768).toLoadRect ((hs0_1 t).unread x1)) (View.readAt (Elt Ideal) (ms0_2 t).view (Rect.unit (s := S1x1024x2048) ![0, 0, 1536] S1x128x512.size inb_S1x1024x2048_S1x128x512_0_0_1536).toLoadRect ((hs0_2 t).unread x2)) (View.readAt (Elt Ideal) (ms0_6 t).view (Rect.unit (s := S4x128x256) ![3, 0, 0] S1x128x256.size inb_S4x128x256_S1x128x256_3_0_0).toLoadRect ((hs0_6 t).unread x6)) (scM0_0.view.readCov (Val := Elt Ideal) (lA_3 c t x1 x2 x6 x7) (Rect.unit (s := S4x256x512) ![3, 0, 0] S1x256x512.size inb_S4x256x512_S1x256x512_3_0_0).toLoadRect) (View.readAt (Elt Ideal) (ms0_7 t).view (Rect.unit (s := S4x1x512) ![3, 0, 0] S1x1x512.size inb_S4x1x512_S1x1x512_3_0_0).toLoadRect ((hs0_7 t).unread x7))⟩ :: lA_3 c t x1 x2 x6 x7

/-- The state after it is zeroed. -/
theorem cA_0 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 0 (lA_0 c t x1 x2 x6 x7) := fun h a b _ => by
  rw [show (0 + 3 - h.val) / 4 = 0 by omega]
  refine (congrFun (View.canon_cons_unit_lit (Val := Elt Ideal) (S := S4x256x512) (e := .f32) inb_S4x256x512_S4x256x512_0_0_0 (k0_pay2 (F := Ideal)) [] (by decide)) _).trans ?_
  show _ = (0 : EReal)
  pointwise [k0_pay2]

/-- The state after 1 stores. -/
theorem cA_1 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 1 (lA_1 c t x1 x2 x6 x7) :=
  step 4 0 (by decide) ⟨0, by decide⟩ ⟨0, by decide⟩ (by decide) (ms0_1 t) (hs0_1 t) (ms0_2 t) (hs0_2 t) (ms0_6 t) (hs0_6 t) (ms0_7 t) (hs0_7 t) inb_S1x1024x1024_S1x128x256_0_0_0 inb_S1x1024x2048_S1x128x512_0_0_0 inb_S4x128x256_S1x128x256_0_0_0 inb_S4x1x512_S1x1x512_0_0_0 inb_S4x256x512_S1x256x512_0_0_0 (lA_0 c t x1 x2 x6 x7) (scM0_0.view.readCov (Val := Elt Ideal) (lA_0 c t x1 x2 x6 x7) (Rect.unit (s := S4x256x512) ![0, 0, 0] S1x256x512.size inb_S4x256x512_S1x256x512_0_0_0).toLoadRect) (load 4 0 0 ⟨0, by decide⟩ (lA_0 c t x1 x2 x6 x7) (cA_0 c t x1 x2 x6 x7) inb_S4x256x512_S1x256x512_0_0_0 (by decide) (by decide)) (cA_0 c t x1 x2 x6 x7)

/-- The state after 2 stores. -/
theorem cA_2 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 2 (lA_2 c t x1 x2 x6 x7) :=
  step 4 1 (by decide) ⟨0, by decide⟩ ⟨1, by decide⟩ (by decide) (ms0_1 t) (hs0_1 t) (ms0_2 t) (hs0_2 t) (ms0_6 t) (hs0_6 t) (ms0_7 t) (hs0_7 t) inb_S1x1024x1024_S1x128x256_0_0_256 inb_S1x1024x2048_S1x128x512_0_0_512 inb_S4x128x256_S1x128x256_1_0_0 inb_S4x1x512_S1x1x512_1_0_0 inb_S4x256x512_S1x256x512_1_0_0 (lA_1 c t x1 x2 x6 x7) (scM0_0.view.readCov (Val := Elt Ideal) (lA_1 c t x1 x2 x6 x7) (Rect.unit (s := S4x256x512) ![1, 0, 0] S1x256x512.size inb_S4x256x512_S1x256x512_1_0_0).toLoadRect) (load 4 1 0 ⟨1, by decide⟩ (lA_1 c t x1 x2 x6 x7) (cA_1 c t x1 x2 x6 x7) inb_S4x256x512_S1x256x512_1_0_0 (by decide) (by decide)) (cA_1 c t x1 x2 x6 x7)

/-- The state after 3 stores. -/
theorem cA_3 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 3 (lA_3 c t x1 x2 x6 x7) :=
  step 4 2 (by decide) ⟨0, by decide⟩ ⟨2, by decide⟩ (by decide) (ms0_1 t) (hs0_1 t) (ms0_2 t) (hs0_2 t) (ms0_6 t) (hs0_6 t) (ms0_7 t) (hs0_7 t) inb_S1x1024x1024_S1x128x256_0_0_512 inb_S1x1024x2048_S1x128x512_0_0_1024 inb_S4x128x256_S1x128x256_2_0_0 inb_S4x1x512_S1x1x512_2_0_0 inb_S4x256x512_S1x256x512_2_0_0 (lA_2 c t x1 x2 x6 x7) (scM0_0.view.readCov (Val := Elt Ideal) (lA_2 c t x1 x2 x6 x7) (Rect.unit (s := S4x256x512) ![2, 0, 0] S1x256x512.size inb_S4x256x512_S1x256x512_2_0_0).toLoadRect) (load 4 2 0 ⟨2, by decide⟩ (lA_2 c t x1 x2 x6 x7) (cA_2 c t x1 x2 x6 x7) inb_S4x256x512_S1x256x512_2_0_0 (by decide) (by decide)) (cA_2 c t x1 x2 x6 x7)

/-- The state after 4 stores. -/
theorem cA_4 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 4 (lA_4 c t x1 x2 x6 x7) :=
  step 4 3 (by decide) ⟨0, by decide⟩ ⟨3, by decide⟩ (by decide) (ms0_1 t) (hs0_1 t) (ms0_2 t) (hs0_2 t) (ms0_6 t) (hs0_6 t) (ms0_7 t) (hs0_7 t) inb_S1x1024x1024_S1x128x256_0_0_768 inb_S1x1024x2048_S1x128x512_0_0_1536 inb_S4x128x256_S1x128x256_3_0_0 inb_S4x1x512_S1x1x512_3_0_0 inb_S4x256x512_S1x256x512_3_0_0 (lA_3 c t x1 x2 x6 x7) (scM0_0.view.readCov (Val := Elt Ideal) (lA_3 c t x1 x2 x6 x7) (Rect.unit (s := S4x256x512) ![3, 0, 0] S1x256x512.size inb_S4x256x512_S1x256x512_3_0_0).toLoadRect) (load 4 3 0 ⟨3, by decide⟩ (lA_3 c t x1 x2 x6 x7) (cA_3 c t x1 x2 x6 x7) inb_S4x256x512_S1x256x512_3_0_0 (by decide) (by decide)) (cA_3 c t x1 x2 x6 x7)

/-- The state after 5 stores. -/
theorem cA_5 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 5 ((kernelRun0_A.sl.HS0_6 (F := Ideal) c (ms0_1 t) (hs0_1 t) (ms0_2 t) (hs0_2 t) (ms0_6 t) (hs0_6 t) (ms0_7 t) (hs0_7 t) scM0_0 x1 x2 x6 x7)) :=
  step 4 4 (by decide) ⟨1, by decide⟩ ⟨0, by decide⟩ (by decide) (ms0_1 t) (hs0_1 t) (ms0_2 t) (hs0_2 t) (ms0_6 t) (hs0_6 t) (ms0_7 t) (hs0_7 t) inb_S1x1024x1024_S1x128x256_0_128_0 inb_S1x1024x2048_S1x128x512_0_128_0 inb_S4x128x256_S1x128x256_0_0_0 inb_S4x1x512_S1x1x512_0_0_0 inb_S4x256x512_S1x256x512_0_0_0 ((kernelRun0_A.sl.HS0_5 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 4 1 ⟨0, by decide⟩ ((kernelRun0_A.sl.HS0_5 (F := Ideal) c (ms0_1 t) (hs0_1 t) (ms0_2 t) (hs0_2 t) (ms0_6 t) (hs0_6 t) (ms0_7 t) (hs0_7 t) scM0_0 x1 x2 x6 x7)) (cA_4 c t x1 x2 x6 x7) inb_S4x256x512_S1x256x512_0_0_0 (by decide) (by decide)) (cA_4 c t x1 x2 x6 x7)

/-- The state after 6 stores. -/
theorem cA_6 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 6 ((kernelRun0_A.sl.HS0_7 (F := Ideal) c (ms0_1 t) (hs0_1 t) (ms0_2 t) (hs0_2 t) (ms0_6 t) (hs0_6 t) (ms0_7 t) (hs0_7 t) scM0_0 x1 x2 x6 x7)) :=
  step 4 5 (by decide) ⟨1, by decide⟩ ⟨1, by decide⟩ (by decide) (ms0_1 t) (hs0_1 t) (ms0_2 t) (hs0_2 t) (ms0_6 t) (hs0_6 t) (ms0_7 t) (hs0_7 t) inb_S1x1024x1024_S1x128x256_0_128_256 inb_S1x1024x2048_S1x128x512_0_128_512 inb_S4x128x256_S1x128x256_1_0_0 inb_S4x1x512_S1x1x512_1_0_0 inb_S4x256x512_S1x256x512_1_0_0 ((kernelRun0_A.sl.HS0_6 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_6 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 5 1 ⟨1, by decide⟩ ((kernelRun0_A.sl.HS0_6 (F := Ideal) c (ms0_1 t) (hs0_1 t) (ms0_2 t) (hs0_2 t) (ms0_6 t) (hs0_6 t) (ms0_7 t) (hs0_7 t) scM0_0 x1 x2 x6 x7)) (cA_5 c t x1 x2 x6 x7) inb_S4x256x512_S1x256x512_1_0_0 (by decide) (by decide)) (cA_5 c t x1 x2 x6 x7)

/-- The state after 7 stores. -/
theorem cA_7 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 7 ((kernelRun0_A.sl.HS0_8 (F := Ideal) c (ms0_1 t) (hs0_1 t) (ms0_2 t) (hs0_2 t) (ms0_6 t) (hs0_6 t) (ms0_7 t) (hs0_7 t) scM0_0 x1 x2 x6 x7)) :=
  step 4 6 (by decide) ⟨1, by decide⟩ ⟨2, by decide⟩ (by decide) (ms0_1 t) (hs0_1 t) (ms0_2 t) (hs0_2 t) (ms0_6 t) (hs0_6 t) (ms0_7 t) (hs0_7 t) inb_S1x1024x1024_S1x128x256_0_128_512 inb_S1x1024x2048_S1x128x512_0_128_1024 inb_S4x128x256_S1x128x256_2_0_0 inb_S4x1x512_S1x1x512_2_0_0 inb_S4x256x512_S1x256x512_2_0_0 ((kernelRun0_A.sl.HS0_7 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_7 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 6 1 ⟨2, by decide⟩ ((kernelRun0_A.sl.HS0_7 (F := Ideal) c (ms0_1 t) (hs0_1 t) (ms0_2 t) (hs0_2 t) (ms0_6 t) (hs0_6 t) (ms0_7 t) (hs0_7 t) scM0_0 x1 x2 x6 x7)) (cA_6 c t x1 x2 x6 x7) inb_S4x256x512_S1x256x512_2_0_0 (by decide) (by decide)) (cA_6 c t x1 x2 x6 x7)

/-- The state after 8 stores. -/
theorem cA_8 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 8 ((kernelRun0_A.sl.HS0_9 (F := Ideal) c (ms0_1 t) (hs0_1 t) (ms0_2 t) (hs0_2 t) (ms0_6 t) (hs0_6 t) (ms0_7 t) (hs0_7 t) scM0_0 x1 x2 x6 x7)) :=
  step 4 7 (by decide) ⟨1, by decide⟩ ⟨3, by decide⟩ (by decide) (ms0_1 t) (hs0_1 t) (ms0_2 t) (hs0_2 t) (ms0_6 t) (hs0_6 t) (ms0_7 t) (hs0_7 t) inb_S1x1024x1024_S1x128x256_0_128_768 inb_S1x1024x2048_S1x128x512_0_128_1536 inb_S4x128x256_S1x128x256_3_0_0 inb_S4x1x512_S1x1x512_3_0_0 inb_S4x256x512_S1x256x512_3_0_0 ((kernelRun0_A.sl.HS0_8 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_8 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 7 1 ⟨3, by decide⟩ ((kernelRun0_A.sl.HS0_8 (F := Ideal) c (ms0_1 t) (hs0_1 t) (ms0_2 t) (hs0_2 t) (ms0_6 t) (hs0_6 t) (ms0_7 t) (hs0_7 t) scM0_0 x1 x2 x6 x7)) (cA_7 c t x1 x2 x6 x7) inb_S4x256x512_S1x256x512_3_0_0 (by decide) (by decide)) (cA_7 c t x1 x2 x6 x7)

/-- The state after 9 stores. -/
theorem cA_9 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 9 ((kernelRun0_A.sl.HS0_10 (F := Ideal) c (ms0_1 t) (hs0_1 t) (ms0_2 t) (hs0_2 t) (ms0_6 t) (hs0_6 t) (ms0_7 t) (hs0_7 t) scM0_0 x1 x2 x6 x7)) :=
  step 4 8 (by decide) ⟨2, by decide⟩ ⟨0, by decide⟩ (by decide) (ms0_1 t) (hs0_1 t) (ms0_2 t) (hs0_2 t) (ms0_6 t) (hs0_6 t) (ms0_7 t) (hs0_7 t) inb_S1x1024x1024_S1x128x256_0_256_0 inb_S1x1024x2048_S1x128x512_0_256_0 inb_S4x128x256_S1x128x256_0_0_0 inb_S4x1x512_S1x1x512_0_0_0 inb_S4x256x512_S1x256x512_0_0_0 ((kernelRun0_A.sl.HS0_9 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 8 2 ⟨0, by decide⟩ ((kernelRun0_A.sl.HS0_9 (F := Ideal) c (ms0_1 t) (hs0_1 t) (ms0_2 t) (hs0_2 t) (ms0_6 t) (hs0_6 t) (ms0_7 t) (hs0_7 t) scM0_0 x1 x2 x6 x7)) (cA_8 c t x1 x2 x6 x7) inb_S4x256x512_S1x256x512_0_0_0 (by decide) (by decide)) (cA_8 c t x1 x2 x6 x7)

/-- The state after 10 stores. -/
theorem cA_10 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 10 ((kernelRun0_A.sl.HS0_11 (F := Ideal) c (ms0_1 t) (hs0_1 t) (ms0_2 t) (hs0_2 t) (ms0_6 t) (hs0_6 t) (ms0_7 t) (hs0_7 t) scM0_0 x1 x2 x6 x7)) :=
  step 4 9 (by decide) ⟨2, by decide⟩ ⟨1, by decide⟩ (by decide) (ms0_1 t) (hs0_1 t) (ms0_2 t) (hs0_2 t) (ms0_6 t) (hs0_6 t) (ms0_7 t) (hs0_7 t) inb_S1x1024x1024_S1x128x256_0_256_256 inb_S1x1024x2048_S1x128x512_0_256_512 inb_S4x128x256_S1x128x256_1_0_0 inb_S4x1x512_S1x1x512_1_0_0 inb_S4x256x512_S1x256x512_1_0_0 ((kernelRun0_A.sl.HS0_10 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_10 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 9 2 ⟨1, by decide⟩ ((kernelRun0_A.sl.HS0_10 (F := Ideal) c (ms0_1 t) (hs0_1 t) (ms0_2 t) (hs0_2 t) (ms0_6 t) (hs0_6 t) (ms0_7 t) (hs0_7 t) scM0_0 x1 x2 x6 x7)) (cA_9 c t x1 x2 x6 x7) inb_S4x256x512_S1x256x512_1_0_0 (by decide) (by decide)) (cA_9 c t x1 x2 x6 x7)

/-- The state after 11 stores. -/
theorem cA_11 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 11 ((kernelRun0_A.sl.HS0_12 (F := Ideal) c (ms0_1 t) (hs0_1 t) (ms0_2 t) (hs0_2 t) (ms0_6 t) (hs0_6 t) (ms0_7 t) (hs0_7 t) scM0_0 x1 x2 x6 x7)) :=
  step 4 10 (by decide) ⟨2, by decide⟩ ⟨2, by decide⟩ (by decide) (ms0_1 t) (hs0_1 t) (ms0_2 t) (hs0_2 t) (ms0_6 t) (hs0_6 t) (ms0_7 t) (hs0_7 t) inb_S1x1024x1024_S1x128x256_0_256_512 inb_S1x1024x2048_S1x128x512_0_256_1024 inb_S4x128x256_S1x128x256_2_0_0 inb_S4x1x512_S1x1x512_2_0_0 inb_S4x256x512_S1x256x512_2_0_0 ((kernelRun0_A.sl.HS0_11 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_11 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 10 2 ⟨2, by decide⟩ ((kernelRun0_A.sl.HS0_11 (F := Ideal) c (ms0_1 t) (hs0_1 t) (ms0_2 t) (hs0_2 t) (ms0_6 t) (hs0_6 t) (ms0_7 t) (hs0_7 t) scM0_0 x1 x2 x6 x7)) (cA_10 c t x1 x2 x6 x7) inb_S4x256x512_S1x256x512_2_0_0 (by decide) (by decide)) (cA_10 c t x1 x2 x6 x7)

/-- The state after 12 stores. -/
theorem cA_12 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 12 ((kernelRun0_A.sl.HS0_13 (F := Ideal) c (ms0_1 t) (hs0_1 t) (ms0_2 t) (hs0_2 t) (ms0_6 t) (hs0_6 t) (ms0_7 t) (hs0_7 t) scM0_0 x1 x2 x6 x7)) :=
  step 4 11 (by decide) ⟨2, by decide⟩ ⟨3, by decide⟩ (by decide) (ms0_1 t) (hs0_1 t) (ms0_2 t) (hs0_2 t) (ms0_6 t) (hs0_6 t) (ms0_7 t) (hs0_7 t) inb_S1x1024x1024_S1x128x256_0_256_768 inb_S1x1024x2048_S1x128x512_0_256_1536 inb_S4x128x256_S1x128x256_3_0_0 inb_S4x1x512_S1x1x512_3_0_0 inb_S4x256x512_S1x256x512_3_0_0 ((kernelRun0_A.sl.HS0_12 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_12 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 11 2 ⟨3, by decide⟩ ((kernelRun0_A.sl.HS0_12 (F := Ideal) c (ms0_1 t) (hs0_1 t) (ms0_2 t) (hs0_2 t) (ms0_6 t) (hs0_6 t) (ms0_7 t) (hs0_7 t) scM0_0 x1 x2 x6 x7)) (cA_11 c t x1 x2 x6 x7) inb_S4x256x512_S1x256x512_3_0_0 (by decide) (by decide)) (cA_11 c t x1 x2 x6 x7)

/-- The state after 13 stores. -/
theorem cA_13 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 13 ((kernelRun0_A.sl.HS0_14 (F := Ideal) c (ms0_1 t) (hs0_1 t) (ms0_2 t) (hs0_2 t) (ms0_6 t) (hs0_6 t) (ms0_7 t) (hs0_7 t) scM0_0 x1 x2 x6 x7)) :=
  step 4 12 (by decide) ⟨3, by decide⟩ ⟨0, by decide⟩ (by decide) (ms0_1 t) (hs0_1 t) (ms0_2 t) (hs0_2 t) (ms0_6 t) (hs0_6 t) (ms0_7 t) (hs0_7 t) inb_S1x1024x1024_S1x128x256_0_384_0 inb_S1x1024x2048_S1x128x512_0_384_0 inb_S4x128x256_S1x128x256_0_0_0 inb_S4x1x512_S1x1x512_0_0_0 inb_S4x256x512_S1x256x512_0_0_0 ((kernelRun0_A.sl.HS0_13 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 12 3 ⟨0, by decide⟩ ((kernelRun0_A.sl.HS0_13 (F := Ideal) c (ms0_1 t) (hs0_1 t) (ms0_2 t) (hs0_2 t) (ms0_6 t) (hs0_6 t) (ms0_7 t) (hs0_7 t) scM0_0 x1 x2 x6 x7)) (cA_12 c t x1 x2 x6 x7) inb_S4x256x512_S1x256x512_0_0_0 (by decide) (by decide)) (cA_12 c t x1 x2 x6 x7)

/-- The state after 14 stores. -/
theorem cA_14 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 14 ((kernelRun0_A.sl.HS0_15 (F := Ideal) c (ms0_1 t) (hs0_1 t) (ms0_2 t) (hs0_2 t) (ms0_6 t) (hs0_6 t) (ms0_7 t) (hs0_7 t) scM0_0 x1 x2 x6 x7)) :=
  step 4 13 (by decide) ⟨3, by decide⟩ ⟨1, by decide⟩ (by decide) (ms0_1 t) (hs0_1 t) (ms0_2 t) (hs0_2 t) (ms0_6 t) (hs0_6 t) (ms0_7 t) (hs0_7 t) inb_S1x1024x1024_S1x128x256_0_384_256 inb_S1x1024x2048_S1x128x512_0_384_512 inb_S4x128x256_S1x128x256_1_0_0 inb_S4x1x512_S1x1x512_1_0_0 inb_S4x256x512_S1x256x512_1_0_0 ((kernelRun0_A.sl.HS0_14 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_14 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 13 3 ⟨1, by decide⟩ ((kernelRun0_A.sl.HS0_14 (F := Ideal) c (ms0_1 t) (hs0_1 t) (ms0_2 t) (hs0_2 t) (ms0_6 t) (hs0_6 t) (ms0_7 t) (hs0_7 t) scM0_0 x1 x2 x6 x7)) (cA_13 c t x1 x2 x6 x7) inb_S4x256x512_S1x256x512_1_0_0 (by decide) (by decide)) (cA_13 c t x1 x2 x6 x7)

/-- The state after 15 stores. -/
theorem cA_15 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 15 ((kernelRun0_A.sl.HS0_16 (F := Ideal) c (ms0_1 t) (hs0_1 t) (ms0_2 t) (hs0_2 t) (ms0_6 t) (hs0_6 t) (ms0_7 t) (hs0_7 t) scM0_0 x1 x2 x6 x7)) :=
  step 4 14 (by decide) ⟨3, by decide⟩ ⟨2, by decide⟩ (by decide) (ms0_1 t) (hs0_1 t) (ms0_2 t) (hs0_2 t) (ms0_6 t) (hs0_6 t) (ms0_7 t) (hs0_7 t) inb_S1x1024x1024_S1x128x256_0_384_512 inb_S1x1024x2048_S1x128x512_0_384_1024 inb_S4x128x256_S1x128x256_2_0_0 inb_S4x1x512_S1x1x512_2_0_0 inb_S4x256x512_S1x256x512_2_0_0 ((kernelRun0_A.sl.HS0_15 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_15 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 14 3 ⟨2, by decide⟩ ((kernelRun0_A.sl.HS0_15 (F := Ideal) c (ms0_1 t) (hs0_1 t) (ms0_2 t) (hs0_2 t) (ms0_6 t) (hs0_6 t) (ms0_7 t) (hs0_7 t) scM0_0 x1 x2 x6 x7)) (cA_14 c t x1 x2 x6 x7) inb_S4x256x512_S1x256x512_2_0_0 (by decide) (by decide)) (cA_14 c t x1 x2 x6 x7)

/-- The state after 16 stores. -/
theorem cA_16 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 16 ((kernelRun0_A.sl.HS0_17 (F := Ideal) c (ms0_1 t) (hs0_1 t) (ms0_2 t) (hs0_2 t) (ms0_6 t) (hs0_6 t) (ms0_7 t) (hs0_7 t) scM0_0 x1 x2 x6 x7)) :=
  step 4 15 (by decide) ⟨3, by decide⟩ ⟨3, by decide⟩ (by decide) (ms0_1 t) (hs0_1 t) (ms0_2 t) (hs0_2 t) (ms0_6 t) (hs0_6 t) (ms0_7 t) (hs0_7 t) inb_S1x1024x1024_S1x128x256_0_384_768 inb_S1x1024x2048_S1x128x512_0_384_1536 inb_S4x128x256_S1x128x256_3_0_0 inb_S4x1x512_S1x1x512_3_0_0 inb_S4x256x512_S1x256x512_3_0_0 ((kernelRun0_A.sl.HS0_16 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_16 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 15 3 ⟨3, by decide⟩ ((kernelRun0_A.sl.HS0_16 (F := Ideal) c (ms0_1 t) (hs0_1 t) (ms0_2 t) (hs0_2 t) (ms0_6 t) (hs0_6 t) (ms0_7 t) (hs0_7 t) scM0_0 x1 x2 x6 x7)) (cA_15 c t x1 x2 x6 x7) inb_S4x256x512_S1x256x512_3_0_0 (by decide) (by decide)) (cA_15 c t x1 x2 x6 x7)

/-- The state after 17 stores. -/
theorem cA_17 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 17 ((kernelRun0_A.sl.HS0_18 (F := Ideal) c (ms0_1 t) (hs0_1 t) (ms0_2 t) (hs0_2 t) (ms0_6 t) (hs0_6 t) (ms0_7 t) (hs0_7 t) scM0_0 x1 x2 x6 x7)) :=
  step 4 16 (by decide) ⟨4, by decide⟩ ⟨0, by decide⟩ (by decide) (ms0_1 t) (hs0_1 t) (ms0_2 t) (hs0_2 t) (ms0_6 t) (hs0_6 t) (ms0_7 t) (hs0_7 t) inb_S1x1024x1024_S1x128x256_0_512_0 inb_S1x1024x2048_S1x128x512_0_512_0 inb_S4x128x256_S1x128x256_0_0_0 inb_S4x1x512_S1x1x512_0_0_0 inb_S4x256x512_S1x256x512_0_0_0 ((kernelRun0_A.sl.HS0_17 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 16 4 ⟨0, by decide⟩ ((kernelRun0_A.sl.HS0_17 (F := Ideal) c (ms0_1 t) (hs0_1 t) (ms0_2 t) (hs0_2 t) (ms0_6 t) (hs0_6 t) (ms0_7 t) (hs0_7 t) scM0_0 x1 x2 x6 x7)) (cA_16 c t x1 x2 x6 x7) inb_S4x256x512_S1x256x512_0_0_0 (by decide) (by decide)) (cA_16 c t x1 x2 x6 x7)

/-- The state after 18 stores. -/
theorem cA_18 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 18 ((kernelRun0_A.sl.HS0_19 (F := Ideal) c (ms0_1 t) (hs0_1 t) (ms0_2 t) (hs0_2 t) (ms0_6 t) (hs0_6 t) (ms0_7 t) (hs0_7 t) scM0_0 x1 x2 x6 x7)) :=
  step 4 17 (by decide) ⟨4, by decide⟩ ⟨1, by decide⟩ (by decide) (ms0_1 t) (hs0_1 t) (ms0_2 t) (hs0_2 t) (ms0_6 t) (hs0_6 t) (ms0_7 t) (hs0_7 t) inb_S1x1024x1024_S1x128x256_0_512_256 inb_S1x1024x2048_S1x128x512_0_512_512 inb_S4x128x256_S1x128x256_1_0_0 inb_S4x1x512_S1x1x512_1_0_0 inb_S4x256x512_S1x256x512_1_0_0 ((kernelRun0_A.sl.HS0_18 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_18 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 17 4 ⟨1, by decide⟩ ((kernelRun0_A.sl.HS0_18 (F := Ideal) c (ms0_1 t) (hs0_1 t) (ms0_2 t) (hs0_2 t) (ms0_6 t) (hs0_6 t) (ms0_7 t) (hs0_7 t) scM0_0 x1 x2 x6 x7)) (cA_17 c t x1 x2 x6 x7) inb_S4x256x512_S1x256x512_1_0_0 (by decide) (by decide)) (cA_17 c t x1 x2 x6 x7)

/-- The state after 19 stores. -/
theorem cA_19 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 19 ((kernelRun0_A.sl.HS0_20 (F := Ideal) c (ms0_1 t) (hs0_1 t) (ms0_2 t) (hs0_2 t) (ms0_6 t) (hs0_6 t) (ms0_7 t) (hs0_7 t) scM0_0 x1 x2 x6 x7)) :=
  step 4 18 (by decide) ⟨4, by decide⟩ ⟨2, by decide⟩ (by decide) (ms0_1 t) (hs0_1 t) (ms0_2 t) (hs0_2 t) (ms0_6 t) (hs0_6 t) (ms0_7 t) (hs0_7 t) inb_S1x1024x1024_S1x128x256_0_512_512 inb_S1x1024x2048_S1x128x512_0_512_1024 inb_S4x128x256_S1x128x256_2_0_0 inb_S4x1x512_S1x1x512_2_0_0 inb_S4x256x512_S1x256x512_2_0_0 ((kernelRun0_A.sl.HS0_19 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_19 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 18 4 ⟨2, by decide⟩ ((kernelRun0_A.sl.HS0_19 (F := Ideal) c (ms0_1 t) (hs0_1 t) (ms0_2 t) (hs0_2 t) (ms0_6 t) (hs0_6 t) (ms0_7 t) (hs0_7 t) scM0_0 x1 x2 x6 x7)) (cA_18 c t x1 x2 x6 x7) inb_S4x256x512_S1x256x512_2_0_0 (by decide) (by decide)) (cA_18 c t x1 x2 x6 x7)

/-- The state after 20 stores. -/
theorem cA_20 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 20 ((kernelRun0_A.sl.HS0_21 (F := Ideal) c (ms0_1 t) (hs0_1 t) (ms0_2 t) (hs0_2 t) (ms0_6 t) (hs0_6 t) (ms0_7 t) (hs0_7 t) scM0_0 x1 x2 x6 x7)) :=
  step 4 19 (by decide) ⟨4, by decide⟩ ⟨3, by decide⟩ (by decide) (ms0_1 t) (hs0_1 t) (ms0_2 t) (hs0_2 t) (ms0_6 t) (hs0_6 t) (ms0_7 t) (hs0_7 t) inb_S1x1024x1024_S1x128x256_0_512_768 inb_S1x1024x2048_S1x128x512_0_512_1536 inb_S4x128x256_S1x128x256_3_0_0 inb_S4x1x512_S1x1x512_3_0_0 inb_S4x256x512_S1x256x512_3_0_0 ((kernelRun0_A.sl.HS0_20 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_20 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 19 4 ⟨3, by decide⟩ ((kernelRun0_A.sl.HS0_20 (F := Ideal) c (ms0_1 t) (hs0_1 t) (ms0_2 t) (hs0_2 t) (ms0_6 t) (hs0_6 t) (ms0_7 t) (hs0_7 t) scM0_0 x1 x2 x6 x7)) (cA_19 c t x1 x2 x6 x7) inb_S4x256x512_S1x256x512_3_0_0 (by decide) (by decide)) (cA_19 c t x1 x2 x6 x7)

/-- The state after 21 stores. -/
theorem cA_21 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 21 ((kernelRun0_A.sl.HS0_22 (F := Ideal) c (ms0_1 t) (hs0_1 t) (ms0_2 t) (hs0_2 t) (ms0_6 t) (hs0_6 t) (ms0_7 t) (hs0_7 t) scM0_0 x1 x2 x6 x7)) :=
  step 4 20 (by decide) ⟨5, by decide⟩ ⟨0, by decide⟩ (by decide) (ms0_1 t) (hs0_1 t) (ms0_2 t) (hs0_2 t) (ms0_6 t) (hs0_6 t) (ms0_7 t) (hs0_7 t) inb_S1x1024x1024_S1x128x256_0_640_0 inb_S1x1024x2048_S1x128x512_0_640_0 inb_S4x128x256_S1x128x256_0_0_0 inb_S4x1x512_S1x1x512_0_0_0 inb_S4x256x512_S1x256x512_0_0_0 ((kernelRun0_A.sl.HS0_21 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 20 5 ⟨0, by decide⟩ ((kernelRun0_A.sl.HS0_21 (F := Ideal) c (ms0_1 t) (hs0_1 t) (ms0_2 t) (hs0_2 t) (ms0_6 t) (hs0_6 t) (ms0_7 t) (hs0_7 t) scM0_0 x1 x2 x6 x7)) (cA_20 c t x1 x2 x6 x7) inb_S4x256x512_S1x256x512_0_0_0 (by decide) (by decide)) (cA_20 c t x1 x2 x6 x7)

/-- The state after 22 stores. -/
theorem cA_22 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 22 ((kernelRun0_A.sl.HS0_23 (F := Ideal) c (ms0_1 t) (hs0_1 t) (ms0_2 t) (hs0_2 t) (ms0_6 t) (hs0_6 t) (ms0_7 t) (hs0_7 t) scM0_0 x1 x2 x6 x7)) :=
  step 4 21 (by decide) ⟨5, by decide⟩ ⟨1, by decide⟩ (by decide) (ms0_1 t) (hs0_1 t) (ms0_2 t) (hs0_2 t) (ms0_6 t) (hs0_6 t) (ms0_7 t) (hs0_7 t) inb_S1x1024x1024_S1x128x256_0_640_256 inb_S1x1024x2048_S1x128x512_0_640_512 inb_S4x128x256_S1x128x256_1_0_0 inb_S4x1x512_S1x1x512_1_0_0 inb_S4x256x512_S1x256x512_1_0_0 ((kernelRun0_A.sl.HS0_22 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_22 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 21 5 ⟨1, by decide⟩ ((kernelRun0_A.sl.HS0_22 (F := Ideal) c (ms0_1 t) (hs0_1 t) (ms0_2 t) (hs0_2 t) (ms0_6 t) (hs0_6 t) (ms0_7 t) (hs0_7 t) scM0_0 x1 x2 x6 x7)) (cA_21 c t x1 x2 x6 x7) inb_S4x256x512_S1x256x512_1_0_0 (by decide) (by decide)) (cA_21 c t x1 x2 x6 x7)

/-- The state after 23 stores. -/
theorem cA_23 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 23 ((kernelRun0_A.sl.HS0_24 (F := Ideal) c (ms0_1 t) (hs0_1 t) (ms0_2 t) (hs0_2 t) (ms0_6 t) (hs0_6 t) (ms0_7 t) (hs0_7 t) scM0_0 x1 x2 x6 x7)) :=
  step 4 22 (by decide) ⟨5, by decide⟩ ⟨2, by decide⟩ (by decide) (ms0_1 t) (hs0_1 t) (ms0_2 t) (hs0_2 t) (ms0_6 t) (hs0_6 t) (ms0_7 t) (hs0_7 t) inb_S1x1024x1024_S1x128x256_0_640_512 inb_S1x1024x2048_S1x128x512_0_640_1024 inb_S4x128x256_S1x128x256_2_0_0 inb_S4x1x512_S1x1x512_2_0_0 inb_S4x256x512_S1x256x512_2_0_0 ((kernelRun0_A.sl.HS0_23 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_23 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 22 5 ⟨2, by decide⟩ ((kernelRun0_A.sl.HS0_23 (F := Ideal) c (ms0_1 t) (hs0_1 t) (ms0_2 t) (hs0_2 t) (ms0_6 t) (hs0_6 t) (ms0_7 t) (hs0_7 t) scM0_0 x1 x2 x6 x7)) (cA_22 c t x1 x2 x6 x7) inb_S4x256x512_S1x256x512_2_0_0 (by decide) (by decide)) (cA_22 c t x1 x2 x6 x7)

/-- The state after 24 stores. -/
theorem cA_24 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 24 ((kernelRun0_A.sl.HS0_25 (F := Ideal) c (ms0_1 t) (hs0_1 t) (ms0_2 t) (hs0_2 t) (ms0_6 t) (hs0_6 t) (ms0_7 t) (hs0_7 t) scM0_0 x1 x2 x6 x7)) :=
  step 4 23 (by decide) ⟨5, by decide⟩ ⟨3, by decide⟩ (by decide) (ms0_1 t) (hs0_1 t) (ms0_2 t) (hs0_2 t) (ms0_6 t) (hs0_6 t) (ms0_7 t) (hs0_7 t) inb_S1x1024x1024_S1x128x256_0_640_768 inb_S1x1024x2048_S1x128x512_0_640_1536 inb_S4x128x256_S1x128x256_3_0_0 inb_S4x1x512_S1x1x512_3_0_0 inb_S4x256x512_S1x256x512_3_0_0 ((kernelRun0_A.sl.HS0_24 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_24 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 23 5 ⟨3, by decide⟩ ((kernelRun0_A.sl.HS0_24 (F := Ideal) c (ms0_1 t) (hs0_1 t) (ms0_2 t) (hs0_2 t) (ms0_6 t) (hs0_6 t) (ms0_7 t) (hs0_7 t) scM0_0 x1 x2 x6 x7)) (cA_23 c t x1 x2 x6 x7) inb_S4x256x512_S1x256x512_3_0_0 (by decide) (by decide)) (cA_23 c t x1 x2 x6 x7)

/-- The state after 25 stores. -/
theorem cA_25 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 25 ((kernelRun0_A.sl.HS0_26 (F := Ideal) c (ms0_1 t) (hs0_1 t) (ms0_2 t) (hs0_2 t) (ms0_6 t) (hs0_6 t) (ms0_7 t) (hs0_7 t) scM0_0 x1 x2 x6 x7)) :=
  step 4 24 (by decide) ⟨6, by decide⟩ ⟨0, by decide⟩ (by decide) (ms0_1 t) (hs0_1 t) (ms0_2 t) (hs0_2 t) (ms0_6 t) (hs0_6 t) (ms0_7 t) (hs0_7 t) inb_S1x1024x1024_S1x128x256_0_768_0 inb_S1x1024x2048_S1x128x512_0_768_0 inb_S4x128x256_S1x128x256_0_0_0 inb_S4x1x512_S1x1x512_0_0_0 inb_S4x256x512_S1x256x512_0_0_0 ((kernelRun0_A.sl.HS0_25 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 24 6 ⟨0, by decide⟩ ((kernelRun0_A.sl.HS0_25 (F := Ideal) c (ms0_1 t) (hs0_1 t) (ms0_2 t) (hs0_2 t) (ms0_6 t) (hs0_6 t) (ms0_7 t) (hs0_7 t) scM0_0 x1 x2 x6 x7)) (cA_24 c t x1 x2 x6 x7) inb_S4x256x512_S1x256x512_0_0_0 (by decide) (by decide)) (cA_24 c t x1 x2 x6 x7)

/-- The state after 26 stores. -/
theorem cA_26 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 26 ((kernelRun0_A.sl.HS0_27 (F := Ideal) c (ms0_1 t) (hs0_1 t) (ms0_2 t) (hs0_2 t) (ms0_6 t) (hs0_6 t) (ms0_7 t) (hs0_7 t) scM0_0 x1 x2 x6 x7)) :=
  step 4 25 (by decide) ⟨6, by decide⟩ ⟨1, by decide⟩ (by decide) (ms0_1 t) (hs0_1 t) (ms0_2 t) (hs0_2 t) (ms0_6 t) (hs0_6 t) (ms0_7 t) (hs0_7 t) inb_S1x1024x1024_S1x128x256_0_768_256 inb_S1x1024x2048_S1x128x512_0_768_512 inb_S4x128x256_S1x128x256_1_0_0 inb_S4x1x512_S1x1x512_1_0_0 inb_S4x256x512_S1x256x512_1_0_0 ((kernelRun0_A.sl.HS0_26 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_26 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 25 6 ⟨1, by decide⟩ ((kernelRun0_A.sl.HS0_26 (F := Ideal) c (ms0_1 t) (hs0_1 t) (ms0_2 t) (hs0_2 t) (ms0_6 t) (hs0_6 t) (ms0_7 t) (hs0_7 t) scM0_0 x1 x2 x6 x7)) (cA_25 c t x1 x2 x6 x7) inb_S4x256x512_S1x256x512_1_0_0 (by decide) (by decide)) (cA_25 c t x1 x2 x6 x7)

/-- The state after 27 stores. -/
theorem cA_27 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 27 ((kernelRun0_A.sl.HS0_28 (F := Ideal) c (ms0_1 t) (hs0_1 t) (ms0_2 t) (hs0_2 t) (ms0_6 t) (hs0_6 t) (ms0_7 t) (hs0_7 t) scM0_0 x1 x2 x6 x7)) :=
  step 4 26 (by decide) ⟨6, by decide⟩ ⟨2, by decide⟩ (by decide) (ms0_1 t) (hs0_1 t) (ms0_2 t) (hs0_2 t) (ms0_6 t) (hs0_6 t) (ms0_7 t) (hs0_7 t) inb_S1x1024x1024_S1x128x256_0_768_512 inb_S1x1024x2048_S1x128x512_0_768_1024 inb_S4x128x256_S1x128x256_2_0_0 inb_S4x1x512_S1x1x512_2_0_0 inb_S4x256x512_S1x256x512_2_0_0 ((kernelRun0_A.sl.HS0_27 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_27 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 26 6 ⟨2, by decide⟩ ((kernelRun0_A.sl.HS0_27 (F := Ideal) c (ms0_1 t) (hs0_1 t) (ms0_2 t) (hs0_2 t) (ms0_6 t) (hs0_6 t) (ms0_7 t) (hs0_7 t) scM0_0 x1 x2 x6 x7)) (cA_26 c t x1 x2 x6 x7) inb_S4x256x512_S1x256x512_2_0_0 (by decide) (by decide)) (cA_26 c t x1 x2 x6 x7)

/-- The state after 28 stores. -/
theorem cA_28 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 28 ((kernelRun0_A.sl.HS0_29 (F := Ideal) c (ms0_1 t) (hs0_1 t) (ms0_2 t) (hs0_2 t) (ms0_6 t) (hs0_6 t) (ms0_7 t) (hs0_7 t) scM0_0 x1 x2 x6 x7)) :=
  step 4 27 (by decide) ⟨6, by decide⟩ ⟨3, by decide⟩ (by decide) (ms0_1 t) (hs0_1 t) (ms0_2 t) (hs0_2 t) (ms0_6 t) (hs0_6 t) (ms0_7 t) (hs0_7 t) inb_S1x1024x1024_S1x128x256_0_768_768 inb_S1x1024x2048_S1x128x512_0_768_1536 inb_S4x128x256_S1x128x256_3_0_0 inb_S4x1x512_S1x1x512_3_0_0 inb_S4x256x512_S1x256x512_3_0_0 ((kernelRun0_A.sl.HS0_28 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_28 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 27 6 ⟨3, by decide⟩ ((kernelRun0_A.sl.HS0_28 (F := Ideal) c (ms0_1 t) (hs0_1 t) (ms0_2 t) (hs0_2 t) (ms0_6 t) (hs0_6 t) (ms0_7 t) (hs0_7 t) scM0_0 x1 x2 x6 x7)) (cA_27 c t x1 x2 x6 x7) inb_S4x256x512_S1x256x512_3_0_0 (by decide) (by decide)) (cA_27 c t x1 x2 x6 x7)

/-- The state after 29 stores. -/
theorem cA_29 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 29 ((kernelRun0_A.sl.HS0_30 (F := Ideal) c (ms0_1 t) (hs0_1 t) (ms0_2 t) (hs0_2 t) (ms0_6 t) (hs0_6 t) (ms0_7 t) (hs0_7 t) scM0_0 x1 x2 x6 x7)) :=
  step 4 28 (by decide) ⟨7, by decide⟩ ⟨0, by decide⟩ (by decide) (ms0_1 t) (hs0_1 t) (ms0_2 t) (hs0_2 t) (ms0_6 t) (hs0_6 t) (ms0_7 t) (hs0_7 t) inb_S1x1024x1024_S1x128x256_0_896_0 inb_S1x1024x2048_S1x128x512_0_896_0 inb_S4x128x256_S1x128x256_0_0_0 inb_S4x1x512_S1x1x512_0_0_0 inb_S4x256x512_S1x256x512_0_0_0 ((kernelRun0_A.sl.HS0_29 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 28 7 ⟨0, by decide⟩ ((kernelRun0_A.sl.HS0_29 (F := Ideal) c (ms0_1 t) (hs0_1 t) (ms0_2 t) (hs0_2 t) (ms0_6 t) (hs0_6 t) (ms0_7 t) (hs0_7 t) scM0_0 x1 x2 x6 x7)) (cA_28 c t x1 x2 x6 x7) inb_S4x256x512_S1x256x512_0_0_0 (by decide) (by decide)) (cA_28 c t x1 x2 x6 x7)

/-- The state after 30 stores. -/
theorem cA_30 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 30 ((kernelRun0_A.sl.HS0_31 (F := Ideal) c (ms0_1 t) (hs0_1 t) (ms0_2 t) (hs0_2 t) (ms0_6 t) (hs0_6 t) (ms0_7 t) (hs0_7 t) scM0_0 x1 x2 x6 x7)) :=
  step 4 29 (by decide) ⟨7, by decide⟩ ⟨1, by decide⟩ (by decide) (ms0_1 t) (hs0_1 t) (ms0_2 t) (hs0_2 t) (ms0_6 t) (hs0_6 t) (ms0_7 t) (hs0_7 t) inb_S1x1024x1024_S1x128x256_0_896_256 inb_S1x1024x2048_S1x128x512_0_896_512 inb_S4x128x256_S1x128x256_1_0_0 inb_S4x1x512_S1x1x512_1_0_0 inb_S4x256x512_S1x256x512_1_0_0 ((kernelRun0_A.sl.HS0_30 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_30 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 29 7 ⟨1, by decide⟩ ((kernelRun0_A.sl.HS0_30 (F := Ideal) c (ms0_1 t) (hs0_1 t) (ms0_2 t) (hs0_2 t) (ms0_6 t) (hs0_6 t) (ms0_7 t) (hs0_7 t) scM0_0 x1 x2 x6 x7)) (cA_29 c t x1 x2 x6 x7) inb_S4x256x512_S1x256x512_1_0_0 (by decide) (by decide)) (cA_29 c t x1 x2 x6 x7)

/-- The state after 31 stores. -/
theorem cA_31 (c : Dev nD) (t : Fin cfg0.N) (x1 : Vec Ideal S1x1024x1024 .bf16) (x2 : Vec Ideal S1x1024x2048 .bf16) (x6 : Vec Ideal S4x128x256 .f32) (x7 : Vec Ideal S4x1x512 .f32)  : Claim x1 x2 x6 x7 (fun _ _ _ => 0) 4 31 ((kernelRun0_A.sl.HS0_32 (F := Ideal) c (ms0_1 t) (hs0_1 t) (ms0_2 t) (hs0_2 t) (ms0_6 t) (hs0_6 t) (ms0_7 t) (hs0_7 t) scM0_0 x1 x2 x6 x7)) :=
  step 4 30 (by decide) ⟨7, by decide⟩ ⟨2, by decide⟩ (by decide) (ms0_1 t) (hs0_1 t) (ms0_2 t) (hs0_2 t) (ms0_6 t) (hs0_6 t) (ms0_7 t) (hs0_7 t) inb_S1x1024x1024_S1x128x256_0_896_512 inb_S1x1024x2048_S1x128x512_0_896_1024 inb_S4x128x256_S1x128x256_2_0_0 inb_S4x1x512_S1x1x512_2_0_0 inb_S4x256x512_S1x256x512_2_0_0 ((kernelRun0_A.sl.HS0_31 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_31 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 30 7 ⟨2, by decide⟩ ((kernelRun0_A.sl.HS0_31 (F := Ideal) c (ms0_1 t) (hs0_1 t) (ms0_2 t) (hs0_2 t) (ms0_6 t) (hs0_6 t) (ms0_7 t) (hs0_7 t) scM0_0 x1 x2 x6 x7)) (cA_30 c t x1 x2 x6 x7) inb_S4x256x512_S1x256x512_2_0_0 (by decide) (by decide)) (cA_30 c t x1 x2 x6 x7)

/-- The state after the point. -/
theorem cA_32 (c : Dev nD) (t : Fin cfg0.N) (h0 : t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32)  : Claim x1 x2 x6 x7 (fun _ _ _ => 0) 4 32 ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5 x6 x7).2.1) :=
  step 4 31 (by decide) ⟨7, by decide⟩ ⟨3, by decide⟩ (by decide) (ms0_1 t) (hs0_1 t) (ms0_2 t) (hs0_2 t) (ms0_6 t) (hs0_6 t) (ms0_7 t) (hs0_7 t) inb_S1x1024x1024_S1x128x256_0_896_768 inb_S1x1024x2048_S1x128x512_0_896_1536 inb_S4x128x256_S1x128x256_3_0_0 inb_S4x1x512_S1x1x512_3_0_0 inb_S4x256x512_S1x256x512_3_0_0 ((kernelRun0_A.sl.HS0_32 (F := Ideal) c (ms0_1 t) (hs0_1 t) (ms0_2 t) (hs0_2 t) (ms0_6 t) (hs0_6 t) (ms0_7 t) (hs0_7 t) scM0_0 x1 x2 x6 x7)) (scM0_0.view.readCov (Val := Elt Ideal) ((kernelRun0_A.sl.HS0_32 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 31 7 ⟨3, by decide⟩ ((kernelRun0_A.sl.HS0_32 (F := Ideal) c (ms0_1 t) (hs0_1 t) (ms0_2 t) (hs0_2 t) (ms0_6 t) (hs0_6 t) (ms0_7 t) (hs0_7 t) scM0_0 x1 x2 x6 x7)) (cA_31 c t x1 x2 x6 x7) inb_S4x256x512_S1x256x512_3_0_0 (by decide) (by decide)) (cA_31 c t x1 x2 x6 x7)

end Cert.RetIdeal.Hand

end
-- ==== Proof.RetPointA.lean ====
/- The retention call: the output of an even grid point, read at an index. -/
module

public import proofs.«01_k».proof.Proof.RetOut
public import proofs.«01_k».proof.Proof.RetStateA
public import Idealize.ShloMosaic.Lib.Pipeline.ReadBack

@[expose] public section

set_option maxRecDepth 16384

noncomputable section

namespace Cert.RetIdeal.Hand

open Cert.RetIdeal Cert.RetIdeal.Gen Idealize.ShloMosaic Idealize.ShloMosaic.TcCoe Cert.Rows

set_option maxHeartbeats 2000000 in
/-- The point's stores are blocks of its output. -/
theorem piecesA (c : Dev nD) (t : Fin cfg0.N) (h0 : t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32)  :
    View.PiecesOf (Val := Elt Ideal) (e := .bf16) (oG x0 x1 x2 x3 x4 x5 (stL x1 x2 x6 x7 (fun _ _ _ => 0))) [
      ⟨(Rect.unit (s := S1x1024x2048) ![0, 896, 1536] S1x128x512.size inb_S1x1024x2048_S1x128x512_0_896_1536), outp (View.readAt (Elt Ideal) (ms0_0 t).view (Rect.unit (s := S1x1024x1024) ![0, 896, 768] S1x128x256.size inb_S1x1024x1024_S1x128x256_0_896_768).toLoadRect ((hs0_0 t).unread x0)) (View.readAt (Elt Ideal) (ms0_1 t).view (Rect.unit (s := S1x1024x1024) ![0, 896, 768] S1x128x256.size inb_S1x1024x1024_S1x128x256_0_896_768).toLoadRect ((hs0_1 t).unread x1)) (View.readAt (Elt Ideal) (ms0_2 t).view (Rect.unit (s := S1x1024x2048) ![0, 896, 1536] S1x128x512.size inb_S1x1024x2048_S1x128x512_0_896_1536).toLoadRect ((hs0_2 t).unread x2)) (View.readAt (Elt Ideal) (ms0_3 t).view (Rect.unit (s := S1x1024x2048) ![0, 896, 1536] S1x128x512.size inb_S1x1024x2048_S1x128x512_0_896_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 896, 1024] S1x128x512.size inb_S1x1024x2048_S1x128x512_0_896_1024), outp (View.readAt (Elt Ideal) (ms0_0 t).view (Rect.unit (s := S1x1024x1024) ![0, 896, 512] S1x128x256.size inb_S1x1024x1024_S1x128x256_0_896_512).toLoadRect ((hs0_0 t).unread x0)) (View.readAt (Elt Ideal) (ms0_1 t).view (Rect.unit (s := S1x1024x1024) ![0, 896, 512] S1x128x256.size inb_S1x1024x1024_S1x128x256_0_896_512).toLoadRect ((hs0_1 t).unread x1)) (View.readAt (Elt Ideal) (ms0_2 t).view (Rect.unit (s := S1x1024x2048) ![0, 896, 1024] S1x128x512.size inb_S1x1024x2048_S1x128x512_0_896_1024).toLoadRect ((hs0_2 t).unread x2)) (View.readAt (Elt Ideal) (ms0_3 t).view (Rect.unit (s := S1x1024x2048) ![0, 896, 1024] S1x128x512.size inb_S1x1024x2048_S1x128x512_0_896_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 896, 512] S1x128x512.size inb_S1x1024x2048_S1x128x512_0_896_512), outp (View.readAt (Elt Ideal) (ms0_0 t).view (Rect.unit (s := S1x1024x1024) ![0, 896, 256] S1x128x256.size inb_S1x1024x1024_S1x128x256_0_896_256).toLoadRect ((hs0_0 t).unread x0)) (View.readAt (Elt Ideal) (ms0_1 t).view (Rect.unit (s := S1x1024x1024) ![0, 896, 256] S1x128x256.size inb_S1x1024x1024_S1x128x256_0_896_256).toLoadRect ((hs0_1 t).unread x1)) (View.readAt (Elt Ideal) (ms0_2 t).view (Rect.unit (s := S1x1024x2048) ![0, 896, 512] S1x128x512.size inb_S1x1024x2048_S1x128x512_0_896_512).toLoadRect ((hs0_2 t).unread x2)) (View.readAt (Elt Ideal) (ms0_3 t).view (Rect.unit (s := S1x1024x2048) ![0, 896, 512] S1x128x512.size inb_S1x1024x2048_S1x128x512_0_896_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 896, 0] S1x128x512.size inb_S1x1024x2048_S1x128x512_0_896_0), outp (View.readAt (Elt Ideal) (ms0_0 t).view (Rect.unit (s := S1x1024x1024) ![0, 896, 0] S1x128x256.size inb_S1x1024x1024_S1x128x256_0_896_0).toLoadRect ((hs0_0 t).unread x0)) (View.readAt (Elt Ideal) (ms0_1 t).view (Rect.unit (s := S1x1024x1024) ![0, 896, 0] S1x128x256.size inb_S1x1024x1024_S1x128x256_0_896_0).toLoadRect ((hs0_1 t).unread x1)) (View.readAt (Elt Ideal) (ms0_2 t).view (Rect.unit (s := S1x1024x2048) ![0, 896, 0] S1x128x512.size inb_S1x1024x2048_S1x128x512_0_896_0).toLoadRect ((hs0_2 t).unread x2)) (View.readAt (Elt Ideal) (ms0_3 t).view (Rect.unit (s := S1x1024x2048) ![0, 896, 0] S1x128x512.size inb_S1x1024x2048_S1x128x512_0_896_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 768, 1536] S1x128x512.size inb_S1x1024x2048_S1x128x512_0_768_1536), outp (View.readAt (Elt Ideal) (ms0_0 t).view (Rect.unit (s := S1x1024x1024) ![0, 768, 768] S1x128x256.size inb_S1x1024x1024_S1x128x256_0_768_768).toLoadRect ((hs0_0 t).unread x0)) (View.readAt (Elt Ideal) (ms0_1 t).view (Rect.unit (s := S1x1024x1024) ![0, 768, 768] S1x128x256.size inb_S1x1024x1024_S1x128x256_0_768_768).toLoadRect ((hs0_1 t).unread x1)) (View.readAt (Elt Ideal) (ms0_2 t).view (Rect.unit (s := S1x1024x2048) ![0, 768, 1536] S1x128x512.size inb_S1x1024x2048_S1x128x512_0_768_1536).toLoadRect ((hs0_2 t).unread x2)) (View.readAt (Elt Ideal) (ms0_3 t).view (Rect.unit (s := S1x1024x2048) ![0, 768, 1536] S1x128x512.size inb_S1x1024x2048_S1x128x512_0_768_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 768, 1024] S1x128x512.size inb_S1x1024x2048_S1x128x512_0_768_1024), outp (View.readAt (Elt Ideal) (ms0_0 t).view (Rect.unit (s := S1x1024x1024) ![0, 768, 512] S1x128x256.size inb_S1x1024x1024_S1x128x256_0_768_512).toLoadRect ((hs0_0 t).unread x0)) (View.readAt (Elt Ideal) (ms0_1 t).view (Rect.unit (s := S1x1024x1024) ![0, 768, 512] S1x128x256.size inb_S1x1024x1024_S1x128x256_0_768_512).toLoadRect ((hs0_1 t).unread x1)) (View.readAt (Elt Ideal) (ms0_2 t).view (Rect.unit (s := S1x1024x2048) ![0, 768, 1024] S1x128x512.size inb_S1x1024x2048_S1x128x512_0_768_1024).toLoadRect ((hs0_2 t).unread x2)) (View.readAt (Elt Ideal) (ms0_3 t).view (Rect.unit (s := S1x1024x2048) ![0, 768, 1024] S1x128x512.size inb_S1x1024x2048_S1x128x512_0_768_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 768, 512] S1x128x512.size inb_S1x1024x2048_S1x128x512_0_768_512), outp (View.readAt (Elt Ideal) (ms0_0 t).view (Rect.unit (s := S1x1024x1024) ![0, 768, 256] S1x128x256.size inb_S1x1024x1024_S1x128x256_0_768_256).toLoadRect ((hs0_0 t).unread x0)) (View.readAt (Elt Ideal) (ms0_1 t).view (Rect.unit (s := S1x1024x1024) ![0, 768, 256] S1x128x256.size inb_S1x1024x1024_S1x128x256_0_768_256).toLoadRect ((hs0_1 t).unread x1)) (View.readAt (Elt Ideal) (ms0_2 t).view (Rect.unit (s := S1x1024x2048) ![0, 768, 512] S1x128x512.size inb_S1x1024x2048_S1x128x512_0_768_512).toLoadRect ((hs0_2 t).unread x2)) (View.readAt (Elt Ideal) (ms0_3 t).view (Rect.unit (s := S1x1024x2048) ![0, 768, 512] S1x128x512.size inb_S1x1024x2048_S1x128x512_0_768_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 768, 0] S1x128x512.size inb_S1x1024x2048_S1x128x512_0_768_0), outp (View.readAt (Elt Ideal) (ms0_0 t).view (Rect.unit (s := S1x1024x1024) ![0, 768, 0] S1x128x256.size inb_S1x1024x1024_S1x128x256_0_768_0).toLoadRect ((hs0_0 t).unread x0)) (View.readAt (Elt Ideal) (ms0_1 t).view (Rect.unit (s := S1x1024x1024) ![0, 768, 0] S1x128x256.size inb_S1x1024x1024_S1x128x256_0_768_0).toLoadRect ((hs0_1 t).unread x1)) (View.readAt (Elt Ideal) (ms0_2 t).view (Rect.unit (s := S1x1024x2048) ![0, 768, 0] S1x128x512.size inb_S1x1024x2048_S1x128x512_0_768_0).toLoadRect ((hs0_2 t).unread x2)) (View.readAt (Elt Ideal) (ms0_3 t).view (Rect.unit (s := S1x1024x2048) ![0, 768, 0] S1x128x512.size inb_S1x1024x2048_S1x128x512_0_768_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 640, 1536] S1x128x512.size inb_S1x1024x2048_S1x128x512_0_640_1536), outp (View.readAt (Elt Ideal) (ms0_0 t).view (Rect.unit (s := S1x1024x1024) ![0, 640, 768] S1x128x256.size inb_S1x1024x1024_S1x128x256_0_640_768).toLoadRect ((hs0_0 t).unread x0)) (View.readAt (Elt Ideal) (ms0_1 t).view (Rect.unit (s := S1x1024x1024) ![0, 640, 768] S1x128x256.size inb_S1x1024x1024_S1x128x256_0_640_768).toLoadRect ((hs0_1 t).unread x1)) (View.readAt (Elt Ideal) (ms0_2 t).view (Rect.unit (s := S1x1024x2048) ![0, 640, 1536] S1x128x512.size inb_S1x1024x2048_S1x128x512_0_640_1536).toLoadRect ((hs0_2 t).unread x2)) (View.readAt (Elt Ideal) (ms0_3 t).view (Rect.unit (s := S1x1024x2048) ![0, 640, 1536] S1x128x512.size inb_S1x1024x2048_S1x128x512_0_640_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 640, 1024] S1x128x512.size inb_S1x1024x2048_S1x128x512_0_640_1024), outp (View.readAt (Elt Ideal) (ms0_0 t).view (Rect.unit (s := S1x1024x1024) ![0, 640, 512] S1x128x256.size inb_S1x1024x1024_S1x128x256_0_640_512).toLoadRect ((hs0_0 t).unread x0)) (View.readAt (Elt Ideal) (ms0_1 t).view (Rect.unit (s := S1x1024x1024) ![0, 640, 512] S1x128x256.size inb_S1x1024x1024_S1x128x256_0_640_512).toLoadRect ((hs0_1 t).unread x1)) (View.readAt (Elt Ideal) (ms0_2 t).view (Rect.unit (s := S1x1024x2048) ![0, 640, 1024] S1x128x512.size inb_S1x1024x2048_S1x128x512_0_640_1024).toLoadRect ((hs0_2 t).unread x2)) (View.readAt (Elt Ideal) (ms0_3 t).view (Rect.unit (s := S1x1024x2048) ![0, 640, 1024] S1x128x512.size inb_S1x1024x2048_S1x128x512_0_640_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 640, 512] S1x128x512.size inb_S1x1024x2048_S1x128x512_0_640_512), outp (View.readAt (Elt Ideal) (ms0_0 t).view (Rect.unit (s := S1x1024x1024) ![0, 640, 256] S1x128x256.size inb_S1x1024x1024_S1x128x256_0_640_256).toLoadRect ((hs0_0 t).unread x0)) (View.readAt (Elt Ideal) (ms0_1 t).view (Rect.unit (s := S1x1024x1024) ![0, 640, 256] S1x128x256.size inb_S1x1024x1024_S1x128x256_0_640_256).toLoadRect ((hs0_1 t).unread x1)) (View.readAt (Elt Ideal) (ms0_2 t).view (Rect.unit (s := S1x1024x2048) ![0, 640, 512] S1x128x512.size inb_S1x1024x2048_S1x128x512_0_640_512).toLoadRect ((hs0_2 t).unread x2)) (View.readAt (Elt Ideal) (ms0_3 t).view (Rect.unit (s := S1x1024x2048) ![0, 640, 512] S1x128x512.size inb_S1x1024x2048_S1x128x512_0_640_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 640, 0] S1x128x512.size inb_S1x1024x2048_S1x128x512_0_640_0), outp (View.readAt (Elt Ideal) (ms0_0 t).view (Rect.unit (s := S1x1024x1024) ![0, 640, 0] S1x128x256.size inb_S1x1024x1024_S1x128x256_0_640_0).toLoadRect ((hs0_0 t).unread x0)) (View.readAt (Elt Ideal) (ms0_1 t).view (Rect.unit (s := S1x1024x1024) ![0, 640, 0] S1x128x256.size inb_S1x1024x1024_S1x128x256_0_640_0).toLoadRect ((hs0_1 t).unread x1)) (View.readAt (Elt Ideal) (ms0_2 t).view (Rect.unit (s := S1x1024x2048) ![0, 640, 0] S1x128x512.size inb_S1x1024x2048_S1x128x512_0_640_0).toLoadRect ((hs0_2 t).unread x2)) (View.readAt (Elt Ideal) (ms0_3 t).view (Rect.unit (s := S1x1024x2048) ![0, 640, 0] S1x128x512.size inb_S1x1024x2048_S1x128x512_0_640_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 512, 1536] S1x128x512.size inb_S1x1024x2048_S1x128x512_0_512_1536), outp (View.readAt (Elt Ideal) (ms0_0 t).view (Rect.unit (s := S1x1024x1024) ![0, 512, 768] S1x128x256.size inb_S1x1024x1024_S1x128x256_0_512_768).toLoadRect ((hs0_0 t).unread x0)) (View.readAt (Elt Ideal) (ms0_1 t).view (Rect.unit (s := S1x1024x1024) ![0, 512, 768] S1x128x256.size inb_S1x1024x1024_S1x128x256_0_512_768).toLoadRect ((hs0_1 t).unread x1)) (View.readAt (Elt Ideal) (ms0_2 t).view (Rect.unit (s := S1x1024x2048) ![0, 512, 1536] S1x128x512.size inb_S1x1024x2048_S1x128x512_0_512_1536).toLoadRect ((hs0_2 t).unread x2)) (View.readAt (Elt Ideal) (ms0_3 t).view (Rect.unit (s := S1x1024x2048) ![0, 512, 1536] S1x128x512.size inb_S1x1024x2048_S1x128x512_0_512_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 512, 1024] S1x128x512.size inb_S1x1024x2048_S1x128x512_0_512_1024), outp (View.readAt (Elt Ideal) (ms0_0 t).view (Rect.unit (s := S1x1024x1024) ![0, 512, 512] S1x128x256.size inb_S1x1024x1024_S1x128x256_0_512_512).toLoadRect ((hs0_0 t).unread x0)) (View.readAt (Elt Ideal) (ms0_1 t).view (Rect.unit (s := S1x1024x1024) ![0, 512, 512] S1x128x256.size inb_S1x1024x1024_S1x128x256_0_512_512).toLoadRect ((hs0_1 t).unread x1)) (View.readAt (Elt Ideal) (ms0_2 t).view (Rect.unit (s := S1x1024x2048) ![0, 512, 1024] S1x128x512.size inb_S1x1024x2048_S1x128x512_0_512_1024).toLoadRect ((hs0_2 t).unread x2)) (View.readAt (Elt Ideal) (ms0_3 t).view (Rect.unit (s := S1x1024x2048) ![0, 512, 1024] S1x128x512.size inb_S1x1024x2048_S1x128x512_0_512_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 512, 512] S1x128x512.size inb_S1x1024x2048_S1x128x512_0_512_512), outp (View.readAt (Elt Ideal) (ms0_0 t).view (Rect.unit (s := S1x1024x1024) ![0, 512, 256] S1x128x256.size inb_S1x1024x1024_S1x128x256_0_512_256).toLoadRect ((hs0_0 t).unread x0)) (View.readAt (Elt Ideal) (ms0_1 t).view (Rect.unit (s := S1x1024x1024) ![0, 512, 256] S1x128x256.size inb_S1x1024x1024_S1x128x256_0_512_256).toLoadRect ((hs0_1 t).unread x1)) (View.readAt (Elt Ideal) (ms0_2 t).view (Rect.unit (s := S1x1024x2048) ![0, 512, 512] S1x128x512.size inb_S1x1024x2048_S1x128x512_0_512_512).toLoadRect ((hs0_2 t).unread x2)) (View.readAt (Elt Ideal) (ms0_3 t).view (Rect.unit (s := S1x1024x2048) ![0, 512, 512] S1x128x512.size inb_S1x1024x2048_S1x128x512_0_512_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 512, 0] S1x128x512.size inb_S1x1024x2048_S1x128x512_0_512_0), outp (View.readAt (Elt Ideal) (ms0_0 t).view (Rect.unit (s := S1x1024x1024) ![0, 512, 0] S1x128x256.size inb_S1x1024x1024_S1x128x256_0_512_0).toLoadRect ((hs0_0 t).unread x0)) (View.readAt (Elt Ideal) (ms0_1 t).view (Rect.unit (s := S1x1024x1024) ![0, 512, 0] S1x128x256.size inb_S1x1024x1024_S1x128x256_0_512_0).toLoadRect ((hs0_1 t).unread x1)) (View.readAt (Elt Ideal) (ms0_2 t).view (Rect.unit (s := S1x1024x2048) ![0, 512, 0] S1x128x512.size inb_S1x1024x2048_S1x128x512_0_512_0).toLoadRect ((hs0_2 t).unread x2)) (View.readAt (Elt Ideal) (ms0_3 t).view (Rect.unit (s := S1x1024x2048) ![0, 512, 0] S1x128x512.size inb_S1x1024x2048_S1x128x512_0_512_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 384, 1536] S1x128x512.size inb_S1x1024x2048_S1x128x512_0_384_1536), outp (View.readAt (Elt Ideal) (ms0_0 t).view (Rect.unit (s := S1x1024x1024) ![0, 384, 768] S1x128x256.size inb_S1x1024x1024_S1x128x256_0_384_768).toLoadRect ((hs0_0 t).unread x0)) (View.readAt (Elt Ideal) (ms0_1 t).view (Rect.unit (s := S1x1024x1024) ![0, 384, 768] S1x128x256.size inb_S1x1024x1024_S1x128x256_0_384_768).toLoadRect ((hs0_1 t).unread x1)) (View.readAt (Elt Ideal) (ms0_2 t).view (Rect.unit (s := S1x1024x2048) ![0, 384, 1536] S1x128x512.size inb_S1x1024x2048_S1x128x512_0_384_1536).toLoadRect ((hs0_2 t).unread x2)) (View.readAt (Elt Ideal) (ms0_3 t).view (Rect.unit (s := S1x1024x2048) ![0, 384, 1536] S1x128x512.size inb_S1x1024x2048_S1x128x512_0_384_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 384, 1024] S1x128x512.size inb_S1x1024x2048_S1x128x512_0_384_1024), outp (View.readAt (Elt Ideal) (ms0_0 t).view (Rect.unit (s := S1x1024x1024) ![0, 384, 512] S1x128x256.size inb_S1x1024x1024_S1x128x256_0_384_512).toLoadRect ((hs0_0 t).unread x0)) (View.readAt (Elt Ideal) (ms0_1 t).view (Rect.unit (s := S1x1024x1024) ![0, 384, 512] S1x128x256.size inb_S1x1024x1024_S1x128x256_0_384_512).toLoadRect ((hs0_1 t).unread x1)) (View.readAt (Elt Ideal) (ms0_2 t).view (Rect.unit (s := S1x1024x2048) ![0, 384, 1024] S1x128x512.size inb_S1x1024x2048_S1x128x512_0_384_1024).toLoadRect ((hs0_2 t).unread x2)) (View.readAt (Elt Ideal) (ms0_3 t).view (Rect.unit (s := S1x1024x2048) ![0, 384, 1024] S1x128x512.size inb_S1x1024x2048_S1x128x512_0_384_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 384, 512] S1x128x512.size inb_S1x1024x2048_S1x128x512_0_384_512), outp (View.readAt (Elt Ideal) (ms0_0 t).view (Rect.unit (s := S1x1024x1024) ![0, 384, 256] S1x128x256.size inb_S1x1024x1024_S1x128x256_0_384_256).toLoadRect ((hs0_0 t).unread x0)) (View.readAt (Elt Ideal) (ms0_1 t).view (Rect.unit (s := S1x1024x1024) ![0, 384, 256] S1x128x256.size inb_S1x1024x1024_S1x128x256_0_384_256).toLoadRect ((hs0_1 t).unread x1)) (View.readAt (Elt Ideal) (ms0_2 t).view (Rect.unit (s := S1x1024x2048) ![0, 384, 512] S1x128x512.size inb_S1x1024x2048_S1x128x512_0_384_512).toLoadRect ((hs0_2 t).unread x2)) (View.readAt (Elt Ideal) (ms0_3 t).view (Rect.unit (s := S1x1024x2048) ![0, 384, 512] S1x128x512.size inb_S1x1024x2048_S1x128x512_0_384_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 384, 0] S1x128x512.size inb_S1x1024x2048_S1x128x512_0_384_0), outp (View.readAt (Elt Ideal) (ms0_0 t).view (Rect.unit (s := S1x1024x1024) ![0, 384, 0] S1x128x256.size inb_S1x1024x1024_S1x128x256_0_384_0).toLoadRect ((hs0_0 t).unread x0)) (View.readAt (Elt Ideal) (ms0_1 t).view (Rect.unit (s := S1x1024x1024) ![0, 384, 0] S1x128x256.size inb_S1x1024x1024_S1x128x256_0_384_0).toLoadRect ((hs0_1 t).unread x1)) (View.readAt (Elt Ideal) (ms0_2 t).view (Rect.unit (s := S1x1024x2048) ![0, 384, 0] S1x128x512.size inb_S1x1024x2048_S1x128x512_0_384_0).toLoadRect ((hs0_2 t).unread x2)) (View.readAt (Elt Ideal) (ms0_3 t).view (Rect.unit (s := S1x1024x2048) ![0, 384, 0] S1x128x512.size inb_S1x1024x2048_S1x128x512_0_384_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 256, 1536] S1x128x512.size inb_S1x1024x2048_S1x128x512_0_256_1536), outp (View.readAt (Elt Ideal) (ms0_0 t).view (Rect.unit (s := S1x1024x1024) ![0, 256, 768] S1x128x256.size inb_S1x1024x1024_S1x128x256_0_256_768).toLoadRect ((hs0_0 t).unread x0)) (View.readAt (Elt Ideal) (ms0_1 t).view (Rect.unit (s := S1x1024x1024) ![0, 256, 768] S1x128x256.size inb_S1x1024x1024_S1x128x256_0_256_768).toLoadRect ((hs0_1 t).unread x1)) (View.readAt (Elt Ideal) (ms0_2 t).view (Rect.unit (s := S1x1024x2048) ![0, 256, 1536] S1x128x512.size inb_S1x1024x2048_S1x128x512_0_256_1536).toLoadRect ((hs0_2 t).unread x2)) (View.readAt (Elt Ideal) (ms0_3 t).view (Rect.unit (s := S1x1024x2048) ![0, 256, 1536] S1x128x512.size inb_S1x1024x2048_S1x128x512_0_256_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 256, 1024] S1x128x512.size inb_S1x1024x2048_S1x128x512_0_256_1024), outp (View.readAt (Elt Ideal) (ms0_0 t).view (Rect.unit (s := S1x1024x1024) ![0, 256, 512] S1x128x256.size inb_S1x1024x1024_S1x128x256_0_256_512).toLoadRect ((hs0_0 t).unread x0)) (View.readAt (Elt Ideal) (ms0_1 t).view (Rect.unit (s := S1x1024x1024) ![0, 256, 512] S1x128x256.size inb_S1x1024x1024_S1x128x256_0_256_512).toLoadRect ((hs0_1 t).unread x1)) (View.readAt (Elt Ideal) (ms0_2 t).view (Rect.unit (s := S1x1024x2048) ![0, 256, 1024] S1x128x512.size inb_S1x1024x2048_S1x128x512_0_256_1024).toLoadRect ((hs0_2 t).unread x2)) (View.readAt (Elt Ideal) (ms0_3 t).view (Rect.unit (s := S1x1024x2048) ![0, 256, 1024] S1x128x512.size inb_S1x1024x2048_S1x128x512_0_256_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 256, 512] S1x128x512.size inb_S1x1024x2048_S1x128x512_0_256_512), outp (View.readAt (Elt Ideal) (ms0_0 t).view (Rect.unit (s := S1x1024x1024) ![0, 256, 256] S1x128x256.size inb_S1x1024x1024_S1x128x256_0_256_256).toLoadRect ((hs0_0 t).unread x0)) (View.readAt (Elt Ideal) (ms0_1 t).view (Rect.unit (s := S1x1024x1024) ![0, 256, 256] S1x128x256.size inb_S1x1024x1024_S1x128x256_0_256_256).toLoadRect ((hs0_1 t).unread x1)) (View.readAt (Elt Ideal) (ms0_2 t).view (Rect.unit (s := S1x1024x2048) ![0, 256, 512] S1x128x512.size inb_S1x1024x2048_S1x128x512_0_256_512).toLoadRect ((hs0_2 t).unread x2)) (View.readAt (Elt Ideal) (ms0_3 t).view (Rect.unit (s := S1x1024x2048) ![0, 256, 512] S1x128x512.size inb_S1x1024x2048_S1x128x512_0_256_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 256, 0] S1x128x512.size inb_S1x1024x2048_S1x128x512_0_256_0), outp (View.readAt (Elt Ideal) (ms0_0 t).view (Rect.unit (s := S1x1024x1024) ![0, 256, 0] S1x128x256.size inb_S1x1024x1024_S1x128x256_0_256_0).toLoadRect ((hs0_0 t).unread x0)) (View.readAt (Elt Ideal) (ms0_1 t).view (Rect.unit (s := S1x1024x1024) ![0, 256, 0] S1x128x256.size inb_S1x1024x1024_S1x128x256_0_256_0).toLoadRect ((hs0_1 t).unread x1)) (View.readAt (Elt Ideal) (ms0_2 t).view (Rect.unit (s := S1x1024x2048) ![0, 256, 0] S1x128x512.size inb_S1x1024x2048_S1x128x512_0_256_0).toLoadRect ((hs0_2 t).unread x2)) (View.readAt (Elt Ideal) (ms0_3 t).view (Rect.unit (s := S1x1024x2048) ![0, 256, 0] S1x128x512.size inb_S1x1024x2048_S1x128x512_0_256_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 128, 1536] S1x128x512.size inb_S1x1024x2048_S1x128x512_0_128_1536), outp (View.readAt (Elt Ideal) (ms0_0 t).view (Rect.unit (s := S1x1024x1024) ![0, 128, 768] S1x128x256.size inb_S1x1024x1024_S1x128x256_0_128_768).toLoadRect ((hs0_0 t).unread x0)) (View.readAt (Elt Ideal) (ms0_1 t).view (Rect.unit (s := S1x1024x1024) ![0, 128, 768] S1x128x256.size inb_S1x1024x1024_S1x128x256_0_128_768).toLoadRect ((hs0_1 t).unread x1)) (View.readAt (Elt Ideal) (ms0_2 t).view (Rect.unit (s := S1x1024x2048) ![0, 128, 1536] S1x128x512.size inb_S1x1024x2048_S1x128x512_0_128_1536).toLoadRect ((hs0_2 t).unread x2)) (View.readAt (Elt Ideal) (ms0_3 t).view (Rect.unit (s := S1x1024x2048) ![0, 128, 1536] S1x128x512.size inb_S1x1024x2048_S1x128x512_0_128_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect)⟩,
      ⟨(Rect.unit (s := S1x1024x2048) ![0, 128, 1024] S1x128x512.size inb_S1x1024x2048_S1x128x512_0_128_1024), outp (View.readAt (Elt Ideal) (ms0_0 t).view (Rect.unit (s := S1x1024x1024) ![0, 128, 512] S1x128x256.size inb_S1x1024x1024_S1x128x256_0_128_512).toLoadRect ((hs0_0 t).unread x0)) (View.readAt (Elt Ideal) (ms0_1 t).view (Rect.unit (s := S1x1024x1024) ![0, 128, 512] S1x128x256.size inb_S1x1024x1024_S1x128x256_0_128_512).toLoadRect ((hs0_1 t).unread x1)) (View.readAt (Elt Ideal) (ms0_2 t).view (Rect.unit (s := S1x1024x2048) ![0, 128, 1024] S1x128x512.size inb_S1x1024x2048_S1x128x512_0_128_1024).toLoadRect ((hs0_2 t).unread x2)) (View.readAt (Elt Ideal) (ms0_3 t).view (Rect.unit (s := S1x1024x2048) ![0, 128, 1024] S1x128x512.size inb_S1x1024x2048_S1x128x512_0_128_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect)⟩,
      ⟨(Rect.unit (s := S1x1024x2048) ![0, 128, 512] S1x128x512.size inb_S1x1024x2048_S1x128x512_0_128_512), outp (View.readAt (Elt Ideal) (ms0_0 t).view (Rect.unit (s := S1x1024x1024) ![0, 128, 256] S1x128x256.size inb_S1x1024x1024_S1x128x256_0_128_256).toLoadRect ((hs0_0 t).unread x0)) (View.readAt (Elt Ideal) (ms0_1 t).view (Rect.unit (s := S1x1024x1024) ![0, 128, 256] S1x128x256.size inb_S1x1024x1024_S1x128x256_0_128_256).toLoadRect ((hs0_1 t).unread x1)) (View.readAt (Elt Ideal) (ms0_2 t).view (Rect.unit (s := S1x1024x2048) ![0, 128, 512] S1x128x512.size inb_S1x1024x2048_S1x128x512_0_128_512).toLoadRect ((hs0_2 t).unread x2)) (View.readAt (Elt Ideal) (ms0_3 t).view (Rect.unit (s := S1x1024x2048) ![0, 128, 512] S1x128x512.size inb_S1x1024x2048_S1x128x512_0_128_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect)⟩,
      ⟨(Rect.unit (s := S1x1024x2048) ![0, 128, 0] S1x128x512.size inb_S1x1024x2048_S1x128x512_0_128_0), outp (View.readAt (Elt Ideal) (ms0_0 t).view (Rect.unit (s := S1x1024x1024) ![0, 128, 0] S1x128x256.size inb_S1x1024x1024_S1x128x256_0_128_0).toLoadRect ((hs0_0 t).unread x0)) (View.readAt (Elt Ideal) (ms0_1 t).view (Rect.unit (s := S1x1024x1024) ![0, 128, 0] S1x128x256.size inb_S1x1024x1024_S1x128x256_0_128_0).toLoadRect ((hs0_1 t).unread x1)) (View.readAt (Elt Ideal) (ms0_2 t).view (Rect.unit (s := S1x1024x2048) ![0, 128, 0] S1x128x512.size inb_S1x1024x2048_S1x128x512_0_128_0).toLoadRect ((hs0_2 t).unread x2)) (View.readAt (Elt Ideal) (ms0_3 t).view (Rect.unit (s := S1x1024x2048) ![0, 128, 0] S1x128x512.size inb_S1x1024x2048_S1x128x512_0_128_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect)⟩,
      ⟨(Rect.unit (s := S1x1024x2048) ![0, 0, 1536] S1x128x512.size inb_S1x1024x2048_S1x128x512_0_0_1536), outp (View.readAt (Elt Ideal) (ms0_0 t).view (Rect.unit (s := S1x1024x1024) ![0, 0, 768] S1x128x256.size inb_S1x1024x1024_S1x128x256_0_0_768).toLoadRect ((hs0_0 t).unread x0)) (View.readAt (Elt Ideal) (ms0_1 t).view (Rect.unit (s := S1x1024x1024) ![0, 0, 768] S1x128x256.size inb_S1x1024x1024_S1x128x256_0_0_768).toLoadRect ((hs0_1 t).unread x1)) (View.readAt (Elt Ideal) (ms0_2 t).view (Rect.unit (s := S1x1024x2048) ![0, 0, 1536] S1x128x512.size inb_S1x1024x2048_S1x128x512_0_0_1536).toLoadRect ((hs0_2 t).unread x2)) (View.readAt (Elt Ideal) (ms0_3 t).view (Rect.unit (s := S1x1024x2048) ![0, 0, 1536] S1x128x512.size inb_S1x1024x2048_S1x128x512_0_0_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) (lA_0 c t x1 x2 x6 x7) (Rect.unit (s := S4x256x512) ![3, 0, 0] S1x256x512.size inb_S4x256x512_S1x256x512_3_0_0).toLoadRect)⟩,
      ⟨(Rect.unit (s := S1x1024x2048) ![0, 0, 1024] S1x128x512.size inb_S1x1024x2048_S1x128x512_0_0_1024), outp (View.readAt (Elt Ideal) (ms0_0 t).view (Rect.unit (s := S1x1024x1024) ![0, 0, 512] S1x128x256.size inb_S1x1024x1024_S1x128x256_0_0_512).toLoadRect ((hs0_0 t).unread x0)) (View.readAt (Elt Ideal) (ms0_1 t).view (Rect.unit (s := S1x1024x1024) ![0, 0, 512] S1x128x256.size inb_S1x1024x1024_S1x128x256_0_0_512).toLoadRect ((hs0_1 t).unread x1)) (View.readAt (Elt Ideal) (ms0_2 t).view (Rect.unit (s := S1x1024x2048) ![0, 0, 1024] S1x128x512.size inb_S1x1024x2048_S1x128x512_0_0_1024).toLoadRect ((hs0_2 t).unread x2)) (View.readAt (Elt Ideal) (ms0_3 t).view (Rect.unit (s := S1x1024x2048) ![0, 0, 1024] S1x128x512.size inb_S1x1024x2048_S1x128x512_0_0_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) (lA_0 c t x1 x2 x6 x7) (Rect.unit (s := S4x256x512) ![2, 0, 0] S1x256x512.size inb_S4x256x512_S1x256x512_2_0_0).toLoadRect)⟩,
      ⟨(Rect.unit (s := S1x1024x2048) ![0, 0, 512] S1x128x512.size inb_S1x1024x2048_S1x128x512_0_0_512), outp (View.readAt (Elt Ideal) (ms0_0 t).view (Rect.unit (s := S1x1024x1024) ![0, 0, 256] S1x128x256.size inb_S1x1024x1024_S1x128x256_0_0_256).toLoadRect ((hs0_0 t).unread x0)) (View.readAt (Elt Ideal) (ms0_1 t).view (Rect.unit (s := S1x1024x1024) ![0, 0, 256] S1x128x256.size inb_S1x1024x1024_S1x128x256_0_0_256).toLoadRect ((hs0_1 t).unread x1)) (View.readAt (Elt Ideal) (ms0_2 t).view (Rect.unit (s := S1x1024x2048) ![0, 0, 512] S1x128x512.size inb_S1x1024x2048_S1x128x512_0_0_512).toLoadRect ((hs0_2 t).unread x2)) (View.readAt (Elt Ideal) (ms0_3 t).view (Rect.unit (s := S1x1024x2048) ![0, 0, 512] S1x128x512.size inb_S1x1024x2048_S1x128x512_0_0_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) (lA_0 c t x1 x2 x6 x7) (Rect.unit (s := S4x256x512) ![1, 0, 0] S1x256x512.size inb_S4x256x512_S1x256x512_1_0_0).toLoadRect)⟩,
      ⟨(Rect.unit (s := S1x1024x2048) ![0, 0, 0] S1x128x512.size inb_S1x1024x2048_S1x128x512_0_0_0), outp (View.readAt (Elt Ideal) (ms0_0 t).view (Rect.unit (s := S1x1024x1024) ![0, 0, 0] S1x128x256.size inb_S1x1024x1024_S1x128x256_0_0_0).toLoadRect ((hs0_0 t).unread x0)) (View.readAt (Elt Ideal) (ms0_1 t).view (Rect.unit (s := S1x1024x1024) ![0, 0, 0] S1x128x256.size inb_S1x1024x1024_S1x128x256_0_0_0).toLoadRect ((hs0_1 t).unread x1)) (View.readAt (Elt Ideal) (ms0_2 t).view (Rect.unit (s := S1x1024x2048) ![0, 0, 0] S1x128x512.size inb_S1x1024x2048_S1x128x512_0_0_0).toLoadRect ((hs0_2 t).unread x2)) (View.readAt (Elt Ideal) (ms0_3 t).view (Rect.unit (s := S1x1024x2048) ![0, 0, 0] S1x128x512.size inb_S1x1024x2048_S1x128x512_0_0_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) (lA_0 c t x1 x2 x6 x7) (Rect.unit (s := S4x256x512) ![0, 0, 0] S1x256x512.size inb_S4x256x512_S1x256x512_0_0_0).toLoadRect)⟩] :=
  ⟨tile ⟨7, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_768 inb_S1x1024x2048_S1x128x512_0_896_1536 inb_S4x128x128_S1x128x128_3_0_0 inb_S4x128x512_S1x128x512_3_0_0 (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 28 7 ⟨3, by decide⟩ ((kernelRun0_A.sl.HS0_29 (F := Ideal) c (ms0_1 t) (hs0_1 t) (ms0_2 t) (hs0_2 t) (ms0_6 t) (hs0_6 t) (ms0_7 t) (hs0_7 t) scM0_0 x1 x2 x6 x7)) (cA_28 c t x1 x2 x6 x7) inb_S4x256x512_S1x256x512_3_0_0 (by decide) (by decide)),
      tile ⟨7, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_512 inb_S1x1024x2048_S1x128x512_0_896_1024 inb_S4x128x128_S1x128x128_2_0_0 inb_S4x128x512_S1x128x512_2_0_0 (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 28 7 ⟨2, by decide⟩ ((kernelRun0_A.sl.HS0_29 (F := Ideal) c (ms0_1 t) (hs0_1 t) (ms0_2 t) (hs0_2 t) (ms0_6 t) (hs0_6 t) (ms0_7 t) (hs0_7 t) scM0_0 x1 x2 x6 x7)) (cA_28 c t x1 x2 x6 x7) inb_S4x256x512_S1x256x512_2_0_0 (by decide) (by decide)),
      tile ⟨7, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_256 inb_S1x1024x2048_S1x128x512_0_896_512 inb_S4x128x128_S1x128x128_1_0_0 inb_S4x128x512_S1x128x512_1_0_0 (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 28 7 ⟨1, by decide⟩ ((kernelRun0_A.sl.HS0_29 (F := Ideal) c (ms0_1 t) (hs0_1 t) (ms0_2 t) (hs0_2 t) (ms0_6 t) (hs0_6 t) (ms0_7 t) (hs0_7 t) scM0_0 x1 x2 x6 x7)) (cA_28 c t x1 x2 x6 x7) inb_S4x256x512_S1x256x512_1_0_0 (by decide) (by decide)),
      tile ⟨7, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_0 inb_S1x1024x2048_S1x128x512_0_896_0 inb_S4x128x128_S1x128x128_0_0_0 inb_S4x128x512_S1x128x512_0_0_0 (scM0_0.view.readCov (Val := Elt Ideal) ((kernelRun0_A.sl.HS0_29 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 28 7 ⟨0, by decide⟩ ((kernelRun0_A.sl.HS0_29 (F := Ideal) c (ms0_1 t) (hs0_1 t) (ms0_2 t) (hs0_2 t) (ms0_6 t) (hs0_6 t) (ms0_7 t) (hs0_7 t) scM0_0 x1 x2 x6 x7)) (cA_28 c t x1 x2 x6 x7) inb_S4x256x512_S1x256x512_0_0_0 (by decide) (by decide)),
      tile ⟨6, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_768 inb_S1x1024x2048_S1x128x512_0_768_1536 inb_S4x128x128_S1x128x128_3_0_0 inb_S4x128x512_S1x128x512_3_0_0 (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 24 6 ⟨3, by decide⟩ ((kernelRun0_A.sl.HS0_25 (F := Ideal) c (ms0_1 t) (hs0_1 t) (ms0_2 t) (hs0_2 t) (ms0_6 t) (hs0_6 t) (ms0_7 t) (hs0_7 t) scM0_0 x1 x2 x6 x7)) (cA_24 c t x1 x2 x6 x7) inb_S4x256x512_S1x256x512_3_0_0 (by decide) (by decide)),
      tile ⟨6, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_512 inb_S1x1024x2048_S1x128x512_0_768_1024 inb_S4x128x128_S1x128x128_2_0_0 inb_S4x128x512_S1x128x512_2_0_0 (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 24 6 ⟨2, by decide⟩ ((kernelRun0_A.sl.HS0_25 (F := Ideal) c (ms0_1 t) (hs0_1 t) (ms0_2 t) (hs0_2 t) (ms0_6 t) (hs0_6 t) (ms0_7 t) (hs0_7 t) scM0_0 x1 x2 x6 x7)) (cA_24 c t x1 x2 x6 x7) inb_S4x256x512_S1x256x512_2_0_0 (by decide) (by decide)),
      tile ⟨6, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_256 inb_S1x1024x2048_S1x128x512_0_768_512 inb_S4x128x128_S1x128x128_1_0_0 inb_S4x128x512_S1x128x512_1_0_0 (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 24 6 ⟨1, by decide⟩ ((kernelRun0_A.sl.HS0_25 (F := Ideal) c (ms0_1 t) (hs0_1 t) (ms0_2 t) (hs0_2 t) (ms0_6 t) (hs0_6 t) (ms0_7 t) (hs0_7 t) scM0_0 x1 x2 x6 x7)) (cA_24 c t x1 x2 x6 x7) inb_S4x256x512_S1x256x512_1_0_0 (by decide) (by decide)),
      tile ⟨6, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_0 inb_S1x1024x2048_S1x128x512_0_768_0 inb_S4x128x128_S1x128x128_0_0_0 inb_S4x128x512_S1x128x512_0_0_0 (scM0_0.view.readCov (Val := Elt Ideal) ((kernelRun0_A.sl.HS0_25 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 24 6 ⟨0, by decide⟩ ((kernelRun0_A.sl.HS0_25 (F := Ideal) c (ms0_1 t) (hs0_1 t) (ms0_2 t) (hs0_2 t) (ms0_6 t) (hs0_6 t) (ms0_7 t) (hs0_7 t) scM0_0 x1 x2 x6 x7)) (cA_24 c t x1 x2 x6 x7) inb_S4x256x512_S1x256x512_0_0_0 (by decide) (by decide)),
      tile ⟨5, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_768 inb_S1x1024x2048_S1x128x512_0_640_1536 inb_S4x128x128_S1x128x128_3_0_0 inb_S4x128x512_S1x128x512_3_0_0 (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 20 5 ⟨3, by decide⟩ ((kernelRun0_A.sl.HS0_21 (F := Ideal) c (ms0_1 t) (hs0_1 t) (ms0_2 t) (hs0_2 t) (ms0_6 t) (hs0_6 t) (ms0_7 t) (hs0_7 t) scM0_0 x1 x2 x6 x7)) (cA_20 c t x1 x2 x6 x7) inb_S4x256x512_S1x256x512_3_0_0 (by decide) (by decide)),
      tile ⟨5, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_512 inb_S1x1024x2048_S1x128x512_0_640_1024 inb_S4x128x128_S1x128x128_2_0_0 inb_S4x128x512_S1x128x512_2_0_0 (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 20 5 ⟨2, by decide⟩ ((kernelRun0_A.sl.HS0_21 (F := Ideal) c (ms0_1 t) (hs0_1 t) (ms0_2 t) (hs0_2 t) (ms0_6 t) (hs0_6 t) (ms0_7 t) (hs0_7 t) scM0_0 x1 x2 x6 x7)) (cA_20 c t x1 x2 x6 x7) inb_S4x256x512_S1x256x512_2_0_0 (by decide) (by decide)),
      tile ⟨5, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_256 inb_S1x1024x2048_S1x128x512_0_640_512 inb_S4x128x128_S1x128x128_1_0_0 inb_S4x128x512_S1x128x512_1_0_0 (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 20 5 ⟨1, by decide⟩ ((kernelRun0_A.sl.HS0_21 (F := Ideal) c (ms0_1 t) (hs0_1 t) (ms0_2 t) (hs0_2 t) (ms0_6 t) (hs0_6 t) (ms0_7 t) (hs0_7 t) scM0_0 x1 x2 x6 x7)) (cA_20 c t x1 x2 x6 x7) inb_S4x256x512_S1x256x512_1_0_0 (by decide) (by decide)),
      tile ⟨5, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_0 inb_S1x1024x2048_S1x128x512_0_640_0 inb_S4x128x128_S1x128x128_0_0_0 inb_S4x128x512_S1x128x512_0_0_0 (scM0_0.view.readCov (Val := Elt Ideal) ((kernelRun0_A.sl.HS0_21 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 20 5 ⟨0, by decide⟩ ((kernelRun0_A.sl.HS0_21 (F := Ideal) c (ms0_1 t) (hs0_1 t) (ms0_2 t) (hs0_2 t) (ms0_6 t) (hs0_6 t) (ms0_7 t) (hs0_7 t) scM0_0 x1 x2 x6 x7)) (cA_20 c t x1 x2 x6 x7) inb_S4x256x512_S1x256x512_0_0_0 (by decide) (by decide)),
      tile ⟨4, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_768 inb_S1x1024x2048_S1x128x512_0_512_1536 inb_S4x128x128_S1x128x128_3_0_0 inb_S4x128x512_S1x128x512_3_0_0 (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 16 4 ⟨3, by decide⟩ ((kernelRun0_A.sl.HS0_17 (F := Ideal) c (ms0_1 t) (hs0_1 t) (ms0_2 t) (hs0_2 t) (ms0_6 t) (hs0_6 t) (ms0_7 t) (hs0_7 t) scM0_0 x1 x2 x6 x7)) (cA_16 c t x1 x2 x6 x7) inb_S4x256x512_S1x256x512_3_0_0 (by decide) (by decide)),
      tile ⟨4, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_512 inb_S1x1024x2048_S1x128x512_0_512_1024 inb_S4x128x128_S1x128x128_2_0_0 inb_S4x128x512_S1x128x512_2_0_0 (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 16 4 ⟨2, by decide⟩ ((kernelRun0_A.sl.HS0_17 (F := Ideal) c (ms0_1 t) (hs0_1 t) (ms0_2 t) (hs0_2 t) (ms0_6 t) (hs0_6 t) (ms0_7 t) (hs0_7 t) scM0_0 x1 x2 x6 x7)) (cA_16 c t x1 x2 x6 x7) inb_S4x256x512_S1x256x512_2_0_0 (by decide) (by decide)),
      tile ⟨4, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_256 inb_S1x1024x2048_S1x128x512_0_512_512 inb_S4x128x128_S1x128x128_1_0_0 inb_S4x128x512_S1x128x512_1_0_0 (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 16 4 ⟨1, by decide⟩ ((kernelRun0_A.sl.HS0_17 (F := Ideal) c (ms0_1 t) (hs0_1 t) (ms0_2 t) (hs0_2 t) (ms0_6 t) (hs0_6 t) (ms0_7 t) (hs0_7 t) scM0_0 x1 x2 x6 x7)) (cA_16 c t x1 x2 x6 x7) inb_S4x256x512_S1x256x512_1_0_0 (by decide) (by decide)),
      tile ⟨4, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_0 inb_S1x1024x2048_S1x128x512_0_512_0 inb_S4x128x128_S1x128x128_0_0_0 inb_S4x128x512_S1x128x512_0_0_0 (scM0_0.view.readCov (Val := Elt Ideal) ((kernelRun0_A.sl.HS0_17 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 16 4 ⟨0, by decide⟩ ((kernelRun0_A.sl.HS0_17 (F := Ideal) c (ms0_1 t) (hs0_1 t) (ms0_2 t) (hs0_2 t) (ms0_6 t) (hs0_6 t) (ms0_7 t) (hs0_7 t) scM0_0 x1 x2 x6 x7)) (cA_16 c t x1 x2 x6 x7) inb_S4x256x512_S1x256x512_0_0_0 (by decide) (by decide)),
      tile ⟨3, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_768 inb_S1x1024x2048_S1x128x512_0_384_1536 inb_S4x128x128_S1x128x128_3_0_0 inb_S4x128x512_S1x128x512_3_0_0 (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 12 3 ⟨3, by decide⟩ ((kernelRun0_A.sl.HS0_13 (F := Ideal) c (ms0_1 t) (hs0_1 t) (ms0_2 t) (hs0_2 t) (ms0_6 t) (hs0_6 t) (ms0_7 t) (hs0_7 t) scM0_0 x1 x2 x6 x7)) (cA_12 c t x1 x2 x6 x7) inb_S4x256x512_S1x256x512_3_0_0 (by decide) (by decide)),
      tile ⟨3, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_512 inb_S1x1024x2048_S1x128x512_0_384_1024 inb_S4x128x128_S1x128x128_2_0_0 inb_S4x128x512_S1x128x512_2_0_0 (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 12 3 ⟨2, by decide⟩ ((kernelRun0_A.sl.HS0_13 (F := Ideal) c (ms0_1 t) (hs0_1 t) (ms0_2 t) (hs0_2 t) (ms0_6 t) (hs0_6 t) (ms0_7 t) (hs0_7 t) scM0_0 x1 x2 x6 x7)) (cA_12 c t x1 x2 x6 x7) inb_S4x256x512_S1x256x512_2_0_0 (by decide) (by decide)),
      tile ⟨3, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_256 inb_S1x1024x2048_S1x128x512_0_384_512 inb_S4x128x128_S1x128x128_1_0_0 inb_S4x128x512_S1x128x512_1_0_0 (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 12 3 ⟨1, by decide⟩ ((kernelRun0_A.sl.HS0_13 (F := Ideal) c (ms0_1 t) (hs0_1 t) (ms0_2 t) (hs0_2 t) (ms0_6 t) (hs0_6 t) (ms0_7 t) (hs0_7 t) scM0_0 x1 x2 x6 x7)) (cA_12 c t x1 x2 x6 x7) inb_S4x256x512_S1x256x512_1_0_0 (by decide) (by decide)),
      tile ⟨3, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_0 inb_S1x1024x2048_S1x128x512_0_384_0 inb_S4x128x128_S1x128x128_0_0_0 inb_S4x128x512_S1x128x512_0_0_0 (scM0_0.view.readCov (Val := Elt Ideal) ((kernelRun0_A.sl.HS0_13 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 12 3 ⟨0, by decide⟩ ((kernelRun0_A.sl.HS0_13 (F := Ideal) c (ms0_1 t) (hs0_1 t) (ms0_2 t) (hs0_2 t) (ms0_6 t) (hs0_6 t) (ms0_7 t) (hs0_7 t) scM0_0 x1 x2 x6 x7)) (cA_12 c t x1 x2 x6 x7) inb_S4x256x512_S1x256x512_0_0_0 (by decide) (by decide)),
      tile ⟨2, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_768 inb_S1x1024x2048_S1x128x512_0_256_1536 inb_S4x128x128_S1x128x128_3_0_0 inb_S4x128x512_S1x128x512_3_0_0 (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 8 2 ⟨3, by decide⟩ ((kernelRun0_A.sl.HS0_9 (F := Ideal) c (ms0_1 t) (hs0_1 t) (ms0_2 t) (hs0_2 t) (ms0_6 t) (hs0_6 t) (ms0_7 t) (hs0_7 t) scM0_0 x1 x2 x6 x7)) (cA_8 c t x1 x2 x6 x7) inb_S4x256x512_S1x256x512_3_0_0 (by decide) (by decide)),
      tile ⟨2, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_512 inb_S1x1024x2048_S1x128x512_0_256_1024 inb_S4x128x128_S1x128x128_2_0_0 inb_S4x128x512_S1x128x512_2_0_0 (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 8 2 ⟨2, by decide⟩ ((kernelRun0_A.sl.HS0_9 (F := Ideal) c (ms0_1 t) (hs0_1 t) (ms0_2 t) (hs0_2 t) (ms0_6 t) (hs0_6 t) (ms0_7 t) (hs0_7 t) scM0_0 x1 x2 x6 x7)) (cA_8 c t x1 x2 x6 x7) inb_S4x256x512_S1x256x512_2_0_0 (by decide) (by decide)),
      tile ⟨2, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_256 inb_S1x1024x2048_S1x128x512_0_256_512 inb_S4x128x128_S1x128x128_1_0_0 inb_S4x128x512_S1x128x512_1_0_0 (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 8 2 ⟨1, by decide⟩ ((kernelRun0_A.sl.HS0_9 (F := Ideal) c (ms0_1 t) (hs0_1 t) (ms0_2 t) (hs0_2 t) (ms0_6 t) (hs0_6 t) (ms0_7 t) (hs0_7 t) scM0_0 x1 x2 x6 x7)) (cA_8 c t x1 x2 x6 x7) inb_S4x256x512_S1x256x512_1_0_0 (by decide) (by decide)),
      tile ⟨2, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_0 inb_S1x1024x2048_S1x128x512_0_256_0 inb_S4x128x128_S1x128x128_0_0_0 inb_S4x128x512_S1x128x512_0_0_0 (scM0_0.view.readCov (Val := Elt Ideal) ((kernelRun0_A.sl.HS0_9 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 8 2 ⟨0, by decide⟩ ((kernelRun0_A.sl.HS0_9 (F := Ideal) c (ms0_1 t) (hs0_1 t) (ms0_2 t) (hs0_2 t) (ms0_6 t) (hs0_6 t) (ms0_7 t) (hs0_7 t) scM0_0 x1 x2 x6 x7)) (cA_8 c t x1 x2 x6 x7) inb_S4x256x512_S1x256x512_0_0_0 (by decide) (by decide)),
      tile ⟨1, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_768 inb_S1x1024x2048_S1x128x512_0_128_1536 inb_S4x128x128_S1x128x128_3_0_0 inb_S4x128x512_S1x128x512_3_0_0 (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![3, 0, 0] S1x256x512.size inb_S4x256x512_S1x256x512_3_0_0).toLoadRect) (load 4 4 1 ⟨3, by decide⟩ ((kernelRun0_A.sl.HS0_5 (F := Ideal) c (ms0_1 t) (hs0_1 t) (ms0_2 t) (hs0_2 t) (ms0_6 t) (hs0_6 t) (ms0_7 t) (hs0_7 t) scM0_0 x1 x2 x6 x7)) (cA_4 c t x1 x2 x6 x7) inb_S4x256x512_S1x256x512_3_0_0 (by decide) (by decide)),
      tile ⟨1, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_512 inb_S1x1024x2048_S1x128x512_0_128_1024 inb_S4x128x128_S1x128x128_2_0_0 inb_S4x128x512_S1x128x512_2_0_0 (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![2, 0, 0] S1x256x512.size inb_S4x256x512_S1x256x512_2_0_0).toLoadRect) (load 4 4 1 ⟨2, by decide⟩ ((kernelRun0_A.sl.HS0_5 (F := Ideal) c (ms0_1 t) (hs0_1 t) (ms0_2 t) (hs0_2 t) (ms0_6 t) (hs0_6 t) (ms0_7 t) (hs0_7 t) scM0_0 x1 x2 x6 x7)) (cA_4 c t x1 x2 x6 x7) inb_S4x256x512_S1x256x512_2_0_0 (by decide) (by decide)),
      tile ⟨1, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_256 inb_S1x1024x2048_S1x128x512_0_128_512 inb_S4x128x128_S1x128x128_1_0_0 inb_S4x128x512_S1x128x512_1_0_0 (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![1, 0, 0] S1x256x512.size inb_S4x256x512_S1x256x512_1_0_0).toLoadRect) (load 4 4 1 ⟨1, by decide⟩ ((kernelRun0_A.sl.HS0_5 (F := Ideal) c (ms0_1 t) (hs0_1 t) (ms0_2 t) (hs0_2 t) (ms0_6 t) (hs0_6 t) (ms0_7 t) (hs0_7 t) scM0_0 x1 x2 x6 x7)) (cA_4 c t x1 x2 x6 x7) inb_S4x256x512_S1x256x512_1_0_0 (by decide) (by decide)),
      tile ⟨1, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_0 inb_S1x1024x2048_S1x128x512_0_128_0 inb_S4x128x128_S1x128x128_0_0_0 inb_S4x128x512_S1x128x512_0_0_0 (scM0_0.view.readCov (Val := Elt Ideal) ((kernelRun0_A.sl.HS0_5 (F := Ideal) c (ms0_1 t) (hs0_1 t) (ms0_2 t) (hs0_2 t) (ms0_6 t) (hs0_6 t) (ms0_7 t) (hs0_7 t) scM0_0 x1 x2 x6 x7)) (Rect.unit (s := S4x256x512) ![0, 0, 0] S1x256x512.size inb_S4x256x512_S1x256x512_0_0_0).toLoadRect) (load 4 4 1 ⟨0, by decide⟩ ((kernelRun0_A.sl.HS0_5 (F := Ideal) c (ms0_1 t) (hs0_1 t) (ms0_2 t) (hs0_2 t) (ms0_6 t) (hs0_6 t) (ms0_7 t) (hs0_7 t) scM0_0 x1 x2 x6 x7)) (cA_4 c t x1 x2 x6 x7) inb_S4x256x512_S1x256x512_0_0_0 (by decide) (by decide)),
      tile ⟨0, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_768 inb_S1x1024x2048_S1x128x512_0_0_1536 inb_S4x128x128_S1x128x128_3_0_0 inb_S4x128x512_S1x128x512_3_0_0 (scM0_0.view.readCov (Val := Elt Ideal) (lA_0 c t x1 x2 x6 x7) (Rect.unit (s := S4x256x512) ![3, 0, 0] S1x256x512.size inb_S4x256x512_S1x256x512_3_0_0).toLoadRect) (load 4 0 0 ⟨3, by decide⟩ (lA_0 c t x1 x2 x6 x7) (cA_0 c t x1 x2 x6 x7) inb_S4x256x512_S1x256x512_3_0_0 (by decide) (by decide)),
      tile ⟨0, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_512 inb_S1x1024x2048_S1x128x512_0_0_1024 inb_S4x128x128_S1x128x128_2_0_0 inb_S4x128x512_S1x128x512_2_0_0 (scM0_0.view.readCov (Val := Elt Ideal) (lA_0 c t x1 x2 x6 x7) (Rect.unit (s := S4x256x512) ![2, 0, 0] S1x256x512.size inb_S4x256x512_S1x256x512_2_0_0).toLoadRect) (load 4 0 0 ⟨2, by decide⟩ (lA_0 c t x1 x2 x6 x7) (cA_0 c t x1 x2 x6 x7) inb_S4x256x512_S1x256x512_2_0_0 (by decide) (by decide)),
      tile ⟨0, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_256 inb_S1x1024x2048_S1x128x512_0_0_512 inb_S4x128x128_S1x128x128_1_0_0 inb_S4x128x512_S1x128x512_1_0_0 (scM0_0.view.readCov (Val := Elt Ideal) (lA_0 c t x1 x2 x6 x7) (Rect.unit (s := S4x256x512) ![1, 0, 0] S1x256x512.size inb_S4x256x512_S1x256x512_1_0_0).toLoadRect) (load 4 0 0 ⟨1, by decide⟩ (lA_0 c t x1 x2 x6 x7) (cA_0 c t x1 x2 x6 x7) inb_S4x256x512_S1x256x512_1_0_0 (by decide) (by decide)),
      tile ⟨0, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_0 inb_S1x1024x2048_S1x128x512_0_0_0 inb_S4x128x128_S1x128x128_0_0_0 inb_S4x128x512_S1x128x512_0_0_0 (scM0_0.view.readCov (Val := Elt Ideal) (lA_0 c t x1 x2 x6 x7) (Rect.unit (s := S4x256x512) ![0, 0, 0] S1x256x512.size inb_S4x256x512_S1x256x512_0_0_0).toLoadRect) (load 4 0 0 ⟨0, by decide⟩ (lA_0 c t x1 x2 x6 x7) (cA_0 c t x1 x2 x6 x7) inb_S4x256x512_S1x256x512_0_0_0 (by decide) (by decide)), trivial⟩

set_option maxHeartbeats 2000000 in
/-- What the point stores, read at an index. -/
theorem outA (c : Dev nD) (t : Fin cfg0.N) (h0 : t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32)  (y : S1x1024x2048.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5 x6 x7 y = oG x0 x1 x2 x3 x4 x5 (stL x1 x2 x6 x7 (fun _ _ _ => 0)) y := by
  unfold out0_A_8
  rw [View.read_writes_junk_eq_canon]
  have h : View.PiecesOf (Val := Elt Ideal) (e := .bf16) (oG x0 x1 x2 x3 x4 x5 (stL x1 x2 x6 x7 (fun _ _ _ => 0))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5 x6 x7).1 := piecesA c t h0 x0 x1 x2 x3 x4 x5 x6 x7
  have e := View.canon_append_of_piecesOf (oG x0 x1 x2 x3 x4 x5 (stL x1 x2 x6 x7 (fun _ _ _ => 0))) [] _ h y (cover0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5 x6 x7 y)
  rwa [List.append_nil] at e

/-- What the point leaves in the state, read at an index. -/
theorem stateA (c : Dev nD) (t : Fin cfg0.N) (h0 : t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32)  (h : Fin 4) (a : Fin 256) (b : Fin 512) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5 x6 x7 (ix3 h a b) = stL x1 x2 x6 x7 (fun _ _ _ => 0) 8 h a b := by
  unfold sout0_A_0
  rw [View.read_writes_junk_eq_canon]
  have e := cA_32 c t h0 x0 x1 x2 x3 x4 x5 x6 x7  h a b (by omega)
  rwa [show (32 + 3 - h.val) / 4 = 8 by omega] at e

end Cert.RetIdeal.Hand

end
-- ==== Proof.RetStateB.lean ====
/- The retention call: the state at an odd grid point, store by store. -/
module

public import proofs.«01_k».proof.Proof.RetTiles

@[expose] public section

set_option maxRecDepth 16384

noncomputable section

namespace Cert.RetIdeal.Hand

open Cert.RetIdeal Cert.RetIdeal.Gen Idealize.ShloMosaic Idealize.ShloMosaic.TcCoe Cert.Rows

/-- The stores into the state before the first chunk. -/
abbrev lB_0 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : List (View.Piece (Elt Ideal) S4x256x512 .f32) := []

/-- The first 1 stores into the state. -/
abbrev lB_1 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : List (View.Piece (Elt Ideal) S4x256x512 .f32) :=
  ⟨(Rect.unit (s := S4x256x512) ![0, 0, 0] S1x256x512.size inb_S4x256x512_S1x256x512_0_0_0), upd (View.readAt (Elt Ideal) (ms0_1 t).view (Rect.unit (s := S1x1024x1024) ![0, 0, 0] S1x128x256.size inb_S1x1024x1024_S1x128x256_0_0_0).toLoadRect ((hs0_1 t).unread x1)) (View.readAt (Elt Ideal) (ms0_2 t).view (Rect.unit (s := S1x1024x2048) ![0, 0, 0] S1x128x512.size inb_S1x1024x2048_S1x128x512_0_0_0).toLoadRect ((hs0_2 t).unread x2)) (View.readAt (Elt Ideal) (ms0_6 t).view (Rect.unit (s := S4x128x256) ![0, 0, 0] S1x128x256.size inb_S4x128x256_S1x128x256_0_0_0).toLoadRect ((hs0_6 t).unread x6)) (View.readAt (Elt Ideal) scM0_0.view (Rect.unit (s := S4x256x512) ![0, 0, 0] S1x256x512.size inb_S4x256x512_S1x256x512_0_0_0).toLoadRect ((Memref.isWhole_whole _ : scM0_0.IsWhole).unread xs0)) (View.readAt (Elt Ideal) (ms0_7 t).view (Rect.unit (s := S4x1x512) ![0, 0, 0] S1x1x512.size inb_S4x1x512_S1x1x512_0_0_0).toLoadRect ((hs0_7 t).unread x7))⟩ :: lB_0 c t x1 x2 x6 x7 xs0

/-- The first 2 stores into the state. -/
abbrev lB_2 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : List (View.Piece (Elt Ideal) S4x256x512 .f32) :=
  ⟨(Rect.unit (s := S4x256x512) ![1, 0, 0] S1x256x512.size inb_S4x256x512_S1x256x512_1_0_0), upd (View.readAt (Elt Ideal) (ms0_1 t).view (Rect.unit (s := S1x1024x1024) ![0, 0, 256] S1x128x256.size inb_S1x1024x1024_S1x128x256_0_0_256).toLoadRect ((hs0_1 t).unread x1)) (View.readAt (Elt Ideal) (ms0_2 t).view (Rect.unit (s := S1x1024x2048) ![0, 0, 512] S1x128x512.size inb_S1x1024x2048_S1x128x512_0_0_512).toLoadRect ((hs0_2 t).unread x2)) (View.readAt (Elt Ideal) (ms0_6 t).view (Rect.unit (s := S4x128x256) ![1, 0, 0] S1x128x256.size inb_S4x128x256_S1x128x256_1_0_0).toLoadRect ((hs0_6 t).unread x6)) (View.readAt (Elt Ideal) scM0_0.view (Rect.unit (s := S4x256x512) ![1, 0, 0] S1x256x512.size inb_S4x256x512_S1x256x512_1_0_0).toLoadRect ((Memref.isWhole_whole _ : scM0_0.IsWhole).unread xs0)) (View.readAt (Elt Ideal) (ms0_7 t).view (Rect.unit (s := S4x1x512) ![1, 0, 0] S1x1x512.size inb_S4x1x512_S1x1x512_1_0_0).toLoadRect ((hs0_7 t).unread x7))⟩ :: lB_1 c t x1 x2 x6 x7 xs0

/-- The first 3 stores into the state. -/
abbrev lB_3 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : List (View.Piece (Elt Ideal) S4x256x512 .f32) :=
  ⟨(Rect.unit (s := S4x256x512) ![2, 0, 0] S1x256x512.size inb_S4x256x512_S1x256x512_2_0_0), upd (View.readAt (Elt Ideal) (ms0_1 t).view (Rect.unit (s := S1x1024x1024) ![0, 0, 512] S1x128x256.size inb_S1x1024x1024_S1x128x256_0_0_512).toLoadRect ((hs0_1 t).unread x1)) (View.readAt (Elt Ideal) (ms0_2 t).view (Rect.unit (s := S1x1024x2048) ![0, 0, 1024] S1x128x512.size inb_S1x1024x2048_S1x128x512_0_0_1024).toLoadRect ((hs0_2 t).unread x2)) (View.readAt (Elt Ideal) (ms0_6 t).view (Rect.unit (s := S4x128x256) ![2, 0, 0] S1x128x256.size inb_S4x128x256_S1x128x256_2_0_0).toLoadRect ((hs0_6 t).unread x6)) (View.readAt (Elt Ideal) scM0_0.view (Rect.unit (s := S4x256x512) ![2, 0, 0] S1x256x512.size inb_S4x256x512_S1x256x512_2_0_0).toLoadRect ((Memref.isWhole_whole _ : scM0_0.IsWhole).unread xs0)) (View.readAt (Elt Ideal) (ms0_7 t).view (Rect.unit (s := S4x1x512) ![2, 0, 0] S1x1x512.size inb_S4x1x512_S1x1x512_2_0_0).toLoadRect ((hs0_7 t).unread x7))⟩ :: lB_2 c t x1 x2 x6 x7 xs0

/-- The first 4 stores into the state. -/
abbrev lB_4 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : List (View.Piece (Elt Ideal) S4x256x512 .f32) :=
  ⟨(Rect.unit (s := S4x256x512) ![3, 0, 0] S1x256x512.size inb_S4x256x512_S1x256x512_3_0_0), upd (View.readAt (Elt Ideal) (ms0_1 t).view (Rect.unit (s := S1x1024x1024) ![0, 0, 768] S1x128x256.size inb_S1x1024x1024_S1x128x256_0_0_768).toLoadRect ((hs0_1 t).unread x1)) (View.readAt (Elt Ideal) (ms0_2 t).view (Rect.unit (s := S1x1024x2048) ![0, 0, 1536] S1x128x512.size inb_S1x1024x2048_S1x128x512_0_0_1536).toLoadRect ((hs0_2 t).unread x2)) (View.readAt (Elt Ideal) (ms0_6 t).view (Rect.unit (s := S4x128x256) ![3, 0, 0] S1x128x256.size inb_S4x128x256_S1x128x256_3_0_0).toLoadRect ((hs0_6 t).unread x6)) (View.readAt (Elt Ideal) scM0_0.view (Rect.unit (s := S4x256x512) ![3, 0, 0] S1x256x512.size inb_S4x256x512_S1x256x512_3_0_0).toLoadRect ((Memref.isWhole_whole _ : scM0_0.IsWhole).unread xs0)) (View.readAt (Elt Ideal) (ms0_7 t).view (Rect.unit (s := S4x1x512) ![3, 0, 0] S1x1x512.size inb_S4x1x512_S1x1x512_3_0_0).toLoadRect ((hs0_7 t).unread x7))⟩ :: lB_3 c t x1 x2 x6 x7 xs0

/-- The state before the first store: nothing is claimed of what is stored. -/
theorem cB_0 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 0 (lB_0 c t x1 x2 x6 x7 xs0) := fun h _ _ hg => absurd hg (by omega)

/-- The state after 1 stores. -/
theorem cB_1 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 1 (lB_1 c t x1 x2 x6 x7 xs0) :=
  step 0 0 (by decide) ⟨0, by decide⟩ ⟨0, by decide⟩ (by decide) (ms0_1 t) (hs0_1 t) (ms0_2 t) (hs0_2 t) (ms0_6 t) (hs0_6 t) (ms0_7 t) (hs0_7 t) inb_S1x1024x1024_S1x128x256_0_0_0 inb_S1x1024x2048_S1x128x512_0_0_0 inb_S4x128x256_S1x128x256_0_0_0 inb_S4x1x512_S1x1x512_0_0_0 inb_S4x256x512_S1x256x512_0_0_0 (lB_0 c t x1 x2 x6 x7 xs0) (View.readAt (Elt Ideal) scM0_0.view (Rect.unit (s := S4x256x512) ![0, 0, 0] S1x256x512.size inb_S4x256x512_S1x256x512_0_0_0).toLoadRect ((Memref.isWhole_whole _ : scM0_0.IsWhole).unread xs0)) (load0 ⟨0, by decide⟩ xs0 (Memref.isWhole_whole _) inb_S4x256x512_S1x256x512_0_0_0) (cB_0 c t x1 x2 x6 x7 xs0)

/-- The state after 2 stores. -/
theorem cB_2 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 2 (lB_2 c t x1 x2 x6 x7 xs0) :=
  step 0 1 (by decide) ⟨0, by decide⟩ ⟨1, by decide⟩ (by decide) (ms0_1 t) (hs0_1 t) (ms0_2 t) (hs0_2 t) (ms0_6 t) (hs0_6 t) (ms0_7 t) (hs0_7 t) inb_S1x1024x1024_S1x128x256_0_0_256 inb_S1x1024x2048_S1x128x512_0_0_512 inb_S4x128x256_S1x128x256_1_0_0 inb_S4x1x512_S1x1x512_1_0_0 inb_S4x256x512_S1x256x512_1_0_0 (lB_1 c t x1 x2 x6 x7 xs0) (View.readAt (Elt Ideal) scM0_0.view (Rect.unit (s := S4x256x512) ![1, 0, 0] S1x256x512.size inb_S4x256x512_S1x256x512_1_0_0).toLoadRect ((Memref.isWhole_whole _ : scM0_0.IsWhole).unread xs0)) (load0 ⟨1, by decide⟩ xs0 (Memref.isWhole_whole _) inb_S4x256x512_S1x256x512_1_0_0) (cB_1 c t x1 x2 x6 x7 xs0)

/-- The state after 3 stores. -/
theorem cB_3 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 3 (lB_3 c t x1 x2 x6 x7 xs0) :=
  step 0 2 (by decide) ⟨0, by decide⟩ ⟨2, by decide⟩ (by decide) (ms0_1 t) (hs0_1 t) (ms0_2 t) (hs0_2 t) (ms0_6 t) (hs0_6 t) (ms0_7 t) (hs0_7 t) inb_S1x1024x1024_S1x128x256_0_0_512 inb_S1x1024x2048_S1x128x512_0_0_1024 inb_S4x128x256_S1x128x256_2_0_0 inb_S4x1x512_S1x1x512_2_0_0 inb_S4x256x512_S1x256x512_2_0_0 (lB_2 c t x1 x2 x6 x7 xs0) (View.readAt (Elt Ideal) scM0_0.view (Rect.unit (s := S4x256x512) ![2, 0, 0] S1x256x512.size inb_S4x256x512_S1x256x512_2_0_0).toLoadRect ((Memref.isWhole_whole _ : scM0_0.IsWhole).unread xs0)) (load0 ⟨2, by decide⟩ xs0 (Memref.isWhole_whole _) inb_S4x256x512_S1x256x512_2_0_0) (cB_2 c t x1 x2 x6 x7 xs0)

/-- The state after 4 stores. -/
theorem cB_4 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 4 (lB_4 c t x1 x2 x6 x7 xs0) :=
  step 0 3 (by decide) ⟨0, by decide⟩ ⟨3, by decide⟩ (by decide) (ms0_1 t) (hs0_1 t) (ms0_2 t) (hs0_2 t) (ms0_6 t) (hs0_6 t) (ms0_7 t) (hs0_7 t) inb_S1x1024x1024_S1x128x256_0_0_768 inb_S1x1024x2048_S1x128x512_0_0_1536 inb_S4x128x256_S1x128x256_3_0_0 inb_S4x1x512_S1x1x512_3_0_0 inb_S4x256x512_S1x256x512_3_0_0 (lB_3 c t x1 x2 x6 x7 xs0) (View.readAt (Elt Ideal) scM0_0.view (Rect.unit (s := S4x256x512) ![3, 0, 0] S1x256x512.size inb_S4x256x512_S1x256x512_3_0_0).toLoadRect ((Memref.isWhole_whole _ : scM0_0.IsWhole).unread xs0)) (load0 ⟨3, by decide⟩ xs0 (Memref.isWhole_whole _) inb_S4x256x512_S1x256x512_3_0_0) (cB_3 c t x1 x2 x6 x7 xs0)

/-- The state after 5 stores. -/
theorem cB_5 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 5 ((kernelRun0_B.sl.HS0_5 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 4 (by decide) ⟨1, by decide⟩ ⟨0, by decide⟩ (by decide) (ms0_1 t) (hs0_1 t) (ms0_2 t) (hs0_2 t) (ms0_6 t) (hs0_6 t) (ms0_7 t) (hs0_7 t) inb_S1x1024x1024_S1x128x256_0_128_0 inb_S1x1024x2048_S1x128x512_0_128_0 inb_S4x128x256_S1x128x256_0_0_0 inb_S4x1x512_S1x1x512_0_0_0 inb_S4x256x512_S1x256x512_0_0_0 ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 4 1 ⟨0, by decide⟩ ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (cB_4 c t x1 x2 x6 x7 xs0) inb_S4x256x512_S1x256x512_0_0_0 (by decide) (by decide)) (cB_4 c t x1 x2 x6 x7 xs0)

/-- The state after 6 stores. -/
theorem cB_6 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 6 ((kernelRun0_B.sl.HS0_6 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 5 (by decide) ⟨1, by decide⟩ ⟨1, by decide⟩ (by decide) (ms0_1 t) (hs0_1 t) (ms0_2 t) (hs0_2 t) (ms0_6 t) (hs0_6 t) (ms0_7 t) (hs0_7 t) inb_S1x1024x1024_S1x128x256_0_128_256 inb_S1x1024x2048_S1x128x512_0_128_512 inb_S4x128x256_S1x128x256_1_0_0 inb_S4x1x512_S1x1x512_1_0_0 inb_S4x256x512_S1x256x512_1_0_0 ((kernelRun0_B.sl.HS0_5 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_5 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 5 1 ⟨1, by decide⟩ ((kernelRun0_B.sl.HS0_5 (F := Ideal) c (ms0_1 t) (hs0_1 t) (ms0_2 t) (hs0_2 t) (ms0_6 t) (hs0_6 t) (ms0_7 t) (hs0_7 t) scM0_0 (Memref.isWhole_whole _) x1 x2 x6 x7 xs0)) (cB_5 c t x1 x2 x6 x7 xs0) inb_S4x256x512_S1x256x512_1_0_0 (by decide) (by decide)) (cB_5 c t x1 x2 x6 x7 xs0)

/-- The state after 7 stores. -/
theorem cB_7 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 7 ((kernelRun0_B.sl.HS0_7 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 6 (by decide) ⟨1, by decide⟩ ⟨2, by decide⟩ (by decide) (ms0_1 t) (hs0_1 t) (ms0_2 t) (hs0_2 t) (ms0_6 t) (hs0_6 t) (ms0_7 t) (hs0_7 t) inb_S1x1024x1024_S1x128x256_0_128_512 inb_S1x1024x2048_S1x128x512_0_128_1024 inb_S4x128x256_S1x128x256_2_0_0 inb_S4x1x512_S1x1x512_2_0_0 inb_S4x256x512_S1x256x512_2_0_0 ((kernelRun0_B.sl.HS0_6 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_6 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 6 1 ⟨2, by decide⟩ ((kernelRun0_B.sl.HS0_6 (F := Ideal) c (ms0_1 t) (hs0_1 t) (ms0_2 t) (hs0_2 t) (ms0_6 t) (hs0_6 t) (ms0_7 t) (hs0_7 t) scM0_0 (Memref.isWhole_whole _) x1 x2 x6 x7 xs0)) (cB_6 c t x1 x2 x6 x7 xs0) inb_S4x256x512_S1x256x512_2_0_0 (by decide) (by decide)) (cB_6 c t x1 x2 x6 x7 xs0)

/-- The state after 8 stores. -/
theorem cB_8 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 8 ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 7 (by decide) ⟨1, by decide⟩ ⟨3, by decide⟩ (by decide) (ms0_1 t) (hs0_1 t) (ms0_2 t) (hs0_2 t) (ms0_6 t) (hs0_6 t) (ms0_7 t) (hs0_7 t) inb_S1x1024x1024_S1x128x256_0_128_768 inb_S1x1024x2048_S1x128x512_0_128_1536 inb_S4x128x256_S1x128x256_3_0_0 inb_S4x1x512_S1x1x512_3_0_0 inb_S4x256x512_S1x256x512_3_0_0 ((kernelRun0_B.sl.HS0_7 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_7 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 7 1 ⟨3, by decide⟩ ((kernelRun0_B.sl.HS0_7 (F := Ideal) c (ms0_1 t) (hs0_1 t) (ms0_2 t) (hs0_2 t) (ms0_6 t) (hs0_6 t) (ms0_7 t) (hs0_7 t) scM0_0 (Memref.isWhole_whole _) x1 x2 x6 x7 xs0)) (cB_7 c t x1 x2 x6 x7 xs0) inb_S4x256x512_S1x256x512_3_0_0 (by decide) (by decide)) (cB_7 c t x1 x2 x6 x7 xs0)

/-- The state after 9 stores. -/
theorem cB_9 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 9 ((kernelRun0_B.sl.HS0_9 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 8 (by decide) ⟨2, by decide⟩ ⟨0, by decide⟩ (by decide) (ms0_1 t) (hs0_1 t) (ms0_2 t) (hs0_2 t) (ms0_6 t) (hs0_6 t) (ms0_7 t) (hs0_7 t) inb_S1x1024x1024_S1x128x256_0_256_0 inb_S1x1024x2048_S1x128x512_0_256_0 inb_S4x128x256_S1x128x256_0_0_0 inb_S4x1x512_S1x1x512_0_0_0 inb_S4x256x512_S1x256x512_0_0_0 ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 8 2 ⟨0, by decide⟩ ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (cB_8 c t x1 x2 x6 x7 xs0) inb_S4x256x512_S1x256x512_0_0_0 (by decide) (by decide)) (cB_8 c t x1 x2 x6 x7 xs0)

/-- The state after 10 stores. -/
theorem cB_10 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 10 ((kernelRun0_B.sl.HS0_10 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 9 (by decide) ⟨2, by decide⟩ ⟨1, by decide⟩ (by decide) (ms0_1 t) (hs0_1 t) (ms0_2 t) (hs0_2 t) (ms0_6 t) (hs0_6 t) (ms0_7 t) (hs0_7 t) inb_S1x1024x1024_S1x128x256_0_256_256 inb_S1x1024x2048_S1x128x512_0_256_512 inb_S4x128x256_S1x128x256_1_0_0 inb_S4x1x512_S1x1x512_1_0_0 inb_S4x256x512_S1x256x512_1_0_0 ((kernelRun0_B.sl.HS0_9 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_9 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 9 2 ⟨1, by decide⟩ ((kernelRun0_B.sl.HS0_9 (F := Ideal) c (ms0_1 t) (hs0_1 t) (ms0_2 t) (hs0_2 t) (ms0_6 t) (hs0_6 t) (ms0_7 t) (hs0_7 t) scM0_0 (Memref.isWhole_whole _) x1 x2 x6 x7 xs0)) (cB_9 c t x1 x2 x6 x7 xs0) inb_S4x256x512_S1x256x512_1_0_0 (by decide) (by decide)) (cB_9 c t x1 x2 x6 x7 xs0)

/-- The state after 11 stores. -/
theorem cB_11 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 11 ((kernelRun0_B.sl.HS0_11 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 10 (by decide) ⟨2, by decide⟩ ⟨2, by decide⟩ (by decide) (ms0_1 t) (hs0_1 t) (ms0_2 t) (hs0_2 t) (ms0_6 t) (hs0_6 t) (ms0_7 t) (hs0_7 t) inb_S1x1024x1024_S1x128x256_0_256_512 inb_S1x1024x2048_S1x128x512_0_256_1024 inb_S4x128x256_S1x128x256_2_0_0 inb_S4x1x512_S1x1x512_2_0_0 inb_S4x256x512_S1x256x512_2_0_0 ((kernelRun0_B.sl.HS0_10 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_10 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 10 2 ⟨2, by decide⟩ ((kernelRun0_B.sl.HS0_10 (F := Ideal) c (ms0_1 t) (hs0_1 t) (ms0_2 t) (hs0_2 t) (ms0_6 t) (hs0_6 t) (ms0_7 t) (hs0_7 t) scM0_0 (Memref.isWhole_whole _) x1 x2 x6 x7 xs0)) (cB_10 c t x1 x2 x6 x7 xs0) inb_S4x256x512_S1x256x512_2_0_0 (by decide) (by decide)) (cB_10 c t x1 x2 x6 x7 xs0)

/-- The state after 12 stores. -/
theorem cB_12 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 12 ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 11 (by decide) ⟨2, by decide⟩ ⟨3, by decide⟩ (by decide) (ms0_1 t) (hs0_1 t) (ms0_2 t) (hs0_2 t) (ms0_6 t) (hs0_6 t) (ms0_7 t) (hs0_7 t) inb_S1x1024x1024_S1x128x256_0_256_768 inb_S1x1024x2048_S1x128x512_0_256_1536 inb_S4x128x256_S1x128x256_3_0_0 inb_S4x1x512_S1x1x512_3_0_0 inb_S4x256x512_S1x256x512_3_0_0 ((kernelRun0_B.sl.HS0_11 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_11 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 11 2 ⟨3, by decide⟩ ((kernelRun0_B.sl.HS0_11 (F := Ideal) c (ms0_1 t) (hs0_1 t) (ms0_2 t) (hs0_2 t) (ms0_6 t) (hs0_6 t) (ms0_7 t) (hs0_7 t) scM0_0 (Memref.isWhole_whole _) x1 x2 x6 x7 xs0)) (cB_11 c t x1 x2 x6 x7 xs0) inb_S4x256x512_S1x256x512_3_0_0 (by decide) (by decide)) (cB_11 c t x1 x2 x6 x7 xs0)

/-- The state after 13 stores. -/
theorem cB_13 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 13 ((kernelRun0_B.sl.HS0_13 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 12 (by decide) ⟨3, by decide⟩ ⟨0, by decide⟩ (by decide) (ms0_1 t) (hs0_1 t) (ms0_2 t) (hs0_2 t) (ms0_6 t) (hs0_6 t) (ms0_7 t) (hs0_7 t) inb_S1x1024x1024_S1x128x256_0_384_0 inb_S1x1024x2048_S1x128x512_0_384_0 inb_S4x128x256_S1x128x256_0_0_0 inb_S4x1x512_S1x1x512_0_0_0 inb_S4x256x512_S1x256x512_0_0_0 ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 12 3 ⟨0, by decide⟩ ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (cB_12 c t x1 x2 x6 x7 xs0) inb_S4x256x512_S1x256x512_0_0_0 (by decide) (by decide)) (cB_12 c t x1 x2 x6 x7 xs0)

/-- The state after 14 stores. -/
theorem cB_14 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 14 ((kernelRun0_B.sl.HS0_14 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 13 (by decide) ⟨3, by decide⟩ ⟨1, by decide⟩ (by decide) (ms0_1 t) (hs0_1 t) (ms0_2 t) (hs0_2 t) (ms0_6 t) (hs0_6 t) (ms0_7 t) (hs0_7 t) inb_S1x1024x1024_S1x128x256_0_384_256 inb_S1x1024x2048_S1x128x512_0_384_512 inb_S4x128x256_S1x128x256_1_0_0 inb_S4x1x512_S1x1x512_1_0_0 inb_S4x256x512_S1x256x512_1_0_0 ((kernelRun0_B.sl.HS0_13 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_13 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 13 3 ⟨1, by decide⟩ ((kernelRun0_B.sl.HS0_13 (F := Ideal) c (ms0_1 t) (hs0_1 t) (ms0_2 t) (hs0_2 t) (ms0_6 t) (hs0_6 t) (ms0_7 t) (hs0_7 t) scM0_0 (Memref.isWhole_whole _) x1 x2 x6 x7 xs0)) (cB_13 c t x1 x2 x6 x7 xs0) inb_S4x256x512_S1x256x512_1_0_0 (by decide) (by decide)) (cB_13 c t x1 x2 x6 x7 xs0)

/-- The state after 15 stores. -/
theorem cB_15 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 15 ((kernelRun0_B.sl.HS0_15 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 14 (by decide) ⟨3, by decide⟩ ⟨2, by decide⟩ (by decide) (ms0_1 t) (hs0_1 t) (ms0_2 t) (hs0_2 t) (ms0_6 t) (hs0_6 t) (ms0_7 t) (hs0_7 t) inb_S1x1024x1024_S1x128x256_0_384_512 inb_S1x1024x2048_S1x128x512_0_384_1024 inb_S4x128x256_S1x128x256_2_0_0 inb_S4x1x512_S1x1x512_2_0_0 inb_S4x256x512_S1x256x512_2_0_0 ((kernelRun0_B.sl.HS0_14 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_14 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 14 3 ⟨2, by decide⟩ ((kernelRun0_B.sl.HS0_14 (F := Ideal) c (ms0_1 t) (hs0_1 t) (ms0_2 t) (hs0_2 t) (ms0_6 t) (hs0_6 t) (ms0_7 t) (hs0_7 t) scM0_0 (Memref.isWhole_whole _) x1 x2 x6 x7 xs0)) (cB_14 c t x1 x2 x6 x7 xs0) inb_S4x256x512_S1x256x512_2_0_0 (by decide) (by decide)) (cB_14 c t x1 x2 x6 x7 xs0)

/-- The state after 16 stores. -/
theorem cB_16 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 16 ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 15 (by decide) ⟨3, by decide⟩ ⟨3, by decide⟩ (by decide) (ms0_1 t) (hs0_1 t) (ms0_2 t) (hs0_2 t) (ms0_6 t) (hs0_6 t) (ms0_7 t) (hs0_7 t) inb_S1x1024x1024_S1x128x256_0_384_768 inb_S1x1024x2048_S1x128x512_0_384_1536 inb_S4x128x256_S1x128x256_3_0_0 inb_S4x1x512_S1x1x512_3_0_0 inb_S4x256x512_S1x256x512_3_0_0 ((kernelRun0_B.sl.HS0_15 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_15 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 15 3 ⟨3, by decide⟩ ((kernelRun0_B.sl.HS0_15 (F := Ideal) c (ms0_1 t) (hs0_1 t) (ms0_2 t) (hs0_2 t) (ms0_6 t) (hs0_6 t) (ms0_7 t) (hs0_7 t) scM0_0 (Memref.isWhole_whole _) x1 x2 x6 x7 xs0)) (cB_15 c t x1 x2 x6 x7 xs0) inb_S4x256x512_S1x256x512_3_0_0 (by decide) (by decide)) (cB_15 c t x1 x2 x6 x7 xs0)

/-- The state after 17 stores. -/
theorem cB_17 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 17 ((kernelRun0_B.sl.HS0_17 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 16 (by decide) ⟨4, by decide⟩ ⟨0, by decide⟩ (by decide) (ms0_1 t) (hs0_1 t) (ms0_2 t) (hs0_2 t) (ms0_6 t) (hs0_6 t) (ms0_7 t) (hs0_7 t) inb_S1x1024x1024_S1x128x256_0_512_0 inb_S1x1024x2048_S1x128x512_0_512_0 inb_S4x128x256_S1x128x256_0_0_0 inb_S4x1x512_S1x1x512_0_0_0 inb_S4x256x512_S1x256x512_0_0_0 ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 16 4 ⟨0, by decide⟩ ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (cB_16 c t x1 x2 x6 x7 xs0) inb_S4x256x512_S1x256x512_0_0_0 (by decide) (by decide)) (cB_16 c t x1 x2 x6 x7 xs0)

/-- The state after 18 stores. -/
theorem cB_18 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 18 ((kernelRun0_B.sl.HS0_18 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 17 (by decide) ⟨4, by decide⟩ ⟨1, by decide⟩ (by decide) (ms0_1 t) (hs0_1 t) (ms0_2 t) (hs0_2 t) (ms0_6 t) (hs0_6 t) (ms0_7 t) (hs0_7 t) inb_S1x1024x1024_S1x128x256_0_512_256 inb_S1x1024x2048_S1x128x512_0_512_512 inb_S4x128x256_S1x128x256_1_0_0 inb_S4x1x512_S1x1x512_1_0_0 inb_S4x256x512_S1x256x512_1_0_0 ((kernelRun0_B.sl.HS0_17 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_17 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 17 4 ⟨1, by decide⟩ ((kernelRun0_B.sl.HS0_17 (F := Ideal) c (ms0_1 t) (hs0_1 t) (ms0_2 t) (hs0_2 t) (ms0_6 t) (hs0_6 t) (ms0_7 t) (hs0_7 t) scM0_0 (Memref.isWhole_whole _) x1 x2 x6 x7 xs0)) (cB_17 c t x1 x2 x6 x7 xs0) inb_S4x256x512_S1x256x512_1_0_0 (by decide) (by decide)) (cB_17 c t x1 x2 x6 x7 xs0)

/-- The state after 19 stores. -/
theorem cB_19 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 19 ((kernelRun0_B.sl.HS0_19 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 18 (by decide) ⟨4, by decide⟩ ⟨2, by decide⟩ (by decide) (ms0_1 t) (hs0_1 t) (ms0_2 t) (hs0_2 t) (ms0_6 t) (hs0_6 t) (ms0_7 t) (hs0_7 t) inb_S1x1024x1024_S1x128x256_0_512_512 inb_S1x1024x2048_S1x128x512_0_512_1024 inb_S4x128x256_S1x128x256_2_0_0 inb_S4x1x512_S1x1x512_2_0_0 inb_S4x256x512_S1x256x512_2_0_0 ((kernelRun0_B.sl.HS0_18 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_18 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 18 4 ⟨2, by decide⟩ ((kernelRun0_B.sl.HS0_18 (F := Ideal) c (ms0_1 t) (hs0_1 t) (ms0_2 t) (hs0_2 t) (ms0_6 t) (hs0_6 t) (ms0_7 t) (hs0_7 t) scM0_0 (Memref.isWhole_whole _) x1 x2 x6 x7 xs0)) (cB_18 c t x1 x2 x6 x7 xs0) inb_S4x256x512_S1x256x512_2_0_0 (by decide) (by decide)) (cB_18 c t x1 x2 x6 x7 xs0)

/-- The state after 20 stores. -/
theorem cB_20 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 20 ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 19 (by decide) ⟨4, by decide⟩ ⟨3, by decide⟩ (by decide) (ms0_1 t) (hs0_1 t) (ms0_2 t) (hs0_2 t) (ms0_6 t) (hs0_6 t) (ms0_7 t) (hs0_7 t) inb_S1x1024x1024_S1x128x256_0_512_768 inb_S1x1024x2048_S1x128x512_0_512_1536 inb_S4x128x256_S1x128x256_3_0_0 inb_S4x1x512_S1x1x512_3_0_0 inb_S4x256x512_S1x256x512_3_0_0 ((kernelRun0_B.sl.HS0_19 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_19 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 19 4 ⟨3, by decide⟩ ((kernelRun0_B.sl.HS0_19 (F := Ideal) c (ms0_1 t) (hs0_1 t) (ms0_2 t) (hs0_2 t) (ms0_6 t) (hs0_6 t) (ms0_7 t) (hs0_7 t) scM0_0 (Memref.isWhole_whole _) x1 x2 x6 x7 xs0)) (cB_19 c t x1 x2 x6 x7 xs0) inb_S4x256x512_S1x256x512_3_0_0 (by decide) (by decide)) (cB_19 c t x1 x2 x6 x7 xs0)

/-- The state after 21 stores. -/
theorem cB_21 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 21 ((kernelRun0_B.sl.HS0_21 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 20 (by decide) ⟨5, by decide⟩ ⟨0, by decide⟩ (by decide) (ms0_1 t) (hs0_1 t) (ms0_2 t) (hs0_2 t) (ms0_6 t) (hs0_6 t) (ms0_7 t) (hs0_7 t) inb_S1x1024x1024_S1x128x256_0_640_0 inb_S1x1024x2048_S1x128x512_0_640_0 inb_S4x128x256_S1x128x256_0_0_0 inb_S4x1x512_S1x1x512_0_0_0 inb_S4x256x512_S1x256x512_0_0_0 ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 20 5 ⟨0, by decide⟩ ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (cB_20 c t x1 x2 x6 x7 xs0) inb_S4x256x512_S1x256x512_0_0_0 (by decide) (by decide)) (cB_20 c t x1 x2 x6 x7 xs0)

/-- The state after 22 stores. -/
theorem cB_22 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 22 ((kernelRun0_B.sl.HS0_22 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 21 (by decide) ⟨5, by decide⟩ ⟨1, by decide⟩ (by decide) (ms0_1 t) (hs0_1 t) (ms0_2 t) (hs0_2 t) (ms0_6 t) (hs0_6 t) (ms0_7 t) (hs0_7 t) inb_S1x1024x1024_S1x128x256_0_640_256 inb_S1x1024x2048_S1x128x512_0_640_512 inb_S4x128x256_S1x128x256_1_0_0 inb_S4x1x512_S1x1x512_1_0_0 inb_S4x256x512_S1x256x512_1_0_0 ((kernelRun0_B.sl.HS0_21 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_21 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 21 5 ⟨1, by decide⟩ ((kernelRun0_B.sl.HS0_21 (F := Ideal) c (ms0_1 t) (hs0_1 t) (ms0_2 t) (hs0_2 t) (ms0_6 t) (hs0_6 t) (ms0_7 t) (hs0_7 t) scM0_0 (Memref.isWhole_whole _) x1 x2 x6 x7 xs0)) (cB_21 c t x1 x2 x6 x7 xs0) inb_S4x256x512_S1x256x512_1_0_0 (by decide) (by decide)) (cB_21 c t x1 x2 x6 x7 xs0)

/-- The state after 23 stores. -/
theorem cB_23 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 23 ((kernelRun0_B.sl.HS0_23 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 22 (by decide) ⟨5, by decide⟩ ⟨2, by decide⟩ (by decide) (ms0_1 t) (hs0_1 t) (ms0_2 t) (hs0_2 t) (ms0_6 t) (hs0_6 t) (ms0_7 t) (hs0_7 t) inb_S1x1024x1024_S1x128x256_0_640_512 inb_S1x1024x2048_S1x128x512_0_640_1024 inb_S4x128x256_S1x128x256_2_0_0 inb_S4x1x512_S1x1x512_2_0_0 inb_S4x256x512_S1x256x512_2_0_0 ((kernelRun0_B.sl.HS0_22 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_22 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 22 5 ⟨2, by decide⟩ ((kernelRun0_B.sl.HS0_22 (F := Ideal) c (ms0_1 t) (hs0_1 t) (ms0_2 t) (hs0_2 t) (ms0_6 t) (hs0_6 t) (ms0_7 t) (hs0_7 t) scM0_0 (Memref.isWhole_whole _) x1 x2 x6 x7 xs0)) (cB_22 c t x1 x2 x6 x7 xs0) inb_S4x256x512_S1x256x512_2_0_0 (by decide) (by decide)) (cB_22 c t x1 x2 x6 x7 xs0)

/-- The state after 24 stores. -/
theorem cB_24 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 24 ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 23 (by decide) ⟨5, by decide⟩ ⟨3, by decide⟩ (by decide) (ms0_1 t) (hs0_1 t) (ms0_2 t) (hs0_2 t) (ms0_6 t) (hs0_6 t) (ms0_7 t) (hs0_7 t) inb_S1x1024x1024_S1x128x256_0_640_768 inb_S1x1024x2048_S1x128x512_0_640_1536 inb_S4x128x256_S1x128x256_3_0_0 inb_S4x1x512_S1x1x512_3_0_0 inb_S4x256x512_S1x256x512_3_0_0 ((kernelRun0_B.sl.HS0_23 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_23 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 23 5 ⟨3, by decide⟩ ((kernelRun0_B.sl.HS0_23 (F := Ideal) c (ms0_1 t) (hs0_1 t) (ms0_2 t) (hs0_2 t) (ms0_6 t) (hs0_6 t) (ms0_7 t) (hs0_7 t) scM0_0 (Memref.isWhole_whole _) x1 x2 x6 x7 xs0)) (cB_23 c t x1 x2 x6 x7 xs0) inb_S4x256x512_S1x256x512_3_0_0 (by decide) (by decide)) (cB_23 c t x1 x2 x6 x7 xs0)

/-- The state after 25 stores. -/
theorem cB_25 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 25 ((kernelRun0_B.sl.HS0_25 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 24 (by decide) ⟨6, by decide⟩ ⟨0, by decide⟩ (by decide) (ms0_1 t) (hs0_1 t) (ms0_2 t) (hs0_2 t) (ms0_6 t) (hs0_6 t) (ms0_7 t) (hs0_7 t) inb_S1x1024x1024_S1x128x256_0_768_0 inb_S1x1024x2048_S1x128x512_0_768_0 inb_S4x128x256_S1x128x256_0_0_0 inb_S4x1x512_S1x1x512_0_0_0 inb_S4x256x512_S1x256x512_0_0_0 ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 24 6 ⟨0, by decide⟩ ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (cB_24 c t x1 x2 x6 x7 xs0) inb_S4x256x512_S1x256x512_0_0_0 (by decide) (by decide)) (cB_24 c t x1 x2 x6 x7 xs0)

/-- The state after 26 stores. -/
theorem cB_26 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 26 ((kernelRun0_B.sl.HS0_26 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 25 (by decide) ⟨6, by decide⟩ ⟨1, by decide⟩ (by decide) (ms0_1 t) (hs0_1 t) (ms0_2 t) (hs0_2 t) (ms0_6 t) (hs0_6 t) (ms0_7 t) (hs0_7 t) inb_S1x1024x1024_S1x128x256_0_768_256 inb_S1x1024x2048_S1x128x512_0_768_512 inb_S4x128x256_S1x128x256_1_0_0 inb_S4x1x512_S1x1x512_1_0_0 inb_S4x256x512_S1x256x512_1_0_0 ((kernelRun0_B.sl.HS0_25 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_25 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 25 6 ⟨1, by decide⟩ ((kernelRun0_B.sl.HS0_25 (F := Ideal) c (ms0_1 t) (hs0_1 t) (ms0_2 t) (hs0_2 t) (ms0_6 t) (hs0_6 t) (ms0_7 t) (hs0_7 t) scM0_0 (Memref.isWhole_whole _) x1 x2 x6 x7 xs0)) (cB_25 c t x1 x2 x6 x7 xs0) inb_S4x256x512_S1x256x512_1_0_0 (by decide) (by decide)) (cB_25 c t x1 x2 x6 x7 xs0)

/-- The state after 27 stores. -/
theorem cB_27 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 27 ((kernelRun0_B.sl.HS0_27 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 26 (by decide) ⟨6, by decide⟩ ⟨2, by decide⟩ (by decide) (ms0_1 t) (hs0_1 t) (ms0_2 t) (hs0_2 t) (ms0_6 t) (hs0_6 t) (ms0_7 t) (hs0_7 t) inb_S1x1024x1024_S1x128x256_0_768_512 inb_S1x1024x2048_S1x128x512_0_768_1024 inb_S4x128x256_S1x128x256_2_0_0 inb_S4x1x512_S1x1x512_2_0_0 inb_S4x256x512_S1x256x512_2_0_0 ((kernelRun0_B.sl.HS0_26 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_26 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 26 6 ⟨2, by decide⟩ ((kernelRun0_B.sl.HS0_26 (F := Ideal) c (ms0_1 t) (hs0_1 t) (ms0_2 t) (hs0_2 t) (ms0_6 t) (hs0_6 t) (ms0_7 t) (hs0_7 t) scM0_0 (Memref.isWhole_whole _) x1 x2 x6 x7 xs0)) (cB_26 c t x1 x2 x6 x7 xs0) inb_S4x256x512_S1x256x512_2_0_0 (by decide) (by decide)) (cB_26 c t x1 x2 x6 x7 xs0)

/-- The state after 28 stores. -/
theorem cB_28 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 28 ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 27 (by decide) ⟨6, by decide⟩ ⟨3, by decide⟩ (by decide) (ms0_1 t) (hs0_1 t) (ms0_2 t) (hs0_2 t) (ms0_6 t) (hs0_6 t) (ms0_7 t) (hs0_7 t) inb_S1x1024x1024_S1x128x256_0_768_768 inb_S1x1024x2048_S1x128x512_0_768_1536 inb_S4x128x256_S1x128x256_3_0_0 inb_S4x1x512_S1x1x512_3_0_0 inb_S4x256x512_S1x256x512_3_0_0 ((kernelRun0_B.sl.HS0_27 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_27 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 27 6 ⟨3, by decide⟩ ((kernelRun0_B.sl.HS0_27 (F := Ideal) c (ms0_1 t) (hs0_1 t) (ms0_2 t) (hs0_2 t) (ms0_6 t) (hs0_6 t) (ms0_7 t) (hs0_7 t) scM0_0 (Memref.isWhole_whole _) x1 x2 x6 x7 xs0)) (cB_27 c t x1 x2 x6 x7 xs0) inb_S4x256x512_S1x256x512_3_0_0 (by decide) (by decide)) (cB_27 c t x1 x2 x6 x7 xs0)

/-- The state after 29 stores. -/
theorem cB_29 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 29 ((kernelRun0_B.sl.HS0_29 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 28 (by decide) ⟨7, by decide⟩ ⟨0, by decide⟩ (by decide) (ms0_1 t) (hs0_1 t) (ms0_2 t) (hs0_2 t) (ms0_6 t) (hs0_6 t) (ms0_7 t) (hs0_7 t) inb_S1x1024x1024_S1x128x256_0_896_0 inb_S1x1024x2048_S1x128x512_0_896_0 inb_S4x128x256_S1x128x256_0_0_0 inb_S4x1x512_S1x1x512_0_0_0 inb_S4x256x512_S1x256x512_0_0_0 ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 28 7 ⟨0, by decide⟩ ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (cB_28 c t x1 x2 x6 x7 xs0) inb_S4x256x512_S1x256x512_0_0_0 (by decide) (by decide)) (cB_28 c t x1 x2 x6 x7 xs0)

/-- The state after 30 stores. -/
theorem cB_30 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 30 ((kernelRun0_B.sl.HS0_30 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 29 (by decide) ⟨7, by decide⟩ ⟨1, by decide⟩ (by decide) (ms0_1 t) (hs0_1 t) (ms0_2 t) (hs0_2 t) (ms0_6 t) (hs0_6 t) (ms0_7 t) (hs0_7 t) inb_S1x1024x1024_S1x128x256_0_896_256 inb_S1x1024x2048_S1x128x512_0_896_512 inb_S4x128x256_S1x128x256_1_0_0 inb_S4x1x512_S1x1x512_1_0_0 inb_S4x256x512_S1x256x512_1_0_0 ((kernelRun0_B.sl.HS0_29 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_29 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 29 7 ⟨1, by decide⟩ ((kernelRun0_B.sl.HS0_29 (F := Ideal) c (ms0_1 t) (hs0_1 t) (ms0_2 t) (hs0_2 t) (ms0_6 t) (hs0_6 t) (ms0_7 t) (hs0_7 t) scM0_0 (Memref.isWhole_whole _) x1 x2 x6 x7 xs0)) (cB_29 c t x1 x2 x6 x7 xs0) inb_S4x256x512_S1x256x512_1_0_0 (by decide) (by decide)) (cB_29 c t x1 x2 x6 x7 xs0)

/-- The state after 31 stores. -/
theorem cB_31 (c : Dev nD) (t : Fin cfg0.N) (x1 : Vec Ideal S1x1024x1024 .bf16) (x2 : Vec Ideal S1x1024x2048 .bf16) (x6 : Vec Ideal S4x128x256 .f32) (x7 : Vec Ideal S4x1x512 .f32) (xs0 : Vec Ideal S4x256x512 .f32) : Claim x1 x2 x6 x7 (fun h a b => xs0 (ix3 h a b)) 0 31 ((kernelRun0_B.sl.HS0_31 (F := Ideal) c (ms0_1 t) (hs0_1 t) (ms0_2 t) (hs0_2 t) (ms0_6 t) (hs0_6 t) (ms0_7 t) (hs0_7 t) scM0_0 (Memref.isWhole_whole _) x1 x2 x6 x7 xs0)) :=
  step 0 30 (by decide) ⟨7, by decide⟩ ⟨2, by decide⟩ (by decide) (ms0_1 t) (hs0_1 t) (ms0_2 t) (hs0_2 t) (ms0_6 t) (hs0_6 t) (ms0_7 t) (hs0_7 t) inb_S1x1024x1024_S1x128x256_0_896_512 inb_S1x1024x2048_S1x128x512_0_896_1024 inb_S4x128x256_S1x128x256_2_0_0 inb_S4x1x512_S1x1x512_2_0_0 inb_S4x256x512_S1x256x512_2_0_0 ((kernelRun0_B.sl.HS0_30 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_30 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 30 7 ⟨2, by decide⟩ ((kernelRun0_B.sl.HS0_30 (F := Ideal) c (ms0_1 t) (hs0_1 t) (ms0_2 t) (hs0_2 t) (ms0_6 t) (hs0_6 t) (ms0_7 t) (hs0_7 t) scM0_0 (Memref.isWhole_whole _) x1 x2 x6 x7 xs0)) (cB_30 c t x1 x2 x6 x7 xs0) inb_S4x256x512_S1x256x512_2_0_0 (by decide) (by decide)) (cB_30 c t x1 x2 x6 x7 xs0)

/-- The state after the point. -/
theorem cB_32 (c : Dev nD) (t : Fin cfg0.N) (h0 : ¬ t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32) (xs0 : Vec Ideal S4x256x512 .f32) : Claim x1 x2 x6 x7 (fun h a b => xs0 (ix3 h a b)) 0 32 ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 x6 x7 xs0).2.1) :=
  step 0 31 (by decide) ⟨7, by decide⟩ ⟨3, by decide⟩ (by decide) (ms0_1 t) (hs0_1 t) (ms0_2 t) (hs0_2 t) (ms0_6 t) (hs0_6 t) (ms0_7 t) (hs0_7 t) inb_S1x1024x1024_S1x128x256_0_896_768 inb_S1x1024x2048_S1x128x512_0_896_1536 inb_S4x128x256_S1x128x256_3_0_0 inb_S4x1x512_S1x1x512_3_0_0 inb_S4x256x512_S1x256x512_3_0_0 ((kernelRun0_B.sl.HS0_31 (F := Ideal) c (ms0_1 t) (hs0_1 t) (ms0_2 t) (hs0_2 t) (ms0_6 t) (hs0_6 t) (ms0_7 t) (hs0_7 t) scM0_0 (Memref.isWhole_whole _) x1 x2 x6 x7 xs0)) (scM0_0.view.readCov (Val := Elt Ideal) ((kernelRun0_B.sl.HS0_31 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 31 7 ⟨3, by decide⟩ ((kernelRun0_B.sl.HS0_31 (F := Ideal) c (ms0_1 t) (hs0_1 t) (ms0_2 t) (hs0_2 t) (ms0_6 t) (hs0_6 t) (ms0_7 t) (hs0_7 t) scM0_0 (Memref.isWhole_whole _) x1 x2 x6 x7 xs0)) (cB_31 c t x1 x2 x6 x7 xs0) inb_S4x256x512_S1x256x512_3_0_0 (by decide) (by decide)) (cB_31 c t x1 x2 x6 x7 xs0)

end Cert.RetIdeal.Hand

end
-- ==== Proof.RetPointB.lean ====
/- The retention call: the output of an odd grid point, read at an index. -/
module

public import proofs.«01_k».proof.Proof.RetOut
public import proofs.«01_k».proof.Proof.RetStateB
public import Idealize.ShloMosaic.Lib.Pipeline.ReadBack

@[expose] public section

set_option maxRecDepth 16384

noncomputable section

namespace Cert.RetIdeal.Hand

open Cert.RetIdeal Cert.RetIdeal.Gen Idealize.ShloMosaic Idealize.ShloMosaic.TcCoe Cert.Rows

set_option maxHeartbeats 2000000 in
/-- The point's stores are blocks of its output. -/
theorem piecesB (c : Dev nD) (t : Fin cfg0.N) (h0 : ¬ t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32) (xs0 : Vec Ideal S4x256x512 .f32) :
    View.PiecesOf (Val := Elt Ideal) (e := .bf16) (oG x0 x1 x2 x3 x4 x5 (stL x1 x2 x6 x7 (fun h a b => xs0 (ix3 h a b)))) [
      ⟨(Rect.unit (s := S1x1024x2048) ![0, 896, 1536] S1x128x512.size inb_S1x1024x2048_S1x128x512_0_896_1536), outp (View.readAt (Elt Ideal) (ms0_0 t).view (Rect.unit (s := S1x1024x1024) ![0, 896, 768] S1x128x256.size inb_S1x1024x1024_S1x128x256_0_896_768).toLoadRect ((hs0_0 t).unread x0)) (View.readAt (Elt Ideal) (ms0_1 t).view (Rect.unit (s := S1x1024x1024) ![0, 896, 768] S1x128x256.size inb_S1x1024x1024_S1x128x256_0_896_768).toLoadRect ((hs0_1 t).unread x1)) (View.readAt (Elt Ideal) (ms0_2 t).view (Rect.unit (s := S1x1024x2048) ![0, 896, 1536] S1x128x512.size inb_S1x1024x2048_S1x128x512_0_896_1536).toLoadRect ((hs0_2 t).unread x2)) (View.readAt (Elt Ideal) (ms0_3 t).view (Rect.unit (s := S1x1024x2048) ![0, 896, 1536] S1x128x512.size inb_S1x1024x2048_S1x128x512_0_896_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 896, 1024] S1x128x512.size inb_S1x1024x2048_S1x128x512_0_896_1024), outp (View.readAt (Elt Ideal) (ms0_0 t).view (Rect.unit (s := S1x1024x1024) ![0, 896, 512] S1x128x256.size inb_S1x1024x1024_S1x128x256_0_896_512).toLoadRect ((hs0_0 t).unread x0)) (View.readAt (Elt Ideal) (ms0_1 t).view (Rect.unit (s := S1x1024x1024) ![0, 896, 512] S1x128x256.size inb_S1x1024x1024_S1x128x256_0_896_512).toLoadRect ((hs0_1 t).unread x1)) (View.readAt (Elt Ideal) (ms0_2 t).view (Rect.unit (s := S1x1024x2048) ![0, 896, 1024] S1x128x512.size inb_S1x1024x2048_S1x128x512_0_896_1024).toLoadRect ((hs0_2 t).unread x2)) (View.readAt (Elt Ideal) (ms0_3 t).view (Rect.unit (s := S1x1024x2048) ![0, 896, 1024] S1x128x512.size inb_S1x1024x2048_S1x128x512_0_896_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 896, 512] S1x128x512.size inb_S1x1024x2048_S1x128x512_0_896_512), outp (View.readAt (Elt Ideal) (ms0_0 t).view (Rect.unit (s := S1x1024x1024) ![0, 896, 256] S1x128x256.size inb_S1x1024x1024_S1x128x256_0_896_256).toLoadRect ((hs0_0 t).unread x0)) (View.readAt (Elt Ideal) (ms0_1 t).view (Rect.unit (s := S1x1024x1024) ![0, 896, 256] S1x128x256.size inb_S1x1024x1024_S1x128x256_0_896_256).toLoadRect ((hs0_1 t).unread x1)) (View.readAt (Elt Ideal) (ms0_2 t).view (Rect.unit (s := S1x1024x2048) ![0, 896, 512] S1x128x512.size inb_S1x1024x2048_S1x128x512_0_896_512).toLoadRect ((hs0_2 t).unread x2)) (View.readAt (Elt Ideal) (ms0_3 t).view (Rect.unit (s := S1x1024x2048) ![0, 896, 512] S1x128x512.size inb_S1x1024x2048_S1x128x512_0_896_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 896, 0] S1x128x512.size inb_S1x1024x2048_S1x128x512_0_896_0), outp (View.readAt (Elt Ideal) (ms0_0 t).view (Rect.unit (s := S1x1024x1024) ![0, 896, 0] S1x128x256.size inb_S1x1024x1024_S1x128x256_0_896_0).toLoadRect ((hs0_0 t).unread x0)) (View.readAt (Elt Ideal) (ms0_1 t).view (Rect.unit (s := S1x1024x1024) ![0, 896, 0] S1x128x256.size inb_S1x1024x1024_S1x128x256_0_896_0).toLoadRect ((hs0_1 t).unread x1)) (View.readAt (Elt Ideal) (ms0_2 t).view (Rect.unit (s := S1x1024x2048) ![0, 896, 0] S1x128x512.size inb_S1x1024x2048_S1x128x512_0_896_0).toLoadRect ((hs0_2 t).unread x2)) (View.readAt (Elt Ideal) (ms0_3 t).view (Rect.unit (s := S1x1024x2048) ![0, 896, 0] S1x128x512.size inb_S1x1024x2048_S1x128x512_0_896_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 768, 1536] S1x128x512.size inb_S1x1024x2048_S1x128x512_0_768_1536), outp (View.readAt (Elt Ideal) (ms0_0 t).view (Rect.unit (s := S1x1024x1024) ![0, 768, 768] S1x128x256.size inb_S1x1024x1024_S1x128x256_0_768_768).toLoadRect ((hs0_0 t).unread x0)) (View.readAt (Elt Ideal) (ms0_1 t).view (Rect.unit (s := S1x1024x1024) ![0, 768, 768] S1x128x256.size inb_S1x1024x1024_S1x128x256_0_768_768).toLoadRect ((hs0_1 t).unread x1)) (View.readAt (Elt Ideal) (ms0_2 t).view (Rect.unit (s := S1x1024x2048) ![0, 768, 1536] S1x128x512.size inb_S1x1024x2048_S1x128x512_0_768_1536).toLoadRect ((hs0_2 t).unread x2)) (View.readAt (Elt Ideal) (ms0_3 t).view (Rect.unit (s := S1x1024x2048) ![0, 768, 1536] S1x128x512.size inb_S1x1024x2048_S1x128x512_0_768_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 768, 1024] S1x128x512.size inb_S1x1024x2048_S1x128x512_0_768_1024), outp (View.readAt (Elt Ideal) (ms0_0 t).view (Rect.unit (s := S1x1024x1024) ![0, 768, 512] S1x128x256.size inb_S1x1024x1024_S1x128x256_0_768_512).toLoadRect ((hs0_0 t).unread x0)) (View.readAt (Elt Ideal) (ms0_1 t).view (Rect.unit (s := S1x1024x1024) ![0, 768, 512] S1x128x256.size inb_S1x1024x1024_S1x128x256_0_768_512).toLoadRect ((hs0_1 t).unread x1)) (View.readAt (Elt Ideal) (ms0_2 t).view (Rect.unit (s := S1x1024x2048) ![0, 768, 1024] S1x128x512.size inb_S1x1024x2048_S1x128x512_0_768_1024).toLoadRect ((hs0_2 t).unread x2)) (View.readAt (Elt Ideal) (ms0_3 t).view (Rect.unit (s := S1x1024x2048) ![0, 768, 1024] S1x128x512.size inb_S1x1024x2048_S1x128x512_0_768_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 768, 512] S1x128x512.size inb_S1x1024x2048_S1x128x512_0_768_512), outp (View.readAt (Elt Ideal) (ms0_0 t).view (Rect.unit (s := S1x1024x1024) ![0, 768, 256] S1x128x256.size inb_S1x1024x1024_S1x128x256_0_768_256).toLoadRect ((hs0_0 t).unread x0)) (View.readAt (Elt Ideal) (ms0_1 t).view (Rect.unit (s := S1x1024x1024) ![0, 768, 256] S1x128x256.size inb_S1x1024x1024_S1x128x256_0_768_256).toLoadRect ((hs0_1 t).unread x1)) (View.readAt (Elt Ideal) (ms0_2 t).view (Rect.unit (s := S1x1024x2048) ![0, 768, 512] S1x128x512.size inb_S1x1024x2048_S1x128x512_0_768_512).toLoadRect ((hs0_2 t).unread x2)) (View.readAt (Elt Ideal) (ms0_3 t).view (Rect.unit (s := S1x1024x2048) ![0, 768, 512] S1x128x512.size inb_S1x1024x2048_S1x128x512_0_768_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 768, 0] S1x128x512.size inb_S1x1024x2048_S1x128x512_0_768_0), outp (View.readAt (Elt Ideal) (ms0_0 t).view (Rect.unit (s := S1x1024x1024) ![0, 768, 0] S1x128x256.size inb_S1x1024x1024_S1x128x256_0_768_0).toLoadRect ((hs0_0 t).unread x0)) (View.readAt (Elt Ideal) (ms0_1 t).view (Rect.unit (s := S1x1024x1024) ![0, 768, 0] S1x128x256.size inb_S1x1024x1024_S1x128x256_0_768_0).toLoadRect ((hs0_1 t).unread x1)) (View.readAt (Elt Ideal) (ms0_2 t).view (Rect.unit (s := S1x1024x2048) ![0, 768, 0] S1x128x512.size inb_S1x1024x2048_S1x128x512_0_768_0).toLoadRect ((hs0_2 t).unread x2)) (View.readAt (Elt Ideal) (ms0_3 t).view (Rect.unit (s := S1x1024x2048) ![0, 768, 0] S1x128x512.size inb_S1x1024x2048_S1x128x512_0_768_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 640, 1536] S1x128x512.size inb_S1x1024x2048_S1x128x512_0_640_1536), outp (View.readAt (Elt Ideal) (ms0_0 t).view (Rect.unit (s := S1x1024x1024) ![0, 640, 768] S1x128x256.size inb_S1x1024x1024_S1x128x256_0_640_768).toLoadRect ((hs0_0 t).unread x0)) (View.readAt (Elt Ideal) (ms0_1 t).view (Rect.unit (s := S1x1024x1024) ![0, 640, 768] S1x128x256.size inb_S1x1024x1024_S1x128x256_0_640_768).toLoadRect ((hs0_1 t).unread x1)) (View.readAt (Elt Ideal) (ms0_2 t).view (Rect.unit (s := S1x1024x2048) ![0, 640, 1536] S1x128x512.size inb_S1x1024x2048_S1x128x512_0_640_1536).toLoadRect ((hs0_2 t).unread x2)) (View.readAt (Elt Ideal) (ms0_3 t).view (Rect.unit (s := S1x1024x2048) ![0, 640, 1536] S1x128x512.size inb_S1x1024x2048_S1x128x512_0_640_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 640, 1024] S1x128x512.size inb_S1x1024x2048_S1x128x512_0_640_1024), outp (View.readAt (Elt Ideal) (ms0_0 t).view (Rect.unit (s := S1x1024x1024) ![0, 640, 512] S1x128x256.size inb_S1x1024x1024_S1x128x256_0_640_512).toLoadRect ((hs0_0 t).unread x0)) (View.readAt (Elt Ideal) (ms0_1 t).view (Rect.unit (s := S1x1024x1024) ![0, 640, 512] S1x128x256.size inb_S1x1024x1024_S1x128x256_0_640_512).toLoadRect ((hs0_1 t).unread x1)) (View.readAt (Elt Ideal) (ms0_2 t).view (Rect.unit (s := S1x1024x2048) ![0, 640, 1024] S1x128x512.size inb_S1x1024x2048_S1x128x512_0_640_1024).toLoadRect ((hs0_2 t).unread x2)) (View.readAt (Elt Ideal) (ms0_3 t).view (Rect.unit (s := S1x1024x2048) ![0, 640, 1024] S1x128x512.size inb_S1x1024x2048_S1x128x512_0_640_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 640, 512] S1x128x512.size inb_S1x1024x2048_S1x128x512_0_640_512), outp (View.readAt (Elt Ideal) (ms0_0 t).view (Rect.unit (s := S1x1024x1024) ![0, 640, 256] S1x128x256.size inb_S1x1024x1024_S1x128x256_0_640_256).toLoadRect ((hs0_0 t).unread x0)) (View.readAt (Elt Ideal) (ms0_1 t).view (Rect.unit (s := S1x1024x1024) ![0, 640, 256] S1x128x256.size inb_S1x1024x1024_S1x128x256_0_640_256).toLoadRect ((hs0_1 t).unread x1)) (View.readAt (Elt Ideal) (ms0_2 t).view (Rect.unit (s := S1x1024x2048) ![0, 640, 512] S1x128x512.size inb_S1x1024x2048_S1x128x512_0_640_512).toLoadRect ((hs0_2 t).unread x2)) (View.readAt (Elt Ideal) (ms0_3 t).view (Rect.unit (s := S1x1024x2048) ![0, 640, 512] S1x128x512.size inb_S1x1024x2048_S1x128x512_0_640_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 640, 0] S1x128x512.size inb_S1x1024x2048_S1x128x512_0_640_0), outp (View.readAt (Elt Ideal) (ms0_0 t).view (Rect.unit (s := S1x1024x1024) ![0, 640, 0] S1x128x256.size inb_S1x1024x1024_S1x128x256_0_640_0).toLoadRect ((hs0_0 t).unread x0)) (View.readAt (Elt Ideal) (ms0_1 t).view (Rect.unit (s := S1x1024x1024) ![0, 640, 0] S1x128x256.size inb_S1x1024x1024_S1x128x256_0_640_0).toLoadRect ((hs0_1 t).unread x1)) (View.readAt (Elt Ideal) (ms0_2 t).view (Rect.unit (s := S1x1024x2048) ![0, 640, 0] S1x128x512.size inb_S1x1024x2048_S1x128x512_0_640_0).toLoadRect ((hs0_2 t).unread x2)) (View.readAt (Elt Ideal) (ms0_3 t).view (Rect.unit (s := S1x1024x2048) ![0, 640, 0] S1x128x512.size inb_S1x1024x2048_S1x128x512_0_640_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 512, 1536] S1x128x512.size inb_S1x1024x2048_S1x128x512_0_512_1536), outp (View.readAt (Elt Ideal) (ms0_0 t).view (Rect.unit (s := S1x1024x1024) ![0, 512, 768] S1x128x256.size inb_S1x1024x1024_S1x128x256_0_512_768).toLoadRect ((hs0_0 t).unread x0)) (View.readAt (Elt Ideal) (ms0_1 t).view (Rect.unit (s := S1x1024x1024) ![0, 512, 768] S1x128x256.size inb_S1x1024x1024_S1x128x256_0_512_768).toLoadRect ((hs0_1 t).unread x1)) (View.readAt (Elt Ideal) (ms0_2 t).view (Rect.unit (s := S1x1024x2048) ![0, 512, 1536] S1x128x512.size inb_S1x1024x2048_S1x128x512_0_512_1536).toLoadRect ((hs0_2 t).unread x2)) (View.readAt (Elt Ideal) (ms0_3 t).view (Rect.unit (s := S1x1024x2048) ![0, 512, 1536] S1x128x512.size inb_S1x1024x2048_S1x128x512_0_512_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 512, 1024] S1x128x512.size inb_S1x1024x2048_S1x128x512_0_512_1024), outp (View.readAt (Elt Ideal) (ms0_0 t).view (Rect.unit (s := S1x1024x1024) ![0, 512, 512] S1x128x256.size inb_S1x1024x1024_S1x128x256_0_512_512).toLoadRect ((hs0_0 t).unread x0)) (View.readAt (Elt Ideal) (ms0_1 t).view (Rect.unit (s := S1x1024x1024) ![0, 512, 512] S1x128x256.size inb_S1x1024x1024_S1x128x256_0_512_512).toLoadRect ((hs0_1 t).unread x1)) (View.readAt (Elt Ideal) (ms0_2 t).view (Rect.unit (s := S1x1024x2048) ![0, 512, 1024] S1x128x512.size inb_S1x1024x2048_S1x128x512_0_512_1024).toLoadRect ((hs0_2 t).unread x2)) (View.readAt (Elt Ideal) (ms0_3 t).view (Rect.unit (s := S1x1024x2048) ![0, 512, 1024] S1x128x512.size inb_S1x1024x2048_S1x128x512_0_512_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 512, 512] S1x128x512.size inb_S1x1024x2048_S1x128x512_0_512_512), outp (View.readAt (Elt Ideal) (ms0_0 t).view (Rect.unit (s := S1x1024x1024) ![0, 512, 256] S1x128x256.size inb_S1x1024x1024_S1x128x256_0_512_256).toLoadRect ((hs0_0 t).unread x0)) (View.readAt (Elt Ideal) (ms0_1 t).view (Rect.unit (s := S1x1024x1024) ![0, 512, 256] S1x128x256.size inb_S1x1024x1024_S1x128x256_0_512_256).toLoadRect ((hs0_1 t).unread x1)) (View.readAt (Elt Ideal) (ms0_2 t).view (Rect.unit (s := S1x1024x2048) ![0, 512, 512] S1x128x512.size inb_S1x1024x2048_S1x128x512_0_512_512).toLoadRect ((hs0_2 t).unread x2)) (View.readAt (Elt Ideal) (ms0_3 t).view (Rect.unit (s := S1x1024x2048) ![0, 512, 512] S1x128x512.size inb_S1x1024x2048_S1x128x512_0_512_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 512, 0] S1x128x512.size inb_S1x1024x2048_S1x128x512_0_512_0), outp (View.readAt (Elt Ideal) (ms0_0 t).view (Rect.unit (s := S1x1024x1024) ![0, 512, 0] S1x128x256.size inb_S1x1024x1024_S1x128x256_0_512_0).toLoadRect ((hs0_0 t).unread x0)) (View.readAt (Elt Ideal) (ms0_1 t).view (Rect.unit (s := S1x1024x1024) ![0, 512, 0] S1x128x256.size inb_S1x1024x1024_S1x128x256_0_512_0).toLoadRect ((hs0_1 t).unread x1)) (View.readAt (Elt Ideal) (ms0_2 t).view (Rect.unit (s := S1x1024x2048) ![0, 512, 0] S1x128x512.size inb_S1x1024x2048_S1x128x512_0_512_0).toLoadRect ((hs0_2 t).unread x2)) (View.readAt (Elt Ideal) (ms0_3 t).view (Rect.unit (s := S1x1024x2048) ![0, 512, 0] S1x128x512.size inb_S1x1024x2048_S1x128x512_0_512_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 384, 1536] S1x128x512.size inb_S1x1024x2048_S1x128x512_0_384_1536), outp (View.readAt (Elt Ideal) (ms0_0 t).view (Rect.unit (s := S1x1024x1024) ![0, 384, 768] S1x128x256.size inb_S1x1024x1024_S1x128x256_0_384_768).toLoadRect ((hs0_0 t).unread x0)) (View.readAt (Elt Ideal) (ms0_1 t).view (Rect.unit (s := S1x1024x1024) ![0, 384, 768] S1x128x256.size inb_S1x1024x1024_S1x128x256_0_384_768).toLoadRect ((hs0_1 t).unread x1)) (View.readAt (Elt Ideal) (ms0_2 t).view (Rect.unit (s := S1x1024x2048) ![0, 384, 1536] S1x128x512.size inb_S1x1024x2048_S1x128x512_0_384_1536).toLoadRect ((hs0_2 t).unread x2)) (View.readAt (Elt Ideal) (ms0_3 t).view (Rect.unit (s := S1x1024x2048) ![0, 384, 1536] S1x128x512.size inb_S1x1024x2048_S1x128x512_0_384_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 384, 1024] S1x128x512.size inb_S1x1024x2048_S1x128x512_0_384_1024), outp (View.readAt (Elt Ideal) (ms0_0 t).view (Rect.unit (s := S1x1024x1024) ![0, 384, 512] S1x128x256.size inb_S1x1024x1024_S1x128x256_0_384_512).toLoadRect ((hs0_0 t).unread x0)) (View.readAt (Elt Ideal) (ms0_1 t).view (Rect.unit (s := S1x1024x1024) ![0, 384, 512] S1x128x256.size inb_S1x1024x1024_S1x128x256_0_384_512).toLoadRect ((hs0_1 t).unread x1)) (View.readAt (Elt Ideal) (ms0_2 t).view (Rect.unit (s := S1x1024x2048) ![0, 384, 1024] S1x128x512.size inb_S1x1024x2048_S1x128x512_0_384_1024).toLoadRect ((hs0_2 t).unread x2)) (View.readAt (Elt Ideal) (ms0_3 t).view (Rect.unit (s := S1x1024x2048) ![0, 384, 1024] S1x128x512.size inb_S1x1024x2048_S1x128x512_0_384_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 384, 512] S1x128x512.size inb_S1x1024x2048_S1x128x512_0_384_512), outp (View.readAt (Elt Ideal) (ms0_0 t).view (Rect.unit (s := S1x1024x1024) ![0, 384, 256] S1x128x256.size inb_S1x1024x1024_S1x128x256_0_384_256).toLoadRect ((hs0_0 t).unread x0)) (View.readAt (Elt Ideal) (ms0_1 t).view (Rect.unit (s := S1x1024x1024) ![0, 384, 256] S1x128x256.size inb_S1x1024x1024_S1x128x256_0_384_256).toLoadRect ((hs0_1 t).unread x1)) (View.readAt (Elt Ideal) (ms0_2 t).view (Rect.unit (s := S1x1024x2048) ![0, 384, 512] S1x128x512.size inb_S1x1024x2048_S1x128x512_0_384_512).toLoadRect ((hs0_2 t).unread x2)) (View.readAt (Elt Ideal) (ms0_3 t).view (Rect.unit (s := S1x1024x2048) ![0, 384, 512] S1x128x512.size inb_S1x1024x2048_S1x128x512_0_384_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 384, 0] S1x128x512.size inb_S1x1024x2048_S1x128x512_0_384_0), outp (View.readAt (Elt Ideal) (ms0_0 t).view (Rect.unit (s := S1x1024x1024) ![0, 384, 0] S1x128x256.size inb_S1x1024x1024_S1x128x256_0_384_0).toLoadRect ((hs0_0 t).unread x0)) (View.readAt (Elt Ideal) (ms0_1 t).view (Rect.unit (s := S1x1024x1024) ![0, 384, 0] S1x128x256.size inb_S1x1024x1024_S1x128x256_0_384_0).toLoadRect ((hs0_1 t).unread x1)) (View.readAt (Elt Ideal) (ms0_2 t).view (Rect.unit (s := S1x1024x2048) ![0, 384, 0] S1x128x512.size inb_S1x1024x2048_S1x128x512_0_384_0).toLoadRect ((hs0_2 t).unread x2)) (View.readAt (Elt Ideal) (ms0_3 t).view (Rect.unit (s := S1x1024x2048) ![0, 384, 0] S1x128x512.size inb_S1x1024x2048_S1x128x512_0_384_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 256, 1536] S1x128x512.size inb_S1x1024x2048_S1x128x512_0_256_1536), outp (View.readAt (Elt Ideal) (ms0_0 t).view (Rect.unit (s := S1x1024x1024) ![0, 256, 768] S1x128x256.size inb_S1x1024x1024_S1x128x256_0_256_768).toLoadRect ((hs0_0 t).unread x0)) (View.readAt (Elt Ideal) (ms0_1 t).view (Rect.unit (s := S1x1024x1024) ![0, 256, 768] S1x128x256.size inb_S1x1024x1024_S1x128x256_0_256_768).toLoadRect ((hs0_1 t).unread x1)) (View.readAt (Elt Ideal) (ms0_2 t).view (Rect.unit (s := S1x1024x2048) ![0, 256, 1536] S1x128x512.size inb_S1x1024x2048_S1x128x512_0_256_1536).toLoadRect ((hs0_2 t).unread x2)) (View.readAt (Elt Ideal) (ms0_3 t).view (Rect.unit (s := S1x1024x2048) ![0, 256, 1536] S1x128x512.size inb_S1x1024x2048_S1x128x512_0_256_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 256, 1024] S1x128x512.size inb_S1x1024x2048_S1x128x512_0_256_1024), outp (View.readAt (Elt Ideal) (ms0_0 t).view (Rect.unit (s := S1x1024x1024) ![0, 256, 512] S1x128x256.size inb_S1x1024x1024_S1x128x256_0_256_512).toLoadRect ((hs0_0 t).unread x0)) (View.readAt (Elt Ideal) (ms0_1 t).view (Rect.unit (s := S1x1024x1024) ![0, 256, 512] S1x128x256.size inb_S1x1024x1024_S1x128x256_0_256_512).toLoadRect ((hs0_1 t).unread x1)) (View.readAt (Elt Ideal) (ms0_2 t).view (Rect.unit (s := S1x1024x2048) ![0, 256, 1024] S1x128x512.size inb_S1x1024x2048_S1x128x512_0_256_1024).toLoadRect ((hs0_2 t).unread x2)) (View.readAt (Elt Ideal) (ms0_3 t).view (Rect.unit (s := S1x1024x2048) ![0, 256, 1024] S1x128x512.size inb_S1x1024x2048_S1x128x512_0_256_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 256, 512] S1x128x512.size inb_S1x1024x2048_S1x128x512_0_256_512), outp (View.readAt (Elt Ideal) (ms0_0 t).view (Rect.unit (s := S1x1024x1024) ![0, 256, 256] S1x128x256.size inb_S1x1024x1024_S1x128x256_0_256_256).toLoadRect ((hs0_0 t).unread x0)) (View.readAt (Elt Ideal) (ms0_1 t).view (Rect.unit (s := S1x1024x1024) ![0, 256, 256] S1x128x256.size inb_S1x1024x1024_S1x128x256_0_256_256).toLoadRect ((hs0_1 t).unread x1)) (View.readAt (Elt Ideal) (ms0_2 t).view (Rect.unit (s := S1x1024x2048) ![0, 256, 512] S1x128x512.size inb_S1x1024x2048_S1x128x512_0_256_512).toLoadRect ((hs0_2 t).unread x2)) (View.readAt (Elt Ideal) (ms0_3 t).view (Rect.unit (s := S1x1024x2048) ![0, 256, 512] S1x128x512.size inb_S1x1024x2048_S1x128x512_0_256_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 256, 0] S1x128x512.size inb_S1x1024x2048_S1x128x512_0_256_0), outp (View.readAt (Elt Ideal) (ms0_0 t).view (Rect.unit (s := S1x1024x1024) ![0, 256, 0] S1x128x256.size inb_S1x1024x1024_S1x128x256_0_256_0).toLoadRect ((hs0_0 t).unread x0)) (View.readAt (Elt Ideal) (ms0_1 t).view (Rect.unit (s := S1x1024x1024) ![0, 256, 0] S1x128x256.size inb_S1x1024x1024_S1x128x256_0_256_0).toLoadRect ((hs0_1 t).unread x1)) (View.readAt (Elt Ideal) (ms0_2 t).view (Rect.unit (s := S1x1024x2048) ![0, 256, 0] S1x128x512.size inb_S1x1024x2048_S1x128x512_0_256_0).toLoadRect ((hs0_2 t).unread x2)) (View.readAt (Elt Ideal) (ms0_3 t).view (Rect.unit (s := S1x1024x2048) ![0, 256, 0] S1x128x512.size inb_S1x1024x2048_S1x128x512_0_256_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 128, 1536] S1x128x512.size inb_S1x1024x2048_S1x128x512_0_128_1536), outp (View.readAt (Elt Ideal) (ms0_0 t).view (Rect.unit (s := S1x1024x1024) ![0, 128, 768] S1x128x256.size inb_S1x1024x1024_S1x128x256_0_128_768).toLoadRect ((hs0_0 t).unread x0)) (View.readAt (Elt Ideal) (ms0_1 t).view (Rect.unit (s := S1x1024x1024) ![0, 128, 768] S1x128x256.size inb_S1x1024x1024_S1x128x256_0_128_768).toLoadRect ((hs0_1 t).unread x1)) (View.readAt (Elt Ideal) (ms0_2 t).view (Rect.unit (s := S1x1024x2048) ![0, 128, 1536] S1x128x512.size inb_S1x1024x2048_S1x128x512_0_128_1536).toLoadRect ((hs0_2 t).unread x2)) (View.readAt (Elt Ideal) (ms0_3 t).view (Rect.unit (s := S1x1024x2048) ![0, 128, 1536] S1x128x512.size inb_S1x1024x2048_S1x128x512_0_128_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect)⟩,
      ⟨(Rect.unit (s := S1x1024x2048) ![0, 128, 1024] S1x128x512.size inb_S1x1024x2048_S1x128x512_0_128_1024), outp (View.readAt (Elt Ideal) (ms0_0 t).view (Rect.unit (s := S1x1024x1024) ![0, 128, 512] S1x128x256.size inb_S1x1024x1024_S1x128x256_0_128_512).toLoadRect ((hs0_0 t).unread x0)) (View.readAt (Elt Ideal) (ms0_1 t).view (Rect.unit (s := S1x1024x1024) ![0, 128, 512] S1x128x256.size inb_S1x1024x1024_S1x128x256_0_128_512).toLoadRect ((hs0_1 t).unread x1)) (View.readAt (Elt Ideal) (ms0_2 t).view (Rect.unit (s := S1x1024x2048) ![0, 128, 1024] S1x128x512.size inb_S1x1024x2048_S1x128x512_0_128_1024).toLoadRect ((hs0_2 t).unread x2)) (View.readAt (Elt Ideal) (ms0_3 t).view (Rect.unit (s := S1x1024x2048) ![0, 128, 1024] S1x128x512.size inb_S1x1024x2048_S1x128x512_0_128_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect)⟩,
      ⟨(Rect.unit (s := S1x1024x2048) ![0, 128, 512] S1x128x512.size inb_S1x1024x2048_S1x128x512_0_128_512), outp (View.readAt (Elt Ideal) (ms0_0 t).view (Rect.unit (s := S1x1024x1024) ![0, 128, 256] S1x128x256.size inb_S1x1024x1024_S1x128x256_0_128_256).toLoadRect ((hs0_0 t).unread x0)) (View.readAt (Elt Ideal) (ms0_1 t).view (Rect.unit (s := S1x1024x1024) ![0, 128, 256] S1x128x256.size inb_S1x1024x1024_S1x128x256_0_128_256).toLoadRect ((hs0_1 t).unread x1)) (View.readAt (Elt Ideal) (ms0_2 t).view (Rect.unit (s := S1x1024x2048) ![0, 128, 512] S1x128x512.size inb_S1x1024x2048_S1x128x512_0_128_512).toLoadRect ((hs0_2 t).unread x2)) (View.readAt (Elt Ideal) (ms0_3 t).view (Rect.unit (s := S1x1024x2048) ![0, 128, 512] S1x128x512.size inb_S1x1024x2048_S1x128x512_0_128_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect)⟩,
      ⟨(Rect.unit (s := S1x1024x2048) ![0, 128, 0] S1x128x512.size inb_S1x1024x2048_S1x128x512_0_128_0), outp (View.readAt (Elt Ideal) (ms0_0 t).view (Rect.unit (s := S1x1024x1024) ![0, 128, 0] S1x128x256.size inb_S1x1024x1024_S1x128x256_0_128_0).toLoadRect ((hs0_0 t).unread x0)) (View.readAt (Elt Ideal) (ms0_1 t).view (Rect.unit (s := S1x1024x1024) ![0, 128, 0] S1x128x256.size inb_S1x1024x1024_S1x128x256_0_128_0).toLoadRect ((hs0_1 t).unread x1)) (View.readAt (Elt Ideal) (ms0_2 t).view (Rect.unit (s := S1x1024x2048) ![0, 128, 0] S1x128x512.size inb_S1x1024x2048_S1x128x512_0_128_0).toLoadRect ((hs0_2 t).unread x2)) (View.readAt (Elt Ideal) (ms0_3 t).view (Rect.unit (s := S1x1024x2048) ![0, 128, 0] S1x128x512.size inb_S1x1024x2048_S1x128x512_0_128_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect)⟩,
      ⟨(Rect.unit (s := S1x1024x2048) ![0, 0, 1536] S1x128x512.size inb_S1x1024x2048_S1x128x512_0_0_1536), outp (View.readAt (Elt Ideal) (ms0_0 t).view (Rect.unit (s := S1x1024x1024) ![0, 0, 768] S1x128x256.size inb_S1x1024x1024_S1x128x256_0_0_768).toLoadRect ((hs0_0 t).unread x0)) (View.readAt (Elt Ideal) (ms0_1 t).view (Rect.unit (s := S1x1024x1024) ![0, 0, 768] S1x128x256.size inb_S1x1024x1024_S1x128x256_0_0_768).toLoadRect ((hs0_1 t).unread x1)) (View.readAt (Elt Ideal) (ms0_2 t).view (Rect.unit (s := S1x1024x2048) ![0, 0, 1536] S1x128x512.size inb_S1x1024x2048_S1x128x512_0_0_1536).toLoadRect ((hs0_2 t).unread x2)) (View.readAt (Elt Ideal) (ms0_3 t).view (Rect.unit (s := S1x1024x2048) ![0, 0, 1536] S1x128x512.size inb_S1x1024x2048_S1x128x512_0_0_1536).toLoadRect ((hs0_3 t).unread x3)) (View.readAt (Elt Ideal) (ms0_4 t).view (Rect.unit (s := S4x128x128) ![3, 0, 0] S1x128x128.size inb_S4x128x128_S1x128x128_3_0_0).toLoadRect ((hs0_4 t).unread x4)) (View.readAt (Elt Ideal) (ms0_5 t).view (Rect.unit (s := S4x128x512) ![3, 0, 0] S1x128x512.size inb_S4x128x512_S1x128x512_3_0_0).toLoadRect ((hs0_5 t).unread x5)) (View.readAt (Elt Ideal) scM0_0.view (Rect.unit (s := S4x256x512) ![3, 0, 0] S1x256x512.size inb_S4x256x512_S1x256x512_3_0_0).toLoadRect ((Memref.isWhole_whole _ : scM0_0.IsWhole).unread xs0))⟩,
      ⟨(Rect.unit (s := S1x1024x2048) ![0, 0, 1024] S1x128x512.size inb_S1x1024x2048_S1x128x512_0_0_1024), outp (View.readAt (Elt Ideal) (ms0_0 t).view (Rect.unit (s := S1x1024x1024) ![0, 0, 512] S1x128x256.size inb_S1x1024x1024_S1x128x256_0_0_512).toLoadRect ((hs0_0 t).unread x0)) (View.readAt (Elt Ideal) (ms0_1 t).view (Rect.unit (s := S1x1024x1024) ![0, 0, 512] S1x128x256.size inb_S1x1024x1024_S1x128x256_0_0_512).toLoadRect ((hs0_1 t).unread x1)) (View.readAt (Elt Ideal) (ms0_2 t).view (Rect.unit (s := S1x1024x2048) ![0, 0, 1024] S1x128x512.size inb_S1x1024x2048_S1x128x512_0_0_1024).toLoadRect ((hs0_2 t).unread x2)) (View.readAt (Elt Ideal) (ms0_3 t).view (Rect.unit (s := S1x1024x2048) ![0, 0, 1024] S1x128x512.size inb_S1x1024x2048_S1x128x512_0_0_1024).toLoadRect ((hs0_3 t).unread x3)) (View.readAt (Elt Ideal) (ms0_4 t).view (Rect.unit (s := S4x128x128) ![2, 0, 0] S1x128x128.size inb_S4x128x128_S1x128x128_2_0_0).toLoadRect ((hs0_4 t).unread x4)) (View.readAt (Elt Ideal) (ms0_5 t).view (Rect.unit (s := S4x128x512) ![2, 0, 0] S1x128x512.size inb_S4x128x512_S1x128x512_2_0_0).toLoadRect ((hs0_5 t).unread x5)) (View.readAt (Elt Ideal) scM0_0.view (Rect.unit (s := S4x256x512) ![2, 0, 0] S1x256x512.size inb_S4x256x512_S1x256x512_2_0_0).toLoadRect ((Memref.isWhole_whole _ : scM0_0.IsWhole).unread xs0))⟩,
      ⟨(Rect.unit (s := S1x1024x2048) ![0, 0, 512] S1x128x512.size inb_S1x1024x2048_S1x128x512_0_0_512), outp (View.readAt (Elt Ideal) (ms0_0 t).view (Rect.unit (s := S1x1024x1024) ![0, 0, 256] S1x128x256.size inb_S1x1024x1024_S1x128x256_0_0_256).toLoadRect ((hs0_0 t).unread x0)) (View.readAt (Elt Ideal) (ms0_1 t).view (Rect.unit (s := S1x1024x1024) ![0, 0, 256] S1x128x256.size inb_S1x1024x1024_S1x128x256_0_0_256).toLoadRect ((hs0_1 t).unread x1)) (View.readAt (Elt Ideal) (ms0_2 t).view (Rect.unit (s := S1x1024x2048) ![0, 0, 512] S1x128x512.size inb_S1x1024x2048_S1x128x512_0_0_512).toLoadRect ((hs0_2 t).unread x2)) (View.readAt (Elt Ideal) (ms0_3 t).view (Rect.unit (s := S1x1024x2048) ![0, 0, 512] S1x128x512.size inb_S1x1024x2048_S1x128x512_0_0_512).toLoadRect ((hs0_3 t).unread x3)) (View.readAt (Elt Ideal) (ms0_4 t).view (Rect.unit (s := S4x128x128) ![1, 0, 0] S1x128x128.size inb_S4x128x128_S1x128x128_1_0_0).toLoadRect ((hs0_4 t).unread x4)) (View.readAt (Elt Ideal) (ms0_5 t).view (Rect.unit (s := S4x128x512) ![1, 0, 0] S1x128x512.size inb_S4x128x512_S1x128x512_1_0_0).toLoadRect ((hs0_5 t).unread x5)) (View.readAt (Elt Ideal) scM0_0.view (Rect.unit (s := S4x256x512) ![1, 0, 0] S1x256x512.size inb_S4x256x512_S1x256x512_1_0_0).toLoadRect ((Memref.isWhole_whole _ : scM0_0.IsWhole).unread xs0))⟩,
      ⟨(Rect.unit (s := S1x1024x2048) ![0, 0, 0] S1x128x512.size inb_S1x1024x2048_S1x128x512_0_0_0), outp (View.readAt (Elt Ideal) (ms0_0 t).view (Rect.unit (s := S1x1024x1024) ![0, 0, 0] S1x128x256.size inb_S1x1024x1024_S1x128x256_0_0_0).toLoadRect ((hs0_0 t).unread x0)) (View.readAt (Elt Ideal) (ms0_1 t).view (Rect.unit (s := S1x1024x1024) ![0, 0, 0] S1x128x256.size inb_S1x1024x1024_S1x128x256_0_0_0).toLoadRect ((hs0_1 t).unread x1)) (View.readAt (Elt Ideal) (ms0_2 t).view (Rect.unit (s := S1x1024x2048) ![0, 0, 0] S1x128x512.size inb_S1x1024x2048_S1x128x512_0_0_0).toLoadRect ((hs0_2 t).unread x2)) (View.readAt (Elt Ideal) (ms0_3 t).view (Rect.unit (s := S1x1024x2048) ![0, 0, 0] S1x128x512.size inb_S1x1024x2048_S1x128x512_0_0_0).toLoadRect ((hs0_3 t).unread x3)) (View.readAt (Elt Ideal) (ms0_4 t).view (Rect.unit (s := S4x128x128) ![0, 0, 0] S1x128x128.size inb_S4x128x128_S1x128x128_0_0_0).toLoadRect ((hs0_4 t).unread x4)) (View.readAt (Elt Ideal) (ms0_5 t).view (Rect.unit (s := S4x128x512) ![0, 0, 0] S1x128x512.size inb_S4x128x512_S1x128x512_0_0_0).toLoadRect ((hs0_5 t).unread x5)) (View.readAt (Elt Ideal) scM0_0.view (Rect.unit (s := S4x256x512) ![0, 0, 0] S1x256x512.size inb_S4x256x512_S1x256x512_0_0_0).toLoadRect ((Memref.isWhole_whole _ : scM0_0.IsWhole).unread xs0))⟩] :=
  ⟨tile ⟨7, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_768 inb_S1x1024x2048_S1x128x512_0_896_1536 inb_S4x128x128_S1x128x128_3_0_0 inb_S4x128x512_S1x128x512_3_0_0 (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 28 7 ⟨3, by decide⟩ ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (cB_28 c t x1 x2 x6 x7 xs0) inb_S4x256x512_S1x256x512_3_0_0 (by decide) (by decide)),
      tile ⟨7, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_512 inb_S1x1024x2048_S1x128x512_0_896_1024 inb_S4x128x128_S1x128x128_2_0_0 inb_S4x128x512_S1x128x512_2_0_0 (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 28 7 ⟨2, by decide⟩ ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (cB_28 c t x1 x2 x6 x7 xs0) inb_S4x256x512_S1x256x512_2_0_0 (by decide) (by decide)),
      tile ⟨7, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_256 inb_S1x1024x2048_S1x128x512_0_896_512 inb_S4x128x128_S1x128x128_1_0_0 inb_S4x128x512_S1x128x512_1_0_0 (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 28 7 ⟨1, by decide⟩ ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (cB_28 c t x1 x2 x6 x7 xs0) inb_S4x256x512_S1x256x512_1_0_0 (by decide) (by decide)),
      tile ⟨7, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_896_0 inb_S1x1024x2048_S1x128x512_0_896_0 inb_S4x128x128_S1x128x128_0_0_0 inb_S4x128x512_S1x128x512_0_0_0 (scM0_0.view.readCov (Val := Elt Ideal) ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 28 7 ⟨0, by decide⟩ ((kernelRun0_B.sl.HS0_28 (F := Ideal) c (ms0_1 t) (hs0_1 t) (ms0_2 t) (hs0_2 t) (ms0_6 t) (hs0_6 t) (ms0_7 t) (hs0_7 t) scM0_0 (Memref.isWhole_whole _) x1 x2 x6 x7 xs0)) (cB_28 c t x1 x2 x6 x7 xs0) inb_S4x256x512_S1x256x512_0_0_0 (by decide) (by decide)),
      tile ⟨6, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_768 inb_S1x1024x2048_S1x128x512_0_768_1536 inb_S4x128x128_S1x128x128_3_0_0 inb_S4x128x512_S1x128x512_3_0_0 (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 24 6 ⟨3, by decide⟩ ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (cB_24 c t x1 x2 x6 x7 xs0) inb_S4x256x512_S1x256x512_3_0_0 (by decide) (by decide)),
      tile ⟨6, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_512 inb_S1x1024x2048_S1x128x512_0_768_1024 inb_S4x128x128_S1x128x128_2_0_0 inb_S4x128x512_S1x128x512_2_0_0 (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 24 6 ⟨2, by decide⟩ ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (cB_24 c t x1 x2 x6 x7 xs0) inb_S4x256x512_S1x256x512_2_0_0 (by decide) (by decide)),
      tile ⟨6, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_256 inb_S1x1024x2048_S1x128x512_0_768_512 inb_S4x128x128_S1x128x128_1_0_0 inb_S4x128x512_S1x128x512_1_0_0 (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 24 6 ⟨1, by decide⟩ ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (cB_24 c t x1 x2 x6 x7 xs0) inb_S4x256x512_S1x256x512_1_0_0 (by decide) (by decide)),
      tile ⟨6, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_768_0 inb_S1x1024x2048_S1x128x512_0_768_0 inb_S4x128x128_S1x128x128_0_0_0 inb_S4x128x512_S1x128x512_0_0_0 (scM0_0.view.readCov (Val := Elt Ideal) ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 24 6 ⟨0, by decide⟩ ((kernelRun0_B.sl.HS0_24 (F := Ideal) c (ms0_1 t) (hs0_1 t) (ms0_2 t) (hs0_2 t) (ms0_6 t) (hs0_6 t) (ms0_7 t) (hs0_7 t) scM0_0 (Memref.isWhole_whole _) x1 x2 x6 x7 xs0)) (cB_24 c t x1 x2 x6 x7 xs0) inb_S4x256x512_S1x256x512_0_0_0 (by decide) (by decide)),
      tile ⟨5, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_768 inb_S1x1024x2048_S1x128x512_0_640_1536 inb_S4x128x128_S1x128x128_3_0_0 inb_S4x128x512_S1x128x512_3_0_0 (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 20 5 ⟨3, by decide⟩ ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (cB_20 c t x1 x2 x6 x7 xs0) inb_S4x256x512_S1x256x512_3_0_0 (by decide) (by decide)),
      tile ⟨5, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_512 inb_S1x1024x2048_S1x128x512_0_640_1024 inb_S4x128x128_S1x128x128_2_0_0 inb_S4x128x512_S1x128x512_2_0_0 (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 20 5 ⟨2, by decide⟩ ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (cB_20 c t x1 x2 x6 x7 xs0) inb_S4x256x512_S1x256x512_2_0_0 (by decide) (by decide)),
      tile ⟨5, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_256 inb_S1x1024x2048_S1x128x512_0_640_512 inb_S4x128x128_S1x128x128_1_0_0 inb_S4x128x512_S1x128x512_1_0_0 (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 20 5 ⟨1, by decide⟩ ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (cB_20 c t x1 x2 x6 x7 xs0) inb_S4x256x512_S1x256x512_1_0_0 (by decide) (by decide)),
      tile ⟨5, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_640_0 inb_S1x1024x2048_S1x128x512_0_640_0 inb_S4x128x128_S1x128x128_0_0_0 inb_S4x128x512_S1x128x512_0_0_0 (scM0_0.view.readCov (Val := Elt Ideal) ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 20 5 ⟨0, by decide⟩ ((kernelRun0_B.sl.HS0_20 (F := Ideal) c (ms0_1 t) (hs0_1 t) (ms0_2 t) (hs0_2 t) (ms0_6 t) (hs0_6 t) (ms0_7 t) (hs0_7 t) scM0_0 (Memref.isWhole_whole _) x1 x2 x6 x7 xs0)) (cB_20 c t x1 x2 x6 x7 xs0) inb_S4x256x512_S1x256x512_0_0_0 (by decide) (by decide)),
      tile ⟨4, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_768 inb_S1x1024x2048_S1x128x512_0_512_1536 inb_S4x128x128_S1x128x128_3_0_0 inb_S4x128x512_S1x128x512_3_0_0 (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 16 4 ⟨3, by decide⟩ ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (cB_16 c t x1 x2 x6 x7 xs0) inb_S4x256x512_S1x256x512_3_0_0 (by decide) (by decide)),
      tile ⟨4, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_512 inb_S1x1024x2048_S1x128x512_0_512_1024 inb_S4x128x128_S1x128x128_2_0_0 inb_S4x128x512_S1x128x512_2_0_0 (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 16 4 ⟨2, by decide⟩ ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (cB_16 c t x1 x2 x6 x7 xs0) inb_S4x256x512_S1x256x512_2_0_0 (by decide) (by decide)),
      tile ⟨4, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_256 inb_S1x1024x2048_S1x128x512_0_512_512 inb_S4x128x128_S1x128x128_1_0_0 inb_S4x128x512_S1x128x512_1_0_0 (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 16 4 ⟨1, by decide⟩ ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (cB_16 c t x1 x2 x6 x7 xs0) inb_S4x256x512_S1x256x512_1_0_0 (by decide) (by decide)),
      tile ⟨4, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_512_0 inb_S1x1024x2048_S1x128x512_0_512_0 inb_S4x128x128_S1x128x128_0_0_0 inb_S4x128x512_S1x128x512_0_0_0 (scM0_0.view.readCov (Val := Elt Ideal) ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 16 4 ⟨0, by decide⟩ ((kernelRun0_B.sl.HS0_16 (F := Ideal) c (ms0_1 t) (hs0_1 t) (ms0_2 t) (hs0_2 t) (ms0_6 t) (hs0_6 t) (ms0_7 t) (hs0_7 t) scM0_0 (Memref.isWhole_whole _) x1 x2 x6 x7 xs0)) (cB_16 c t x1 x2 x6 x7 xs0) inb_S4x256x512_S1x256x512_0_0_0 (by decide) (by decide)),
      tile ⟨3, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_768 inb_S1x1024x2048_S1x128x512_0_384_1536 inb_S4x128x128_S1x128x128_3_0_0 inb_S4x128x512_S1x128x512_3_0_0 (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 12 3 ⟨3, by decide⟩ ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (cB_12 c t x1 x2 x6 x7 xs0) inb_S4x256x512_S1x256x512_3_0_0 (by decide) (by decide)),
      tile ⟨3, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_512 inb_S1x1024x2048_S1x128x512_0_384_1024 inb_S4x128x128_S1x128x128_2_0_0 inb_S4x128x512_S1x128x512_2_0_0 (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 12 3 ⟨2, by decide⟩ ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (cB_12 c t x1 x2 x6 x7 xs0) inb_S4x256x512_S1x256x512_2_0_0 (by decide) (by decide)),
      tile ⟨3, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_256 inb_S1x1024x2048_S1x128x512_0_384_512 inb_S4x128x128_S1x128x128_1_0_0 inb_S4x128x512_S1x128x512_1_0_0 (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 12 3 ⟨1, by decide⟩ ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (cB_12 c t x1 x2 x6 x7 xs0) inb_S4x256x512_S1x256x512_1_0_0 (by decide) (by decide)),
      tile ⟨3, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_384_0 inb_S1x1024x2048_S1x128x512_0_384_0 inb_S4x128x128_S1x128x128_0_0_0 inb_S4x128x512_S1x128x512_0_0_0 (scM0_0.view.readCov (Val := Elt Ideal) ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 12 3 ⟨0, by decide⟩ ((kernelRun0_B.sl.HS0_12 (F := Ideal) c (ms0_1 t) (hs0_1 t) (ms0_2 t) (hs0_2 t) (ms0_6 t) (hs0_6 t) (ms0_7 t) (hs0_7 t) scM0_0 (Memref.isWhole_whole _) x1 x2 x6 x7 xs0)) (cB_12 c t x1 x2 x6 x7 xs0) inb_S4x256x512_S1x256x512_0_0_0 (by decide) (by decide)),
      tile ⟨2, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_768 inb_S1x1024x2048_S1x128x512_0_256_1536 inb_S4x128x128_S1x128x128_3_0_0 inb_S4x128x512_S1x128x512_3_0_0 (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 8 2 ⟨3, by decide⟩ ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (cB_8 c t x1 x2 x6 x7 xs0) inb_S4x256x512_S1x256x512_3_0_0 (by decide) (by decide)),
      tile ⟨2, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_512 inb_S1x1024x2048_S1x128x512_0_256_1024 inb_S4x128x128_S1x128x128_2_0_0 inb_S4x128x512_S1x128x512_2_0_0 (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 8 2 ⟨2, by decide⟩ ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (cB_8 c t x1 x2 x6 x7 xs0) inb_S4x256x512_S1x256x512_2_0_0 (by decide) (by decide)),
      tile ⟨2, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_256 inb_S1x1024x2048_S1x128x512_0_256_512 inb_S4x128x128_S1x128x128_1_0_0 inb_S4x128x512_S1x128x512_1_0_0 (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 8 2 ⟨1, by decide⟩ ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (cB_8 c t x1 x2 x6 x7 xs0) inb_S4x256x512_S1x256x512_1_0_0 (by decide) (by decide)),
      tile ⟨2, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_256_0 inb_S1x1024x2048_S1x128x512_0_256_0 inb_S4x128x128_S1x128x128_0_0_0 inb_S4x128x512_S1x128x512_0_0_0 (scM0_0.view.readCov (Val := Elt Ideal) ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 8 2 ⟨0, by decide⟩ ((kernelRun0_B.sl.HS0_8 (F := Ideal) c (ms0_1 t) (hs0_1 t) (ms0_2 t) (hs0_2 t) (ms0_6 t) (hs0_6 t) (ms0_7 t) (hs0_7 t) scM0_0 (Memref.isWhole_whole _) x1 x2 x6 x7 xs0)) (cB_8 c t x1 x2 x6 x7 xs0) inb_S4x256x512_S1x256x512_0_0_0 (by decide) (by decide)),
      tile ⟨1, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_768 inb_S1x1024x2048_S1x128x512_0_128_1536 inb_S4x128x128_S1x128x128_3_0_0 inb_S4x128x512_S1x128x512_3_0_0 (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![3, 0, 0] S1x256x512.size inb_S4x256x512_S1x256x512_3_0_0).toLoadRect) (load 0 4 1 ⟨3, by decide⟩ ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (cB_4 c t x1 x2 x6 x7 xs0) inb_S4x256x512_S1x256x512_3_0_0 (by decide) (by decide)),
      tile ⟨1, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_512 inb_S1x1024x2048_S1x128x512_0_128_1024 inb_S4x128x128_S1x128x128_2_0_0 inb_S4x128x512_S1x128x512_2_0_0 (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![2, 0, 0] S1x256x512.size inb_S4x256x512_S1x256x512_2_0_0).toLoadRect) (load 0 4 1 ⟨2, by decide⟩ ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (cB_4 c t x1 x2 x6 x7 xs0) inb_S4x256x512_S1x256x512_2_0_0 (by decide) (by decide)),
      tile ⟨1, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_256 inb_S1x1024x2048_S1x128x512_0_128_512 inb_S4x128x128_S1x128x128_1_0_0 inb_S4x128x512_S1x128x512_1_0_0 (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![1, 0, 0] S1x256x512.size inb_S4x256x512_S1x256x512_1_0_0).toLoadRect) (load 0 4 1 ⟨1, by decide⟩ ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (cB_4 c t x1 x2 x6 x7 xs0) inb_S4x256x512_S1x256x512_1_0_0 (by decide) (by decide)),
      tile ⟨1, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_128_0 inb_S1x1024x2048_S1x128x512_0_128_0 inb_S4x128x128_S1x128x128_0_0_0 inb_S4x128x512_S1x128x512_0_0_0 (scM0_0.view.readCov (Val := Elt Ideal) ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (Rect.unit (s := S4x256x512) ![0, 0, 0] S1x256x512.size inb_S4x256x512_S1x256x512_0_0_0).toLoadRect) (load 0 4 1 ⟨0, by decide⟩ ((kernelRun0_B.sl.HS0_4 (F := Ideal) c (ms0_1 t) (hs0_1 t) (ms0_2 t) (hs0_2 t) (ms0_6 t) (hs0_6 t) (ms0_7 t) (hs0_7 t) scM0_0 (Memref.isWhole_whole _) x1 x2 x6 x7 xs0)) (cB_4 c t x1 x2 x6 x7 xs0) inb_S4x256x512_S1x256x512_0_0_0 (by decide) (by decide)),
      tile ⟨0, by decide⟩ ⟨3, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_768 inb_S1x1024x2048_S1x128x512_0_0_1536 inb_S4x128x128_S1x128x128_3_0_0 inb_S4x128x512_S1x128x512_3_0_0 (View.readAt (Elt Ideal) scM0_0.view (Rect.unit (s := S4x256x512) ![3, 0, 0] S1x256x512.size inb_S4x256x512_S1x256x512_3_0_0).toLoadRect ((Memref.isWhole_whole _ : scM0_0.IsWhole).unread xs0)) (load0 ⟨3, by decide⟩ xs0 (Memref.isWhole_whole _) inb_S4x256x512_S1x256x512_3_0_0),
      tile ⟨0, by decide⟩ ⟨2, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_512 inb_S1x1024x2048_S1x128x512_0_0_1024 inb_S4x128x128_S1x128x128_2_0_0 inb_S4x128x512_S1x128x512_2_0_0 (View.readAt (Elt Ideal) scM0_0.view (Rect.unit (s := S4x256x512) ![2, 0, 0] S1x256x512.size inb_S4x256x512_S1x256x512_2_0_0).toLoadRect ((Memref.isWhole_whole _ : scM0_0.IsWhole).unread xs0)) (load0 ⟨2, by decide⟩ xs0 (Memref.isWhole_whole _) inb_S4x256x512_S1x256x512_2_0_0),
      tile ⟨0, by decide⟩ ⟨1, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_256 inb_S1x1024x2048_S1x128x512_0_0_512 inb_S4x128x128_S1x128x128_1_0_0 inb_S4x128x512_S1x128x512_1_0_0 (View.readAt (Elt Ideal) scM0_0.view (Rect.unit (s := S4x256x512) ![1, 0, 0] S1x256x512.size inb_S4x256x512_S1x256x512_1_0_0).toLoadRect ((Memref.isWhole_whole _ : scM0_0.IsWhole).unread xs0)) (load0 ⟨1, by decide⟩ xs0 (Memref.isWhole_whole _) inb_S4x256x512_S1x256x512_1_0_0),
      tile ⟨0, by decide⟩ ⟨0, by decide⟩ (ms0_0 t) (hs0_0 t) (ms0_1 t) (hs0_1 t) (ms0_2 t) (hs0_2 t) (ms0_3 t) (hs0_3 t) (ms0_4 t) (hs0_4 t) (ms0_5 t) (hs0_5 t) inb_S1x1024x1024_S1x128x256_0_0_0 inb_S1x1024x2048_S1x128x512_0_0_0 inb_S4x128x128_S1x128x128_0_0_0 inb_S4x128x512_S1x128x512_0_0_0 (View.readAt (Elt Ideal) scM0_0.view (Rect.unit (s := S4x256x512) ![0, 0, 0] S1x256x512.size inb_S4x256x512_S1x256x512_0_0_0).toLoadRect ((Memref.isWhole_whole _ : scM0_0.IsWhole).unread xs0)) (load0 ⟨0, by decide⟩ xs0 (Memref.isWhole_whole _) inb_S4x256x512_S1x256x512_0_0_0), trivial⟩

set_option maxHeartbeats 2000000 in
/-- What the point stores, read at an index. -/
theorem outB (c : Dev nD) (t : Fin cfg0.N) (h0 : ¬ t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32) (xs0 : Vec Ideal S4x256x512 .f32) (y : S1x1024x2048.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 x6 x7 xs0 y = oG x0 x1 x2 x3 x4 x5 (stL x1 x2 x6 x7 (fun h a b => xs0 (ix3 h a b))) y := by
  unfold out0_B_8
  rw [View.read_writes_junk_eq_canon]
  have h : View.PiecesOf (Val := Elt Ideal) (e := .bf16) (oG x0 x1 x2 x3 x4 x5 (stL x1 x2 x6 x7 (fun h a b => xs0 (ix3 h a b)))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 x6 x7 xs0).1 := piecesB c t h0 x0 x1 x2 x3 x4 x5 x6 x7 xs0
  have e := View.canon_append_of_piecesOf (oG x0 x1 x2 x3 x4 x5 (stL x1 x2 x6 x7 (fun h a b => xs0 (ix3 h a b)))) [] _ h y (cover0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 x6 x7 xs0 y)
  rwa [List.append_nil] at e

/-- What the point leaves in the state, read at an index. -/
theorem stateB (c : Dev nD) (t : Fin cfg0.N) (h0 : ¬ t.val % 2 = 0) (x0 x1 : Vec Ideal S1x1024x1024 .bf16) (x2 x3 : Vec Ideal S1x1024x2048 .bf16) (x4 : Vec Ideal S4x128x128 .f32) (x5 : Vec Ideal S4x128x512 .f32) (x6 : Vec Ideal S4x128x256 .f32) (x7 : Vec Ideal S4x1x512 .f32) (xs0 : Vec Ideal S4x256x512 .f32) (h : Fin 4) (a : Fin 256) (b : Fin 512) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 x6 x7 xs0 (ix3 h a b) = stL x1 x2 x6 x7 (fun h a b => xs0 (ix3 h a b)) 8 h a b := by
  unfold sout0_B_0
  rw [View.read_writes_junk_eq_canon]
  have e := cB_32 c t h0 x0 x1 x2 x3 x4 x5 x6 x7 xs0 h a b (by omega)
  rwa [show (32 + 3 - h.val) / 4 = 8 by omega] at e

end Cert.RetIdeal.Hand

end
-- ==== Proof.RetValue.lean ====
/-
  The array the retention call leaves: the retention of the argument arrays.
-/
module

public import proofs.«01_k».proof.Proof.RetReads
public import proofs.«01_k».proof.Proof.RetPointA
public import proofs.«01_k».proof.Proof.RetPointB

@[expose] public section

set_option maxRecDepth 16384

noncomputable section

namespace Cert.RetIdeal.Hand

open Cert.RetIdeal Cert.RetIdeal.Gen Idealize.ShloMosaic Idealize.ShloMosaic.TcCoe Cert.Rows Idealize.SL.Sem
open Idealize.ShloMosaic.Pipeline (Dat)

variable (m : (ℓ : Loc nD τ sig) → Buf (Elt Ideal) ℓ)

/-- The first of an equal pair, at an index. -/
theorem fst_at {I α β : Type} {p : (I → α) × β} {a : I → α} {b : β} (h : p = (a, b)) {y : I} {z : α} (e : a y = z) : p.1 y = z := by
  subst h; exact e

/-- The second of an equal pair, at an index. -/
theorem snd_at {I α β : Type} {p : β × (I → α)} {a : I → α} {b : β} (h : p = (b, a)) {y : I} {z : α} (e : a y = z) : p.2 y = z := by
  subst h; exact e

/-- The state a half of a sequence goes through, from the blocks the grid point reads. -/
theorem st_glob (c : Dev nD) (t : Fin cfg0.N) (s0 : Fin 4 → Fin 256 → Fin 512 → EReal)
    (hs : s0 = stG (m ((c : Thread nD τ).loc main_arg1)) (m ((c : Thread nD τ).loc main_arg2)) (bOf t) (8 * (pOf t).val)) :
    stL (iblk m c 1 t) (iblk m c 2 t) (iblk m c 6 t) (iblk m c 7 t) s0 8 = stG (m ((c : Thread nD τ).loc main_arg1)) (m ((c : Thread nD τ).loc main_arg2)) (bOf t) (8 * (pOf t).val + 8) :=
  stL_glob (x1 := iblk m c 1 t) (x2 := iblk m c 2 t) (x6 := iblk m c 6 t) (x7 := iblk m c 7 t) (k_read m c t) (v_read m c t) (ze_read m c t) (de_read m c t) hs 8 (le_refl _)

/-- What a half's grid point stores, from the blocks it reads. -/
theorem o_glob (c : Dev nD) (t : Fin cfg0.N) (s0 : Fin 4 → Fin 256 → Fin 512 → EReal)
    (hs : s0 = stG (m ((c : Thread nD τ).loc main_arg1)) (m ((c : Thread nD τ).loc main_arg2)) (bOf t) (8 * (pOf t).val)) (r : Fin 1024) (w : Fin 2048) :
    oG (iblk m c 0 t) (iblk m c 1 t) (iblk m c 2 t) (iblk m c 3 t) (iblk m c 4 t) (iblk m c 5 t)
        (stL (iblk m c 1 t) (iblk m c 2 t) (iblk m c 6 t) (iblk m c 7 t) s0) (ix3 0 r w)
      = retSpec (m ((c : Thread nD τ).loc main_arg0)) (m ((c : Thread nD τ).loc main_arg1)) (m ((c : Thread nD τ).loc main_arg2))
          (m ((c : Thread nD τ).loc main_arg3)) (ix3 (bOf t) (brow (pOf t) r) w) :=
  oG_glob (x0 := iblk m c 0 t) (x3 := iblk m c 3 t) (x4 := iblk m c 4 t) (x5 := iblk m c 5 t) (x1 := iblk m c 1 t) (x2 := iblk m c 2 t) (x6 := iblk m c 6 t) (x7 := iblk m c 7 t)
    (q_read m c t) (k_read m c t) (v_read m c t) (g_read m c t) (dm_read m c t) (xi_read m c t) (ze_read m c t) (de_read m c t) hs r w

/-- After the first half of a sequence every head's state is the sequence's after eight chunks. -/
theorem st_even (c : Dev nD) (t : Fin cfg0.N) (h0 : t.val % 2 = 0) (h : Fin 4) (a : Fin 256) (d : Fin 512) :
    ((outsAt0 m c t.val t.isLt).2 : Vec Ideal S4x256x512 .f32) (ix3 h a d) = stG (m ((c : Thread nD τ).loc main_arg1)) (m ((c : Thread nD τ).loc main_arg2)) (bOf t) 8 h a d := by
  have z : 8 * (pOf t).val = 0 := by show 8 * (t.val % 2) = 0; omega
  have e := st_glob m c t (fun _ _ _ => 0) (by rw [z]; rfl)
  rw [z] at e
  exact snd_at (outsAt0_A m c t h0) ((stateA c t h0 (iblk m c 0 t) (iblk m c 1 t) (iblk m c 2 t) (iblk m c 3 t) (iblk m c 4 t) (iblk m c 5 t) (iblk m c 6 t) (iblk m c 7 t) h a d).trans (congrFun (congrFun (congrFun e h) a) d))

/-- What a grid point stores, at an index of its block. -/
theorem point (c : Dev nD) (t : Fin cfg0.N) (r : Fin 1024) (w : Fin 2048) :
    ((outsAt0 m c t.val t.isLt).1 : Vec Ideal S1x1024x2048 .bf16) (ix3 0 r w)
      = retSpec (m ((c : Thread nD τ).loc main_arg0)) (m ((c : Thread nD τ).loc main_arg1)) (m ((c : Thread nD τ).loc main_arg2))
          (m ((c : Thread nD τ).loc main_arg3)) (ix3 (bOf t) (brow (pOf t) r) w) := by
  by_cases h0 : t.val % 2 = 0
  · have z : 8 * (pOf t).val = 0 := by show 8 * (t.val % 2) = 0; omega
    have e := o_glob m c t (fun _ _ _ => 0) (by rw [z]; rfl) r w
    exact fst_at (outsAt0_A m c t h0) ((outA c t h0 (iblk m c 0 t) (iblk m c 1 t) (iblk m c 2 t) (iblk m c 3 t) (iblk m c 4 t) (iblk m c 5 t) (iblk m c 6 t) (iblk m c 7 t) (ix3 0 r w)).trans e)
  · have z : 8 * (pOf t).val = 8 := by show 8 * (t.val % 2) = 8; omega
    have hb : bOf ⟨t.val - 1, Nat.lt_of_le_of_lt (Nat.sub_le _ _) t.isLt⟩ = bOf t := Fin.ext (by show (t.val - 1) / 2 = t.val / 2; omega)
    have e := o_glob m c t (fun h a d => ((outsAt0 m c (t.val - 1) (Nat.lt_of_le_of_lt (Nat.sub_le _ _) t.isLt)).2 : Vec Ideal S4x256x512 .f32) (ix3 h a d))
      (by
        rw [z, ← hb]
        funext h a d
        exact st_even m c ⟨t.val - 1, Nat.lt_of_le_of_lt (Nat.sub_le _ _) t.isLt⟩ (by show (t.val - 1) % 2 = 0; omega) h a d) r w
    exact fst_at (outsAt0_B m c t h0) ((outB c t h0 (iblk m c 0 t) (iblk m c 1 t) (iblk m c 2 t) (iblk m c 3 t) (iblk m c 4 t) (iblk m c 5 t) (iblk m c 6 t) (iblk m c 7 t) _ (ix3 0 r w)).trans e)

set_option maxHeartbeats 4000000 in
/-- The result after the run. -/
theorem ret_final (c : Dev nD) :
    (dats m 0 c).arrAt 8 cfg0.N = retSpec (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t hf y => ?_
  idx_vars y
  have he : ((cfg0.win 8).blk t).view.emb (ix3 y0 y1 y2) = ix3 (bOf t) (brow (pOf t) y1) y2 := by
    blk_ext [idx t]
  rw [he]
  obtain rfl : y0 = 0 := Subsingleton.elim (α := Fin 1) _ _
  blk_simp
  rw [after0_8]
  exact point m c t y1 y2

end Cert.RetIdeal.Hand

end
-- ==== Proof.RetStep.lean ====
/-
  One trip of the reference's loop, and what its operations after the loop make of the stacked rows, read at an index.
-/
module

public import proofs.«01_k».proof.Proof.RetSpec
public import proofs.«01_k».proof.Proof.Gen.RetRefIdeal.Run
public import Idealize.ShloMosaic.Lib.Tactic.CleanTypes
public import Idealize.ShloMosaic.Lib.DynamicIndex

@[expose] public section

set_option maxRecDepth 16384

noncomputable section

namespace Cert.RetRefIdeal.Hand

open Cert.RetRefIdeal Cert.RetRefIdeal.Gen Cert.RetRefIdeal.Value Idealize.ShloMosaic Idealize.ShloMosaic.TcCoe Cert.Rows Idealize.SL.Sem
open Cert.RetIdeal.Hand (dmT xiT zeT deT grow kcol vcol stG mixG outG retSpec)

/-- The loop's counter, read signed. -/
theorem iv_toInt : ∀ k : Fin 16, (Scf.iv 0#32 1#32 k.val).toInt = (k.val : Int) := by decide

/-- The starts of a trip's slices. -/
theorem starts (k : Fin 16) (i : IVec S_ 32) (hi : i = fun _ => Scf.iv 0#32 1#32 k.val) (a : Fin 5) :
    (((![i, constantI S_ 32 0#32, constantI S_ 32 0#32, constantI S_ 32 0#32, constantI S_ 32 0#32] : Fin 5 → IVec S_ 32)) a (Shape.Idx.first h_S_)).toInt
      = ((![k.val, 0, 0, 0, 0] : Fin 5 → ℕ) a : Int) := by
  subst hi
  fin_cases a
  · exact iv_toInt k
  all_goals rfl

/-- A trip's chunk of the queries or the keys. -/
theorem sliceK (x : FVec Ideal S16x16x128x4x256 .f32) (k : Fin 16) (i : IVec S_ 32) (hi : i = fun _ => Scf.iv 0#32 1#32 k.val)
    (b : Fin 16) (j : Fin 128) (h : Fin 4) (a : Fin 256) :
    shapeCast S16x128x4x256 (Host.dynamicSlice S1x16x128x4x256 x (fun k => (((![i, constantI S_ 32 0#32, constantI S_ 32 0#32, constantI S_ 32 0#32, constantI S_ 32 0#32] : Fin 5 → IVec S_ 32)) k (Shape.Idx.first h_S_)).toInt) sliceFits_S16x16x128x4x256_S1x16x128x4x256) shapeCasts_S1x16x128x4x256_S16x128x4x256 (ix4 b j h a)
      = x (ix5 k b j h a) := by
  have hk := k.isLt
  rw [Host.dynamicSlice_eq_extractStridedSlice S1x16x128x4x256 x _ ![k.val, 0, 0, 0, 0] _ ⟨rfl, fun a => by
    fin_cases a
    · show k.val + 1 ≤ 16; omega
    all_goals exact Nat.le_refl _⟩ (starts k i hi)]
  pointwise

/-- A trip's chunk of the values. -/
theorem sliceV (x : FVec Ideal S16x16x128x4x512 .f32) (k : Fin 16) (i : IVec S_ 32) (hi : i = fun _ => Scf.iv 0#32 1#32 k.val)
    (b : Fin 16) (j : Fin 128) (h : Fin 4) (a : Fin 512) :
    shapeCast S16x128x4x512 (Host.dynamicSlice S1x16x128x4x512 x (fun k => (((![i, constantI S_ 32 0#32, constantI S_ 32 0#32, constantI S_ 32 0#32, constantI S_ 32 0#32] : Fin 5 → IVec S_ 32)) k (Shape.Idx.first h_S_)).toInt) sliceFits_S16x16x128x4x512_S1x16x128x4x512) shapeCasts_S1x16x128x4x512_S16x128x4x512 (ix4 b j h a)
      = x (ix5 k b j h a) := by
  have hk := k.isLt
  rw [Host.dynamicSlice_eq_extractStridedSlice S1x16x128x4x512 x _ ![k.val, 0, 0, 0, 0] _ ⟨rfl, fun a => by
    fin_cases a
    · show k.val + 1 ≤ 16; omega
    all_goals exact Nat.le_refl _⟩ (starts k i hi)]
  pointwise

set_option maxHeartbeats 1000000 in
/-- A trip's update of the stacked rows: the trip's chunk is the update, the others are kept. -/
theorem putV (x : FVec Ideal S16x16x128x4x512 .f32) (u : FVec Ideal S1x16x128x4x512 .f32) (k : Fin 16) (i : IVec S_ 32) (hi : i = fun _ => Scf.iv 0#32 1#32 k.val)
    (n b : Fin 16) (j : Fin 128) (h : Fin 4) (a : Fin 512) :
    Host.dynamicUpdateSlice x u (fun k => (((![i, constantI S_ 32 0#32, constantI S_ 32 0#32, constantI S_ 32 0#32, constantI S_ 32 0#32] : Fin 5 → IVec S_ 32)) k (Shape.Idx.first h_S_)).toInt) updateFits_S16x16x128x4x512_S1x16x128x4x512 (ix5 n b j h a)
      = if n = k then u (ix5 0 b j h a) else x (ix5 n b j h a) := by
  have hk := k.isLt
  have hc : ∀ a : Fin 5, Host.clampedStart S16x16x128x4x512 S1x16x128x4x512 updateFits_S16x16x128x4x512_S1x16x128x4x512.1
      (fun k => (((![i, constantI S_ 32 0#32, constantI S_ 32 0#32, constantI S_ 32 0#32, constantI S_ 32 0#32] : Fin 5 → IVec S_ 32)) k (Shape.Idx.first h_S_)).toInt) a
        = (![k.val, 0, 0, 0, 0] : Fin 5 → ℕ) a := by
    intro a
    refine Host.clampedStart_of_le (s := S16x16x128x4x512) (t := S1x16x128x4x512) _ _ a _ (starts k i hi a) ?_
    fin_cases a
    · show k.val + 1 ≤ 16; omega
    all_goals exact Nat.le_refl _
  rw [Host.dynamicUpdateSlice_apply]
  by_cases hn : n = k
  · subst hn
    rw [if_pos rfl, dif_pos (by
      intro a'
      rw [hc a']
      fin_cases a'
      · show n.val ≤ n.val ∧ n.val < n.val + 1; omega
      · show 0 ≤ b.val ∧ b.val < 0 + 16; omega
      · show 0 ≤ j.val ∧ j.val < 0 + 128; omega
      · show 0 ≤ h.val ∧ h.val < 0 + 4; omega
      · show 0 ≤ a.val ∧ a.val < 0 + 512; omega)]
    refine congrArg u (funext fun a' => Fin.ext ?_)
    fin_cases a'
    · exact (congrArg (fun z => n.val - z) (hc 0)).trans (Nat.sub_self _)
    · exact congrArg (fun z => b.val - z) (hc 1)
    · exact congrArg (fun z => j.val - z) (hc 2)
    · exact congrArg (fun z => h.val - z) (hc 3)
    · exact congrArg (fun z => a.val - z) (hc 4)
  · rw [if_neg hn, dif_neg (by
      intro hin
      have h0 := hin 0
      rw [hc 0] at h0
      exact hn (Fin.ext (by have h1 : k.val ≤ n.val ∧ n.val < k.val + 1 := h0; omega)))]

/-- The chunks of the queries or the keys, stacked, at an index. -/
theorem chunkK (x : FVec Ideal S16x2048x1024 .bf16) (n b : Fin 16) (j : Fin 128) (h : Fin 4) (a : Fin 256) :
    (transpose S16x16x128x4x256 [1, 0, 2, 3, 4] (shapeCast S16x16x128x4x256 (extf .f32 (shapeCast S16x2048x4x256 x shapeCasts_S16x2048x1024_S16x2048x4x256 : FVec Ideal S16x2048x4x256 .bf16) bitsLt_bf16_f32 : FVec Ideal S16x2048x4x256 .f32) shapeCasts_S16x2048x4x256_S16x16x128x4x256) transposes_S16x16x128x4x256_S16x16x128x4x256_1_0_2_3_4 : FVec Ideal S16x16x128x4x256 .f32) (ix5 n b j h a)
      = x (ix3 b (grow n.val j) (kcol h a)) := by
  rw [show grow n.val j = (⟨n.val * 128 + j.val, by omega⟩ : Fin 2048) from Fin.ext (by show (128 * n.val + j.val) % 2048 = n.val * 128 + j.val; omega),
    show kcol h a = (⟨h.val * 256 + a.val, by omega⟩ : Fin 1024) from Fin.ext (by show 256 * h.val + a.val = h.val * 256 + a.val; omega)]
  pointwise

/-- The chunks of the values, stacked, at an index. -/
theorem chunkV (x : FVec Ideal S16x2048x2048 .bf16) (n b : Fin 16) (j : Fin 128) (h : Fin 4) (a : Fin 512) :
    (transpose S16x16x128x4x512 [1, 0, 2, 3, 4] (shapeCast S16x16x128x4x512 (extf .f32 (shapeCast S16x2048x4x512 x shapeCasts_S16x2048x2048_S16x2048x4x512 : FVec Ideal S16x2048x4x512 .bf16) bitsLt_bf16_f32 : FVec Ideal S16x2048x4x512 .f32) shapeCasts_S16x2048x4x512_S16x16x128x4x512) transposes_S16x16x128x4x512_S16x16x128x4x512_1_0_2_3_4 : FVec Ideal S16x16x128x4x512 .f32) (ix5 n b j h a)
      = x (ix3 b (grow n.val j) (vcol h a)) := by
  rw [show grow n.val j = (⟨n.val * 128 + j.val, by omega⟩ : Fin 2048) from Fin.ext (by show (128 * n.val + j.val) % 2048 = n.val * 128 + j.val; omega),
    show vcol h a = (⟨h.val * 512 + a.val, by omega⟩ : Fin 2048) from Fin.ext (by show 512 * h.val + a.val = h.val * 512 + a.val; omega)]
  pointwise

set_option maxHeartbeats 1000000 in
/-- A trip's state, at an index. -/
theorem stepS (s : FVec Ideal S16x4x256x512 .f32) (de : FVec Ideal S4 .f32) (k : FVec Ideal S16x128x4x256 .f32)
    (ze : FVec Ideal S4x128 .f32) (v : FVec Ideal S16x128x4x512 .f32) (b : Fin 16) (h : Fin 4) (a : Fin 256) (d : Fin 512) :
    (addf (mulf s (broadcastInDim S16x4x256x512 ![0, 1, 2, 3] bcast_S1x4x1x1_S16x4x256x512_0_1_2_3 (broadcastInDim S1x4x1x1 ![1] bcast_S4_S1x4x1x1_1 de)))
      (Host.dotGeneral dot_S16x128x4x256_S16x128x4x512_S16x4x256x512_1_1_3_3_02_02 none (mulf k (broadcastInDim S16x128x4x256 ![0, 1, 2, 3] bcast_S1x128x4x1_S16x128x4x256_0_1_2_3 (broadcastInDim S1x128x4x1 ![1, 2] bcast_S128x4_S1x128x4x1_1_2 (transpose S128x4 [1, 0] ze transposes_S4x128_S128x4_1_0)))) v) : FVec Ideal S16x4x256x512 .f32) (ix4 b h a d)
      = s (ix4 b h a d) * de (ix1 h) + ∑ j : Fin 128, (k (ix4 b j h a) * ze (ix2 h j)) * v (ix4 b j h d) := by
  pointwise

set_option maxHeartbeats 1000000 in
/-- A trip's rows, at an index. -/
theorem mixS (dm : FVec Ideal S4x128x128 .f32) (xi : FVec Ideal S128x4 .f32) (s : FVec Ideal S16x4x256x512 .f32) (q k : FVec Ideal S16x128x4x256 .f32)
    (v : FVec Ideal S16x128x4x512 .f32) (b : Fin 16) (i : Fin 128) (h : Fin 4) (w : Fin 512) :
    (broadcastInDim S1x16x128x4x512 ![1, 2, 3, 4] bcast_S16x128x4x512_S1x16x128x4x512_1_2_3_4 (addf (transpose S16x128x4x512 [0, 3, 1, 2] (Host.dotGeneral dot_S16x128x4x512_S16x4x128x128_S16x4x512x128_1_3_3_2_02_01 none v (mulf (Host.dotGeneral dot_S16x128x4x256_S16x128x4x256_S16x4x128x128_3_3_1_1_02_02 none q k) (broadcastInDim S16x4x128x128 ![0, 1, 2, 3] bcast_S1x4x128x128_S16x4x128x128_0_1_2_3 (broadcastInDim S1x4x128x128 ![1, 2, 3] bcast_S4x128x128_S1x4x128x128_1_2_3 dm)))) transposes_S16x4x512x128_S16x128x4x512_0_3_1_2) (mulf (transpose S16x128x4x512 [0, 3, 1, 2] (Host.dotGeneral dot_S16x4x256x512_S16x128x4x256_S16x4x512x128_2_3_3_1_01_02 none s q) transposes_S16x4x512x128_S16x128x4x512_0_3_1_2) (broadcastInDim S16x128x4x512 ![0, 1, 2, 3] bcast_S1x128x4x1_S16x128x4x512_0_1_2_3 (broadcastInDim S1x128x4x1 ![1, 2] bcast_S128x4_S1x128x4x1_1_2 xi)))) : FVec Ideal S1x16x128x4x512 .f32) (ix5 0 b i h w)
      = (∑ j : Fin 128, ((∑ a : Fin 256, q (ix4 b i h a) * k (ix4 b j h a)) * dm (ix3 h i j)) * v (ix4 b j h w))
        + (∑ a : Fin 256, q (ix4 b i h a) * s (ix4 b h a w)) * xi (ix2 i h) := by
  pointwise
  exact congrArg₂ (· + ·) (Finset.sum_congr rfl fun _ _ => mul_comm _ _) (congrArg (· * _) (Finset.sum_congr rfl fun _ _ => mul_comm _ _))

/-- The stacked rows put back into their sequences, at an index. -/
theorem stackS (O : FVec Ideal S16x16x128x4x512 .f32) (b : Fin 16) (l : Fin 2048) (h : Fin 4) (u : Fin 512) :
    (shapeCast S16x2048x4x512 (transpose S16x16x128x4x512 [1, 0, 2, 3, 4] O transposes_S16x16x128x4x512_S16x16x128x4x512_1_0_2_3_4) shapeCasts_S16x16x128x4x512_S16x2048x4x512 : FVec Ideal S16x2048x4x512 .f32) (ix4 b l h u)
      = O (ix5 ⟨l.val / 128, by omega⟩ b ⟨l.val % 128, by omega⟩ h u) := by
  pointwise

set_option maxHeartbeats 4000000 in
/-- The rows normalised and gated, at an index. -/
theorem normS (R : FVec Ideal S16x2048x4x512 .f32) (g : FVec Ideal S16x2048x2048 .bf16) (b : Fin 16) (l w : Fin 2048) :
    (truncf .bf16 (mulf (shapeCast S16x2048x2048 (mulf (subf R (broadcastInDim S16x2048x4x512 ![0, 1, 2, 3] bcast_S16x2048x4x1_S16x2048x4x512_0_1_2_3 (Host.divf (broadcastInDim S16x2048x4x1 ![0, 1, 2] bcast_S16x2048x4_S16x2048x4x1_0_1_2 (Host.reduceAdd R (constant S_ .f32 0x00000000#32) reducesTo_S16x2048x4x512_S16x2048x4_d3 h_S_)) (broadcastInDim S16x2048x4x1 ![] bcast_S_S16x2048x4x1 (constant S_ .f32 0x44000000#32))))) (broadcastInDim S16x2048x4x512 ![0, 1, 2, 3] bcast_S16x2048x4x1_S16x2048x4x512_0_1_2_3 (Host.rsqrt (addf (Host.divf (broadcastInDim S16x2048x4x1 ![0, 1, 2] bcast_S16x2048x4_S16x2048x4x1_0_1_2 (Host.reduceAdd (mulf (subf R (broadcastInDim S16x2048x4x512 ![0, 1, 2, 3] bcast_S16x2048x4x1_S16x2048x4x512_0_1_2_3 (Host.divf (broadcastInDim S16x2048x4x1 ![0, 1, 2] bcast_S16x2048x4_S16x2048x4x1_0_1_2 (Host.reduceAdd R (constant S_ .f32 0x00000000#32) reducesTo_S16x2048x4x512_S16x2048x4_d3 h_S_)) (broadcastInDim S16x2048x4x1 ![] bcast_S_S16x2048x4x1 (constant S_ .f32 0x44000000#32))))) (subf R (broadcastInDim S16x2048x4x512 ![0, 1, 2, 3] bcast_S16x2048x4x1_S16x2048x4x512_0_1_2_3 (Host.divf (broadcastInDim S16x2048x4x1 ![0, 1, 2] bcast_S16x2048x4_S16x2048x4x1_0_1_2 (Host.reduceAdd R (constant S_ .f32 0x00000000#32) reducesTo_S16x2048x4x512_S16x2048x4_d3 h_S_)) (broadcastInDim S16x2048x4x1 ![] bcast_S_S16x2048x4x1 (constant S_ .f32 0x44000000#32)))))) (constant S_ .f32 0x00000000#32) reducesTo_S16x2048x4x512_S16x2048x4_d3 h_S_)) (broadcastInDim S16x2048x4x1 ![] bcast_S_S16x2048x4x1 (constant S_ .f32 0x44000000#32))) (broadcastInDim S16x2048x4x1 ![] bcast_S_S16x2048x4x1 (constant S_ .f32 0x358637BD#32)))))) shapeCasts_S16x2048x4x512_S16x2048x2048) (extf .f32 g bitsLt_bf16_f32)) bitsLt_bf16_f32 : FVec Ideal S16x2048x2048 .bf16) (ix3 b l w)
      = Cert.RetIdeal.Hand.normRow (fun u => R (ix4 b l ⟨w.val / 512, by omega⟩ u)) ⟨w.val % 512, by omega⟩ * g (ix3 b l w) := by
  pointwise [Cert.RetIdeal.Hand.normRow]

set_option maxHeartbeats 4000000 in
/-- What the operations after the loop make of the stacked rows, at an index. -/
theorem outS (V0 : Valuation τ sig (Elt Ideal)) (O : FVec Ideal S16x16x128x4x512 .f32) (g : FVec Ideal S16x2048x2048 .bf16)
    (hO : V0 (Proc.devRef .tc main_v58_9) = O) (hg : V0 (Proc.devRef .tc main_arg3) = g) (b : Fin 16) (l w : Fin 2048) :
    (out_main_v82 V0 : FVec Ideal S16x2048x2048 .bf16) (ix3 b l w)
      = Cert.RetIdeal.Hand.normRow (fun u => O (ix5 ⟨l.val / 128, by omega⟩ b ⟨l.val % 128, by omega⟩ ⟨w.val / 512, by omega⟩ u)) ⟨w.val % 512, by omega⟩ * g (ix3 b l w) := by
  unfold out_main_v82
  rw [hO, hg]
  refine (normS (shapeCast S16x2048x4x512 (transpose S16x16x128x4x512 [1, 0, 2, 3, 4] O transposes_S16x16x128x4x512_S16x16x128x4x512_1_0_2_3_4) shapeCasts_S16x16x128x4x512_S16x2048x4x512) g b l w).trans ?_
  exact congrArg (fun o => Cert.RetIdeal.Hand.normRow o _ * _) (funext fun u => stackS O b l _ u)

end Cert.RetRefIdeal.Hand

end
-- ==== Proof.RetRef.lean ====
/-
  The reference of the retention call: its loop over the chunks carries every head's state, and its result is the retention
  of the argument arrays.
-/
module

public import proofs.«01_k».proof.Proof.RetStep
public import Idealize.ShloMosaic.Lib.Tactic.CleanTypes

@[expose] public section

set_option maxRecDepth 16384

noncomputable section

namespace Cert.RetRefIdeal.Hand

open Cert.RetRefIdeal Cert.RetRefIdeal.Gen Cert.RetRefIdeal.Value Idealize.ShloMosaic Idealize.ShloMosaic.TcCoe Cert.Rows Idealize.SL.Sem
open Cert.RetIdeal.Hand (dmT xiT zeT deT grow kcol vcol stG mixG outG retSpec)
open Idealize.ShloMosaic.StableHlo (entryContents afterL_cons afterL_nil)

variable (m : (ℓ : Loc nD τ sig) → Buf (Elt Ideal) ℓ)

set_option maxHeartbeats 4000000 in
/-- The decays within a chunk when the loop starts. -/
theorem dm_entry (c : Dev nD) : (entryContents preI m c (Proc.devRef .tc main_v58_3) : FVec Ideal S4x128x128 .f32) = dmT := by
  simp only [entryContents, afterL_cons, afterL_nil]
  after_reads_simp
  rfl

set_option maxHeartbeats 4000000 in
/-- The decays of the state before a chunk when the loop starts. -/
theorem xi_entry (c : Dev nD) : (entryContents preI m c (Proc.devRef .tc main_v58_4) : FVec Ideal S128x4 .f32)
    = transpose S128x4 [1, 0] (xiT : FVec Ideal S4x128 .f32) transposes_S4x128_S128x4_1_0 := by
  simp only [entryContents, afterL_cons, afterL_nil]
  after_reads_simp
  rfl

set_option maxHeartbeats 4000000 in
/-- The decays of a chunk's keys when the loop starts. -/
theorem ze_entry (c : Dev nD) : (entryContents preI m c (Proc.devRef .tc main_v58_6) : FVec Ideal S4x128 .f32) = zeT := by
  simp only [entryContents, afterL_cons, afterL_nil]
  after_reads_simp
  rfl

set_option maxHeartbeats 4000000 in
/-- The decay of the state over a chunk when the loop starts. -/
theorem de_entry (c : Dev nD) : (entryContents preI m c (Proc.devRef .tc main_v58_5) : FVec Ideal S4 .f32) = deT := by
  simp only [entryContents, afterL_cons, afterL_nil]
  after_reads_simp
  rfl

set_option maxHeartbeats 4000000 in
/-- The queries when the loop starts, their chunks first. -/
theorem q_entry (c : Dev nD) (n b : Fin 16) (j : Fin 128) (h : Fin 4) (a : Fin 256) :
    (entryContents preI m c (Proc.devRef .tc main_v58_0) : FVec Ideal S16x16x128x4x256 .f32) (ix5 n b j h a)
      = (m ((c : Thread nD τ).loc main_arg0) : FVec Ideal S16x2048x1024 .bf16) (ix3 b (grow n.val j) (kcol h a)) := by
  simp only [entryContents, afterL_cons, afterL_nil]
  after_reads_simp
  exact chunkK (m ((c : Thread nD τ).loc main_arg0) : FVec Ideal S16x2048x1024 .bf16) n b j h a

set_option maxHeartbeats 4000000 in
/-- The keys when the loop starts, their chunks first. -/
theorem k_entry (c : Dev nD) (n b : Fin 16) (j : Fin 128) (h : Fin 4) (a : Fin 256) :
    (entryContents preI m c (Proc.devRef .tc main_v58_1) : FVec Ideal S16x16x128x4x256 .f32) (ix5 n b j h a)
      = (m ((c : Thread nD τ).loc main_arg1) : FVec Ideal S16x2048x1024 .bf16) (ix3 b (grow n.val j) (kcol h a)) := by
  simp only [entryContents, afterL_cons, afterL_nil]
  after_reads_simp
  exact chunkK (m ((c : Thread nD τ).loc main_arg1) : FVec Ideal S16x2048x1024 .bf16) n b j h a

set_option maxHeartbeats 4000000 in
/-- The values when the loop starts, their chunks first. -/
theorem v_entry (c : Dev nD) (n b : Fin 16) (j : Fin 128) (h : Fin 4) (a : Fin 512) :
    (entryContents preI m c (Proc.devRef .tc main_v58_2) : FVec Ideal S16x16x128x4x512 .f32) (ix5 n b j h a)
      = (m ((c : Thread nD τ).loc main_arg2) : FVec Ideal S16x2048x2048 .bf16) (ix3 b (grow n.val j) (vcol h a)) := by
  simp only [entryContents, afterL_cons, afterL_nil]
  after_reads_simp
  exact chunkV (m ((c : Thread nD τ).loc main_arg2) : FVec Ideal S16x2048x2048 .bf16) n b j h a

set_option maxHeartbeats 4000000 in
/-- The state is zero when the loop starts. -/
theorem s_entry (c : Dev nD) (b : Fin 16) (h : Fin 4) (a : Fin 256) (d : Fin 512) :
    (entryContents preI m c (Proc.devRef .tc main_v58_8) : FVec Ideal S16x4x256x512 .f32) (ix4 b h a d) = (0 : EReal) := by
  simp only [entryContents, afterL_cons, afterL_nil]
  after_reads_simp
  show (broadcastInDim S16x4x256x512 ![] bcast_S_S16x4x256x512 (constant S_ .f32 0#32) : FVec Ideal S16x4x256x512 .f32) (ix4 b h a d) = (0 : EReal)
  pointwise

/-- The trips leave the queries. -/
theorem it_0 (c : Dev nD) (k : ℕ) : (STEP^[k] (entryContents preI m c)) (Proc.devRef .tc main_v58_0) = entryContents preI m c (Proc.devRef .tc main_v58_0) := by
  induction k with
  | zero => rfl
  | succ k ih => rw [Function.iterate_succ_apply', STEP_main_v58_0]; exact ih

/-- The trips leave the keys. -/
theorem it_1 (c : Dev nD) (k : ℕ) : (STEP^[k] (entryContents preI m c)) (Proc.devRef .tc main_v58_1) = entryContents preI m c (Proc.devRef .tc main_v58_1) := by
  induction k with
  | zero => rfl
  | succ k ih => rw [Function.iterate_succ_apply', STEP_main_v58_1]; exact ih

/-- The trips leave the values. -/
theorem it_2 (c : Dev nD) (k : ℕ) : (STEP^[k] (entryContents preI m c)) (Proc.devRef .tc main_v58_2) = entryContents preI m c (Proc.devRef .tc main_v58_2) := by
  induction k with
  | zero => rfl
  | succ k ih => rw [Function.iterate_succ_apply', STEP_main_v58_2]; exact ih

/-- The trips leave the decays within a chunk. -/
theorem it_3 (c : Dev nD) (k : ℕ) : (STEP^[k] (entryContents preI m c)) (Proc.devRef .tc main_v58_3) = entryContents preI m c (Proc.devRef .tc main_v58_3) := by
  induction k with
  | zero => rfl
  | succ k ih => rw [Function.iterate_succ_apply', STEP_main_v58_3]; exact ih

/-- The trips leave the decays of the state before a chunk. -/
theorem it_4 (c : Dev nD) (k : ℕ) : (STEP^[k] (entryContents preI m c)) (Proc.devRef .tc main_v58_4) = entryContents preI m c (Proc.devRef .tc main_v58_4) := by
  induction k with
  | zero => rfl
  | succ k ih => rw [Function.iterate_succ_apply', STEP_main_v58_4]; exact ih

/-- The trips leave the decay of the state over a chunk. -/
theorem it_5 (c : Dev nD) (k : ℕ) : (STEP^[k] (entryContents preI m c)) (Proc.devRef .tc main_v58_5) = entryContents preI m c (Proc.devRef .tc main_v58_5) := by
  induction k with
  | zero => rfl
  | succ k ih => rw [Function.iterate_succ_apply', STEP_main_v58_5]; exact ih

/-- The trips leave the decays of a chunk's keys. -/
theorem it_6 (c : Dev nD) (k : ℕ) : (STEP^[k] (entryContents preI m c)) (Proc.devRef .tc main_v58_6) = entryContents preI m c (Proc.devRef .tc main_v58_6) := by
  induction k with
  | zero => rfl
  | succ k ih => rw [Function.iterate_succ_apply', STEP_main_v58_6]; exact ih

/-- The counter after the first trips. -/
theorem it_7 (c : Dev nD) (k : ℕ) : (STEP^[k] (entryContents preI m c)) (Proc.devRef .tc main_v58_7) = fun _ => Scf.iv 0#32 1#32 k :=
  (atK_agree m c k main_v58_7 (by decide)).symm.trans (atK_ctr m c k)

/-- A trip's chunk of the queries. -/
theorem q_trip (c : Dev nD) (k b : Fin 16) (j : Fin 128) (h : Fin 4) (a : Fin 256) :
    (res_main_while0b_v83 (STEP^[k.val] (entryContents preI m c)) : FVec Ideal S16x128x4x256 .f32) (ix4 b j h a)
      = (m ((c : Thread nD τ).loc main_arg0) : FVec Ideal S16x2048x1024 .bf16) (ix3 b (grow k.val j) (kcol h a)) :=
  (sliceK ((STEP^[k.val] (entryContents preI m c)) (Proc.devRef .tc main_v58_0)) k ((STEP^[k.val] (entryContents preI m c)) (Proc.devRef .tc main_v58_7)) (it_7 m c k.val) b j h a).trans
    ((congrFun (it_0 m c k.val) _).trans (q_entry m c k b j h a))

/-- A trip's chunk of the keys. -/
theorem k_trip (c : Dev nD) (k b : Fin 16) (j : Fin 128) (h : Fin 4) (a : Fin 256) :
    (res_main_while0b_v84 (STEP^[k.val] (entryContents preI m c)) : FVec Ideal S16x128x4x256 .f32) (ix4 b j h a)
      = (m ((c : Thread nD τ).loc main_arg1) : FVec Ideal S16x2048x1024 .bf16) (ix3 b (grow k.val j) (kcol h a)) :=
  (sliceK ((STEP^[k.val] (entryContents preI m c)) (Proc.devRef .tc main_v58_1)) k ((STEP^[k.val] (entryContents preI m c)) (Proc.devRef .tc main_v58_7)) (it_7 m c k.val) b j h a).trans
    ((congrFun (it_1 m c k.val) _).trans (k_entry m c k b j h a))

/-- A trip's chunk of the values. -/
theorem v_trip (c : Dev nD) (k b : Fin 16) (j : Fin 128) (h : Fin 4) (a : Fin 512) :
    (res_main_while0b_v85 (STEP^[k.val] (entryContents preI m c)) : FVec Ideal S16x128x4x512 .f32) (ix4 b j h a)
      = (m ((c : Thread nD τ).loc main_arg2) : FVec Ideal S16x2048x2048 .bf16) (ix3 b (grow k.val j) (vcol h a)) :=
  (sliceV ((STEP^[k.val] (entryContents preI m c)) (Proc.devRef .tc main_v58_2)) k ((STEP^[k.val] (entryContents preI m c)) (Proc.devRef .tc main_v58_7)) (it_7 m c k.val) b j h a).trans
    ((congrFun (it_2 m c k.val) _).trans (v_entry m c k b j h a))

set_option maxHeartbeats 1000000 in
/-- The state after the first trips is the sequence's state after as many chunks. -/
theorem it_state (c : Dev nD) (b : Fin 16) (k : ℕ) (hk : k ≤ 16) (h : Fin 4) (a : Fin 256) (d : Fin 512) :
    ((STEP^[k] (entryContents preI m c)) (Proc.devRef .tc main_v58_8) : FVec Ideal S16x4x256x512 .f32) (ix4 b h a d)
      = stG (m ((c : Thread nD τ).loc main_arg1)) (m ((c : Thread nD τ).loc main_arg2)) b k h a d := by
  induction k generalizing h a d with
  | zero => exact s_entry m c b h a d
  | succ k ih =>
    rw [Function.iterate_succ_apply', STEP_main_v58_8]
    refine (stepS ((STEP^[k] (entryContents preI m c)) (Proc.devRef .tc main_v58_8)) ((STEP^[k] (entryContents preI m c)) (Proc.devRef .tc main_v58_5))
      (res_main_while0b_v84 (STEP^[k] (entryContents preI m c))) ((STEP^[k] (entryContents preI m c)) (Proc.devRef .tc main_v58_6))
      (res_main_while0b_v85 (STEP^[k] (entryContents preI m c))) b h a d).trans ?_
    exact congrArg₂ (· + ·) (congrArg₂ (· * ·) (ih (by omega) h a d) (congrFun ((it_5 m c k).trans (de_entry m c)) _))
      (Finset.sum_congr rfl fun j _ => congrArg₂ (· * ·)
        (congrArg₂ (· * ·) (k_trip m c ⟨k, by omega⟩ b j h a) (congrFun ((it_6 m c k).trans (ze_entry m c)) _))
        (v_trip m c ⟨k, by omega⟩ b j h d))

set_option maxHeartbeats 1000000 in
/-- The decays of the state before a chunk at a trip. -/
theorem xi_trip (c : Dev nD) (k : ℕ) (h : Fin 4) (i : Fin 128) :
    ((STEP^[k] (entryContents preI m c)) (Proc.devRef .tc main_v58_4) : FVec Ideal S128x4 .f32) (ix2 i h) = xiT (ix2 h i) := by
  refine (congrFun ((it_4 m c k).trans (xi_entry m c)) _).trans ?_
  show (transpose S128x4 [1, 0] (xiT : FVec Ideal S4x128 .f32) transposes_S4x128_S128x4_1_0 : FVec Ideal S128x4 .f32) (ix2 i h) = _
  pointwise

set_option maxHeartbeats 1000000 in
/-- The stacked rows after the first trips are the chunks' rows before the norm. -/
theorem it_rows (c : Dev nD) (b : Fin 16) (k : ℕ) (hk : k ≤ 16) (n : Fin 16) (hn : n.val < k) (i : Fin 128) (h : Fin 4) (w : Fin 512) :
    ((STEP^[k] (entryContents preI m c)) (Proc.devRef .tc main_v58_9) : FVec Ideal S16x16x128x4x512 .f32) (ix5 n b i h w)
      = mixG (m ((c : Thread nD τ).loc main_arg0)) (m ((c : Thread nD τ).loc main_arg1)) (m ((c : Thread nD τ).loc main_arg2)) b n.val h i w := by
  induction k with
  | zero => omega
  | succ k ih =>
    rw [Function.iterate_succ_apply', STEP_main_v58_9]
    refine (putV ((STEP^[k] (entryContents preI m c)) (Proc.devRef .tc main_v58_9)) _ ⟨k, by omega⟩
      ((STEP^[k] (entryContents preI m c)) (Proc.devRef .tc main_v58_7)) (it_7 m c k) n b i h w).trans ?_
    by_cases e : n = ⟨k, by omega⟩
    · rw [if_pos e]
      obtain rfl : n.val = k := by rw [e]
      refine (mixS ((STEP^[n.val] (entryContents preI m c)) (Proc.devRef .tc main_v58_3)) ((STEP^[n.val] (entryContents preI m c)) (Proc.devRef .tc main_v58_4))
        ((STEP^[n.val] (entryContents preI m c)) (Proc.devRef .tc main_v58_8)) (res_main_while0b_v83 (STEP^[n.val] (entryContents preI m c)))
        (res_main_while0b_v84 (STEP^[n.val] (entryContents preI m c))) (res_main_while0b_v85 (STEP^[n.val] (entryContents preI m c))) b i h w).trans ?_
      unfold mixG
      exact congrArg₂ (· + ·)
        (Finset.sum_congr rfl fun j _ => congrArg₂ (· * ·) (congrArg₂ (· * ·)
          (Finset.sum_congr rfl fun a _ => congrArg₂ (· * ·) (q_trip m c n b i h a) (k_trip m c n b j h a))
          (congrFun ((it_3 m c n.val).trans (dm_entry m c)) _)) (v_trip m c n b j h w))
        (congrArg₂ (· * ·) (Finset.sum_congr rfl fun a _ => congrArg₂ (· * ·) (q_trip m c n b i h a) (it_state m c b n.val (by omega) h a w))
          (xi_trip m c n.val h i))
    · rw [if_neg e]
      exact ih (by omega) (by have : n.val ≠ k := fun h => e (Fin.ext h); omega)

set_option maxHeartbeats 1000000 in
/-- The reference's result is the retention of its arguments. -/
theorem ref_eq (c : Dev nD) : (out_main_v82 (STEP^[16] (entryContents preI m c)) : FVec Ideal S16x2048x2048 .bf16)
    = retSpec (m ((c : Thread nD τ).loc main_arg0)) (m ((c : Thread nD τ).loc main_arg1)) (m ((c : Thread nD τ).loc main_arg2)) (m ((c : Thread nD τ).loc main_arg3)) := by
  funext y
  obtain ⟨b, l, w, rfl⟩ : ∃ (b : Fin 16) (l w : Fin 2048), y = ix3 b l w := ⟨y 0, y 1, y 2, by
    funext k; fin_cases k <;> rfl⟩
  refine (outS _ _ (m ((c : Thread nD τ).loc main_arg3)) rfl (iter_main_arg3 m c 16) b l w).trans ?_
  have e1 : grow (l.val / 128) ⟨l.val % 128, by omega⟩ = l := Fin.ext (by show (128 * (l.val / 128) + l.val % 128) % 2048 = l.val; omega)
  have e2 : vcol ⟨w.val / 512, by omega⟩ ⟨w.val % 512, by omega⟩ = w := Fin.ext (by show 512 * (w.val / 512) + w.val % 512 = w.val; omega)
  show _ = Cert.RetIdeal.Hand.normRow (mixG _ _ _ b (l.val / 128) ⟨w.val / 512, _⟩ ⟨l.val % 128, _⟩) ⟨w.val % 512, _⟩
    * (m ((c : Thread nD τ).loc main_arg3) : FVec Ideal S16x2048x2048 .bf16) (ix3 b (grow (l.val / 128) ⟨l.val % 128, _⟩) (vcol ⟨w.val / 512, _⟩ ⟨w.val % 512, _⟩))
  rw [e1, e2]
  refine congrArg (fun o => Cert.RetIdeal.Hand.normRow o _ * _) (funext fun u => ?_)
  exact it_rows m c b 16 (le_refl _) ⟨l.val / 128, by omega⟩ (by show l.val / 128 < 16; omega) _ _ u

end Cert.RetRefIdeal.Hand

end
-- ==== Proof.RetClaim.lean ====
/- The claims about the retention call. -/
module

public import proofs.«01_k».proof.Defs
public import proofs.«01_k».proof.Proof.Gen.Ret.Frame
public import proofs.«01_k».proof.Proof.Gen.RetIdeal.Value
public import proofs.«01_k».proof.Proof.Gen.RetRefIdeal.Run
public import proofs.«01_k».proof.Proof.RetValue
public import proofs.«01_k».proof.Proof.RetRef
public import Idealize.ShloMosaic.Lib.Quiescent

@[expose] public section

noncomputable section

namespace Cert.Proof

open Idealize.ShloMosaic Idealize.SL.Sem

/-- The kernel as compiled runs to the end, faults nowhere, keeps its arguments and leaves every semaphore at zero. -/
theorem ret_frame : quiescent_Ret (hRet := Cert.Ret.Gen.facts) :=
  fun m ρ _ => Cert.Ret.Gen.frame m ρ

/-- The same of the kernel read over the extended reals. -/
theorem ret_frame_ideal : quiescent_RetIdeal (hRetIdeal := Cert.RetIdeal.Gen.facts) :=
  fun m ρ _ => Cert.RetIdeal.Gen.frame m ρ

/-- The reference runs to the end, keeps its arguments, and has no semaphore to leave raised. -/
theorem ret_frame_ref : quiescent_RetRefIdeal (hRetRefIdeal := Cert.RetRefIdeal.Gen.facts) :=
  fun m ρ _ => (θ_run Cert.RetRefIdeal.defs _ _).mono
    (fun r h => ⟨fun c => (h c).2, sem_eq_zero_of_no_sems (by decide) r.2⟩) (Cert.RetRefIdeal.Value.run (F := Ideal) m ρ)

/-- A function of four arguments takes equal arguments to equal values. -/
theorem congr4 {α0 α1 α2 α3 β : Type} (f : α0 → α1 → α2 → α3 → β) {a0 b0 : α0} {a1 b1 : α1} {a2 b2 : α2} {a3 b3 : α3}
    (e0 : a0 = b0) (e1 : a1 = b1) (e2 : a2 = b2) (e3 : a3 = b3) : f a0 a1 a2 a3 = f b0 b1 b2 b3 := by
  subst e0 e1 e2 e3; rfl

/-- From equal arguments the kernel's result array and the reference's are the same function of them. -/
theorem ret_algebraic : algebraic_RetIdeal_RetRefIdeal (hRetIdeal := Cert.RetIdeal.Gen.facts)
    (hRetRefIdeal := Cert.RetRefIdeal.Gen.facts) := by
  intro m ρ m' ρ' _ hagree
  refine ⟨_, Cert.RetIdeal.Value.run_blocks (F := Ideal) m ρ, ?_⟩
  refine (θ_run Cert.RetRefIdeal.defs _ _).mono (fun _ h c => ?_) (Cert.RetRefIdeal.Value.run (F := Ideal) m' ρ')
  obtain ⟨h0, hargs⟩ := h c
  obtain ⟨e0, e1, e2, e3⟩ := hagree c
  refine ⟨?_, hargs⟩
  refine h0.trans ((Cert.RetRefIdeal.Hand.ref_eq m' c).trans ((congr4 Cert.RetIdeal.Hand.retSpec e0 e1 e2 e3).trans ?_))
  exact (Cert.RetIdeal.Hand.ret_final m c).symm

end Cert.Proof

end
-- ==== Proof.OutTiles.lean ====
/- The tiles the last call stores at one grid point, read at an index. -/
module

public import proofs.«01_k».proof.Proof.Rows
public import proofs.«01_k».proof.Proof.Gen.OutIdeal.Frame
public import Idealize.ShloMosaic.Lib.Pipeline.ValueKit

@[expose] public section

set_option maxRecDepth 16384

noncomputable section

namespace Cert.OutIdeal.Hand

open Cert.OutIdeal Cert.OutIdeal.Gen Idealize.ShloMosaic Idealize.ShloMosaic.TcCoe Cert.Rows

/-- The value one quarter of a grid point stores, from the rows it loads. -/
abbrev quarter (h : Vec Ideal S256x1024 .f32) (og : Vec Ideal S256x2048 .bf16) (wo : Vec Ideal S2048x1024 .bf16)
    (g : Vec Ideal S1x1024 .f32) (wg : Vec Ideal S1024x1024 .bf16) (p : Vec Ideal S1x256x256 .f32)
    (wp : Vec Ideal S256x1024 .bf16) (gf : Vec Ideal S1x1024 .f32) : FVec Ideal S256x1024 .f32 :=
  k0_pay13 (k0_pay12 (k0_pay2 h og wo) (k0_pay6 (k0_pay2 h og wo) g wg) p wp) gf

set_option maxHeartbeats 1000000 in
/-- The stream after the output projection, at an index. -/
theorem res_apply (h : Vec Ideal S256x1024 .f32) (og : Vec Ideal S256x2048 .bf16) (w : Vec Ideal S2048x1024 .bf16)
    (r : Fin 256) (j : Fin 1024) :
    k0_pay2 h og w (ix2 r j) = resRow (fun k => og (ix2 r k)) (fun k => h (ix2 r k)) (fun k j => w (ix2 k j)) j := by
  pointwise [k0_pay2, resRow, dotRow]

set_option maxHeartbeats 1000000 in
/-- The per-layer gate, at an index. -/
theorem gate_apply (h : FVec Ideal S256x1024 .f32) (g : Vec Ideal S1x1024 .f32) (w : Vec Ideal S1024x1024 .bf16)
    (r : Fin 256) (j : Fin 1024) :
    k0_pay6 h g w (ix2 r j) = sigm (dotRow (rmsRow (fun k => h (ix2 r k)) (fun k => g (ix2 0 k))) (fun k j => w (ix2 k j)) j) := by
  pointwise [k0_pay6, sigm, dotRow, rmsRow]
  rfl

set_option maxHeartbeats 1000000 in
/-- The stream after the per-layer embedding, at an index. -/
theorem ple_apply (h gt : FVec Ideal S256x1024 .f32) (p : Vec Ideal S1x256x256 .f32) (w : Vec Ideal S256x1024 .bf16)
    (r : Fin 256) (j : Fin 1024) :
    k0_pay12 h gt p w (ix2 r j) = h (ix2 r j) + dotRow (fun k => p (ix3 0 r k)) (fun k j => w (ix2 k j)) j * gt (ix2 r j) := by
  pointwise [k0_pay12, dotRow]

set_option maxHeartbeats 1000000 in
/-- The final norm, at an index. -/
theorem fin_apply (h : FVec Ideal S256x1024 .f32) (g : Vec Ideal S1x1024 .f32) (r : Fin 256) (j : Fin 1024) :
    k0_pay13 h g (ix2 r j) = rmsRow (fun k => h (ix2 r k)) (fun k => g (ix2 0 k)) j := by
  pointwise [k0_pay13, rmsRow]

/-- One quarter's value at an index is the row function of the rows it loads. -/
theorem quarter_apply (h : Vec Ideal S256x1024 .f32) (og : Vec Ideal S256x2048 .bf16) (wo : Vec Ideal S2048x1024 .bf16)
    (g : Vec Ideal S1x1024 .f32) (wg : Vec Ideal S1024x1024 .bf16) (p : Vec Ideal S1x256x256 .f32)
    (wp : Vec Ideal S256x1024 .bf16) (gf : Vec Ideal S1x1024 .f32) (r : Fin 256) (j : Fin 1024) :
    quarter h og wo g wg p wp gf (ix2 r j)
      = outRow (fun k => og (ix2 r k)) (fun k => h (ix2 r k)) (fun k => p (ix3 0 r k)) (fun k j => wo (ix2 k j))
          (fun k => g (ix2 0 k)) (fun k j => wg (ix2 k j)) (fun k j => wp (ix2 k j)) (fun k => gf (ix2 0 k)) j := by
  simp only [quarter, fin_apply, ple_apply, gate_apply, res_apply]
  rfl

set_option maxHeartbeats 4000000 in
/-- What one grid point stores, read at an index: each row is the row function of the same row of the point's blocks. -/
theorem out_apply (x0 : Vec Ideal S1024x2048 .bf16) (x1 : Vec Ideal S1024x1024 .f32) (x2 : Vec Ideal S1x1024x256 .f32)
    (x3 : Vec Ideal S2048x1024 .bf16) (x4 : Vec Ideal S1x1024 .f32) (x5 : Vec Ideal S1024x1024 .bf16)
    (x6 : Vec Ideal S256x1024 .bf16) (x7 : Vec Ideal S1x1024 .f32) (r j : Fin 1024) :
    out0_8 x0 x1 x2 x3 x4 x5 x6 x7 (ix2 r j)
      = outRow (fun k => x0 (ix2 r k)) (fun k => x1 (ix2 r k)) (fun k => x2 (ix3 0 r k)) (fun k j => x3 (ix2 k j))
          (fun k => x4 (ix2 0 k)) (fun k j => x5 (ix2 k j)) (fun k j => x6 (ix2 k j)) (fun k => x7 (ix2 0 k)) j := by
  unfold_out out0_8
  canon_tiles x h
  · obtain ⟨a, b, rfl⟩ : ∃ (a : Fin 256) (b : Fin 1024), x = ix2 a b := ⟨x 0, x 1, eq_ix2 x⟩
    obtain rfl : r = ⟨768 + a, Nat.lt_of_lt_of_le (Nat.add_lt_add_left a.isLt 768) (by decide)⟩ := Fin.ext h0
    obtain rfl : j = b := Fin.ext h1
    refine (quarter_apply (View.ld x1 r0_7) (View.ld x0 r0_8) (View.ld x3 r0_2) (View.ld x4 r0_9) (View.ld x5 r0_10) (View.ld x2 r0_15) (View.ld x6 r0_12) (View.ld x7 r0_9) a j).trans ?_
    pointwise
  · obtain ⟨a, b, rfl⟩ : ∃ (a : Fin 256) (b : Fin 1024), x = ix2 a b := ⟨x 0, x 1, eq_ix2 x⟩
    obtain rfl : r = ⟨512 + a, Nat.lt_of_lt_of_le (Nat.add_lt_add_left a.isLt 512) (by decide)⟩ := Fin.ext h0
    obtain rfl : j = b := Fin.ext h1
    refine (quarter_apply (View.ld x1 r0_5) (View.ld x0 r0_6) (View.ld x3 r0_2) (View.ld x4 r0_9) (View.ld x5 r0_10) (View.ld x2 r0_14) (View.ld x6 r0_12) (View.ld x7 r0_9) a j).trans ?_
    pointwise
  · obtain ⟨a, b, rfl⟩ : ∃ (a : Fin 256) (b : Fin 1024), x = ix2 a b := ⟨x 0, x 1, eq_ix2 x⟩
    obtain rfl : r = ⟨256 + a, Nat.lt_of_lt_of_le (Nat.add_lt_add_left a.isLt 256) (by decide)⟩ := Fin.ext h0
    obtain rfl : j = b := Fin.ext h1
    refine (quarter_apply (View.ld x1 r0_3) (View.ld x0 r0_4) (View.ld x3 r0_2) (View.ld x4 r0_9) (View.ld x5 r0_10) (View.ld x2 r0_13) (View.ld x6 r0_12) (View.ld x7 r0_9) a j).trans ?_
    pointwise
  · obtain ⟨a, b, rfl⟩ : ∃ (a : Fin 256) (b : Fin 1024), x = ix2 a b := ⟨x 0, x 1, eq_ix2 x⟩
    obtain rfl : r = ⟨a, Nat.lt_of_lt_of_le a.isLt (by decide)⟩ := Fin.ext h0
    obtain rfl : j = b := Fin.ext h1
    refine (quarter_apply (View.ld x1 r0_0) (View.ld x0 r0_1) (View.ld x3 r0_2) (View.ld x4 r0_9) (View.ld x5 r0_10) (View.ld x2 r0_11) (View.ld x6 r0_12) (View.ld x7 r0_9) a j).trans ?_
    pointwise

end Cert.OutIdeal.Hand

end
-- ==== Proof.OutValue.lean ====
/- The array the last call leaves: every token's row is the row function of the argument arrays' rows. -/
module

public import proofs.«01_k».proof.Proof.OutTiles
public import proofs.«01_k».proof.Proof.Gen.OutIdeal.Value

@[expose] public section

set_option maxRecDepth 16384

noncomputable section

namespace Cert.OutIdeal.Hand

open Cert.OutIdeal Cert.OutIdeal.Gen Idealize.ShloMosaic Idealize.ShloMosaic.TcCoe Cert.Rows Idealize.SL.Sem
open Idealize.ShloMosaic.Pipeline (Dat)

variable (m : (ℓ : Loc nD τ sig) → Buf (Elt Ideal) ℓ) (ρ : Dev nD → PrngReg)

/-- Where each window's block lies at a grid point. -/
theorem idx : ∀ t : Fin cfg0.N, win0_0.index t = ![(grid0.coords t 0).val, 0] ∧ win0_1.index t = ![(grid0.coords t 0).val, 0]
    ∧ win0_2.index t = ![1, (grid0.coords t 0).val, 0] ∧ win0_3.index t = ![0, 0] ∧ win0_4.index t = ![0, 0]
    ∧ win0_5.index t = ![0, 0] ∧ win0_6.index t = ![0, 0] ∧ win0_7.index t = ![0, 0]
    ∧ win0_8.index t = ![(grid0.coords t 0).val, 0] :=
  (by decide +kernel : ∀ t : Fin grid0.N, _)

set_option maxHeartbeats 4000000 in
/-- The call's result after the run: every token's row is the row function of the argument arrays' rows. -/
theorem final (c : Dev nD) :
    (dats m 0 c).arrAt 8 cfg0.N = outSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t hf y => ?_
  idx_vars y
  have hlt : (grid0.coords t 0).val * 1024 + y0.val < 32768 := by
    have := (grid0.coords t 0).isLt
    have h32 : (grid0.coords t 0).val < 32 := this
    omega
  have he : ((cfg0.win 8).blk t).view.emb (ix2 y0 y1) = ix2 (⟨(grid0.coords t 0).val * 1024 + y0.val, hlt⟩ : Fin 32768) y1 := by
    blk_ext [idx t]
  rw [he]
  blk_simp
  rw [after0_8]
  refine (out_apply _ _ _ _ _ _ _ _ _ _).trans ?_
  simp only [outSpec]
  congr 1
  · funext k; blk_ext! [iblk, V, idx t]
  · funext k; blk_ext! [iblk, V, idx t]
  · funext k; blk_ext! [iblk, V, idx t]
  · funext k j; blk_ext! [iblk, V, idx t]
  · funext k; blk_ext! [iblk, V, idx t]
  · funext k j; blk_ext! [iblk, V, idx t]
  · funext k j; blk_ext! [iblk, V, idx t]
  · funext k; blk_ext! [iblk, V, idx t]

end Cert.OutIdeal.Hand

end
-- ==== Proof.OutRef.lean ====
/- The reference of the last call: every token's row is the same row function. -/
module

public import proofs.«01_k».proof.Proof.Rows
public import proofs.«01_k».proof.Proof.Gen.OutRefIdeal.Run
public import Idealize.ShloMosaic.Lib.Tactic.CleanTypes

@[expose] public section

set_option maxRecDepth 16384

noncomputable section

namespace Cert.OutRefIdeal.Hand

open Cert.OutRefIdeal Cert.OutRefIdeal.Value Idealize.ShloMosaic Idealize.ShloMosaic.TcCoe Cert.Rows

variable (m : (ℓ : Loc nD τ sig) → Buf (Elt Ideal) ℓ)

set_option maxHeartbeats 4000000 in
/-- The reference's result is the row function of the argument arrays' rows. -/
theorem ref_eq (c : Dev nD) :
    res_main_v49 m c = outSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold res_main_v49
  clean_types
  funext i
  idx_vars i
  pointwise
  simp only [outSpec, outRow, pleRow, rmsRow, resRow, dotRow, sigm]
  rfl

end Cert.OutRefIdeal.Hand

end
-- ==== Proof.OutClaim.lean ====
/- The claims about the layer's last call (output projection, residual, embedding gate, final norm). -/
module

public import proofs.«01_k».proof.Defs
public import proofs.«01_k».proof.Proof.Gen.Out.Frame
public import proofs.«01_k».proof.Proof.OutValue
public import proofs.«01_k».proof.Proof.OutRef
public import Idealize.ShloMosaic.Lib.Quiescent

@[expose] public section

noncomputable section

namespace Cert.Proof

open Idealize.ShloMosaic Idealize.SL.Sem

/-- The kernel as compiled runs to the end, faults nowhere, keeps its arguments and leaves every semaphore at zero. -/
theorem out_frame : quiescent_Out (hOut := Cert.Out.Gen.facts) :=
  fun m ρ _ => Cert.Out.Gen.frame m ρ

/-- The same of the kernel read over the extended reals. -/
theorem out_frame_ideal : quiescent_OutIdeal (hOutIdeal := Cert.OutIdeal.Gen.facts) :=
  fun m ρ _ => Cert.OutIdeal.Gen.frame m ρ

/-- The reference runs to the end, keeps its arguments, and has no semaphore to leave raised. -/
theorem out_frame_ref : quiescent_OutRefIdeal (hOutRefIdeal := Cert.OutRefIdeal.Gen.facts) :=
  fun m ρ _ => (θ_run Cert.OutRefIdeal.defs _ _).mono
    (fun r h => ⟨fun c => (h c).2, sem_eq_zero_of_no_sems (by decide) r.2⟩) (Cert.OutRefIdeal.Value.run (F := Ideal) m ρ)

/-- From equal arguments the kernel's result array and the reference's are the same function of them. -/
theorem out_algebraic : algebraic_OutIdeal_OutRefIdeal (hOutIdeal := Cert.OutIdeal.Gen.facts)
    (hOutRefIdeal := Cert.OutRefIdeal.Gen.facts) := by
  intro m ρ m' ρ' _ hagree
  refine ⟨_, Cert.OutIdeal.Value.run_blocks (F := Ideal) m ρ, ?_⟩
  refine (θ_run Cert.OutRefIdeal.defs _ _).mono (fun _ h c => ⟨?_, (h c).2⟩) (Cert.OutRefIdeal.Value.run (F := Ideal) m' ρ')
  obtain ⟨e0, e1, e2, e3, e4, e5, e6, e7⟩ := hagree c
  rw [(h c).1, Cert.OutRefIdeal.Hand.ref_eq, e0, e1, e2, e3, e4, e5, e6, e7]
  exact (Cert.OutIdeal.Hand.final m c).symm

end Cert.Proof

end
-- ==== Proof.MidTiles.lean ====
/-
  What one grid point of the call between the two mixers stores, read at an index: each row is a function of the same row
  of the point's blocks.
-/
module

public import proofs.«01_k».proof.Proof.Rows
public import proofs.«01_k».proof.Proof.Gen.MidIdeal.Frame
public import Idealize.ShloMosaic.Lib.Pipeline.ValueKit

@[expose] public section

set_option maxRecDepth 16384

noncomputable section

namespace Cert.MidIdeal.Hand

open Cert.MidIdeal Cert.MidIdeal.Gen Idealize.ShloMosaic Idealize.ShloMosaic.TcCoe Cert.Rows

set_option maxHeartbeats 1000000 in
/-- The stream after the output projection, at an index. -/
theorem res_apply (h : Vec Ideal S256x1024 .f32) (og : Vec Ideal S256x1024 .bf16) (w : Vec Ideal S1024x1024 .bf16)
    (r : Fin 256) (j : Fin 1024) :
    k0_pay2 h og w (ix2 r j) = resRow (fun k => og (ix2 r k)) (fun k => h (ix2 r k)) (fun k j => w (ix2 k j)) j := by
  pointwise [k0_pay2, resRow, dotRow]

set_option maxHeartbeats 1000000 in
/-- The per-layer gate, at an index. -/
theorem gate_apply (h : Vec Ideal S256x1024 .f32) (og : Vec Ideal S256x1024 .bf16) (wo : Vec Ideal S1024x1024 .bf16)
    (g : Vec Ideal S1x1024 .f32) (w : Vec Ideal S1024x1024 .bf16) (r : Fin 256) (j : Fin 1024) :
    k0_pay4 h og wo g w (ix2 r j)
      = sigm (dotRow (rmsRow (fun k => k0_pay2 h og wo (ix2 r k)) (fun k => g (ix2 0 k))) (fun k j => w (ix2 k j)) j) := by
  generalize hh : k0_pay2 h og wo = s
  pointwise [k0_pay4, sigm, dotRow, rmsRow, hh]
  rfl

set_option maxHeartbeats 1000000 in
/-- The stream after the per-layer embedding, at an index. -/
theorem ple_apply (h gt : FVec Ideal S256x1024 .f32) (p : Vec Ideal S1x256x256 .f32) (w : Vec Ideal S256x1024 .bf16)
    (r : Fin 256) (j : Fin 1024) :
    k0_pay5 h gt p w (ix2 r j) = h (ix2 r j) + dotRow (fun k => p (ix3 0 r k)) (fun k j => w (ix2 k j)) j * gt (ix2 r j) := by
  pointwise [k0_pay5, dotRow]

set_option maxHeartbeats 1000000 in
/-- The norm before the second layer's projections, at an index. -/
theorem norm_apply (h : FVec Ideal S256x1024 .f32) (g : Vec Ideal S1x1024 .f32) (r : Fin 256) (j : Fin 1024) :
    k0_pay7 h g (ix2 r j) = rmsRow (fun k => h (ix2 r k)) (fun k => g (ix2 0 k)) j := by
  pointwise [k0_pay7, rmsRow]

set_option maxHeartbeats 1000000 in
/-- The queries before the rotation, at an index. -/
theorem q_apply (h : FVec Ideal S256x1024 .f32) (g : Vec Ideal S1x1024 .f32) (w : Vec Ideal S1024x1024 .bf16)
    (r : Fin 256) (j : Fin 1024) :
    k0_pay9 h g w (ix2 r j) = dotRow (fun k => k0_pay7 h g (ix2 r k)) (fun k j => w (ix2 k j)) j := by
  generalize hh : k0_pay7 h g = s
  pointwise [k0_pay9, dotRow, hh]

set_option maxHeartbeats 1000000 in
/-- The scaled keys before the rotation, at an index. -/
theorem k_apply (h : FVec Ideal S256x1024 .f32) (g : Vec Ideal S1x1024 .f32) (w : Vec Ideal S1024x1024 .bf16)
    (r : Fin 256) (j : Fin 1024) :
    k0_pay10 h g w (ix2 r j)
      = dotRow (fun k => k0_pay7 h g (ix2 r k)) (fun k j => w (ix2 k j)) j * Ideal.ofBits .f32 0x3D800000#32 := by
  generalize hh : k0_pay7 h g = s
  pointwise [k0_pay10, dotRow, hh]

set_option maxHeartbeats 1000000 in
/-- The values, at an index. -/
theorem v_apply (h : FVec Ideal S256x1024 .bf16) (w : Vec Ideal S1024x2048 .bf16) (r : Fin 256) (j : Fin 2048) :
    k0_pay60 h w (ix2 r j) = dotRow (fun k => h (ix2 r k)) (fun k j => w (ix2 k j)) j := by
  pointwise [k0_pay60, dotRow]

set_option maxHeartbeats 1000000 in
/-- The output gate, at an index. -/
theorem sg_apply (h : FVec Ideal S256x1024 .bf16) (w : Vec Ideal S1024x2048 .bf16) (r : Fin 256) (j : Fin 2048) :
    k0_pay61 h w (ix2 r j) = dotRow (fun k => h (ix2 r k)) (fun k j => w (ix2 k j)) j
      * sigm (dotRow (fun k => h (ix2 r k)) (fun k j => w (ix2 k j)) j) := by
  pointwise [k0_pay61, dotRow, sigm]
  rfl

/-- The rotation of one tile of 128 columns: the tile times the cosines, plus its left and right neighbours times the two
    tables of sines. -/
abbrev rotv (z : FVec Ideal S256x128 .f32) (c s p : Vec Ideal S256x128 .f32) : FVec Ideal S256x128 .bf16 :=
  truncf .bf16 (addf (addf (mulf z (shapeCast S256x128 c shapeCasts_S256x128_S256x128))
      (mulf (dynamicRotate 1 127#32 none z rotates_S256x128_d1) (shapeCast S256x128 s shapeCasts_S256x128_S256x128)))
    (mulf (dynamicRotate 1 1#32 none z rotates_S256x128_d1) (shapeCast S256x128 p shapeCasts_S256x128_S256x128))) bitsLt_bf16_f32

set_option maxHeartbeats 1000000 in
/-- The rotation of a tile at an index. -/
theorem rotv_apply (z : FVec Ideal S256x128 .f32) (c s p : Vec Ideal S256x128 .f32) (a : Fin 256) (l : Fin 128) :
    rotv z c s p (ix2 a l) = z (ix2 a l) * c (ix2 a l)
      + z (ix2 a (⟨(l.val + 128 - 127) % 128, by omega⟩ : Fin 128)) * s (ix2 a l)
      + z (ix2 a (⟨(l.val + 128 - 1) % 128, by omega⟩ : Fin 128)) * p (ix2 a l) := by
  pointwise [rotv]

/-- A rotated tile at an index: the rotary embedding of the row, at the tile's column. -/
theorem tile_rot (q : FVec Ideal S256x1024 .f32) (off : ℕ) (hs : S256x1024.Slices ![0, off] S256x128) (z : Fin 1024 → EReal)
    (c s p : Vec Ideal S256x128 .f32) (a : Fin 256) (l : Fin 128) (j : Fin 1024) (cs sn : Fin 256 → EReal)
    (hz : ∀ j, q (ix2 a j) = z j) (hj : j.val = off + l.val) (he : off % 2 = 0)
    (hc : c (ix2 a l) = cs (hd j)) (hsn : s (ix2 a l) = if j.val % 2 = 0 then -sn (hd j) else 0)
    (hsp : p (ix2 a l) = if j.val % 2 = 0 then 0 else sn (hd j)) :
    rotv (extractStridedSlice S256x128 ![0, off] q hs) c s p (ix2 a l) = rotRow z cs sn j := by
  have hx : ∀ (l' : Fin 128) (j' : Fin 1024), j'.val = off + l'.val →
      extractStridedSlice S256x128 ![0, off] q hs (ix2 a l') = z j' := fun l' j' h => by
    rw [← hz j']
    refine extractStridedSlice_apply _ _ _ _ _ fun d => ?_
    fin_cases d
    · simp [ix2]
    · simpa [ix2] using h
  have hl := l.isLt
  have hjl := j.isLt
  rw [rotv_apply, hc, hsn, hsp, hx l j hj, rotRow]
  by_cases hp : j.val % 2 = 0
  · rw [if_pos hp, if_pos hp, if_pos hp, hx _ (pair j) (by simp only [pair, dif_pos hp]; omega)]
    simp only [mul_zero, add_zero, mul_neg, neg_mul]
  · rw [if_neg hp, if_neg hp, if_neg hp, hx (⟨(l.val + 128 - 1) % 128, by omega⟩ : Fin 128) (pair j) (by simp only [pair, dif_neg hp]; omega)]
    simp only [mul_zero, add_zero]

/-- A load of rows from 0 and columns from 0 of a table, at an index. -/
theorem ld7 (x : Vec Ideal S512x256 .f32) (a : Fin 256) (l : Fin 128) (r : Fin 512) (d : Fin 256)
    (hr : r.val = a.val) (hd : d.val = l.val) : View.ld x r0_7 (ix2 a l) = x (ix2 r d) := by
  obtain rfl : r = ⟨a.val, Nat.lt_of_lt_of_le a.isLt (by decide)⟩ := Fin.ext hr
  obtain rfl : d = ⟨l.val, Nat.lt_of_lt_of_le l.isLt (by decide)⟩ := Fin.ext hd
  pointwise

/-- A load of rows from 0 and columns from 128 of a table, at an index. -/
theorem ld9 (x : Vec Ideal S512x256 .f32) (a : Fin 256) (l : Fin 128) (r : Fin 512) (d : Fin 256)
    (hr : r.val = a.val) (hd : d.val = 128 + l.val) : View.ld x r0_9 (ix2 a l) = x (ix2 r d) := by
  obtain rfl : r = ⟨a.val, Nat.lt_of_lt_of_le a.isLt (by decide)⟩ := Fin.ext hr
  obtain rfl : d = ⟨128 + l.val, Nat.lt_of_lt_of_le (Nat.add_lt_add_left l.isLt 128) (by decide)⟩ := Fin.ext hd
  pointwise

/-- A load of rows from 256 and columns from 0 of a table, at an index. -/
theorem ld19 (x : Vec Ideal S512x256 .f32) (a : Fin 256) (l : Fin 128) (r : Fin 512) (d : Fin 256)
    (hr : r.val = 256 + a.val) (hd : d.val = l.val) : View.ld x r0_19 (ix2 a l) = x (ix2 r d) := by
  obtain rfl : r = ⟨256 + a.val, Nat.lt_of_lt_of_le (Nat.add_lt_add_left a.isLt 256) (by decide)⟩ := Fin.ext hr
  obtain rfl : d = ⟨l.val, Nat.lt_of_lt_of_le l.isLt (by decide)⟩ := Fin.ext hd
  pointwise

/-- A load of rows from 256 and columns from 128 of a table, at an index. -/
theorem ld21 (x : Vec Ideal S512x256 .f32) (a : Fin 256) (l : Fin 128) (r : Fin 512) (d : Fin 256)
    (hr : r.val = 256 + a.val) (hd : d.val = 128 + l.val) : View.ld x r0_21 (ix2 a l) = x (ix2 r d) := by
  obtain rfl : r = ⟨256 + a.val, Nat.lt_of_lt_of_le (Nat.add_lt_add_left a.isLt 256) (by decide)⟩ := Fin.ext hr
  obtain rfl : d = ⟨128 + l.val, Nat.lt_of_lt_of_le (Nat.add_lt_add_left l.isLt 128) (by decide)⟩ := Fin.ext hd
  pointwise

section Tables

variable {x12 x13 x14 : Vec Ideal S512x256 .f32} {cs sn : Fin 512 → Fin 256 → EReal} (hc : ∀ r d, x12 (ix2 r d) = cs r d)
  (hsn : ∀ r d, x13 (ix2 r d) = if d.val % 2 = 0 then -sn r d else 0)
  (hsp : ∀ r d, x14 (ix2 r d) = if d.val % 2 = 0 then 0 else sn r d)
include hc hsn hsp

/-- A rotated tile whose tables are loaded from row 0 and column 0, at an index. -/
theorem tile7 (q : FVec Ideal S256x1024 .f32) (off : ℕ) (hs : S256x1024.Slices ![0, off] S256x128) {z : Fin 1024 → EReal}
    (a : Fin 256) (l : Fin 128) (r : Fin 512) (j : Fin 1024) (hz : ∀ j, q (ix2 a j) = z j) (hr : r.val = a.val)
    (hj : j.val = off + l.val) (he : off % 256 = 0) :
    rotv (extractStridedSlice S256x128 ![0, off] q hs) (View.ld x12 r0_7) (View.ld x13 r0_7) (View.ld x14 r0_7) (ix2 a l)
      = rotRow z (cs r) (sn r) j := by
  have hl := l.isLt
  have hd' : (hd j).val = l.val := by show j.val % 256 = _; omega
  have e2 : (hd j).val % 2 = j.val % 2 := by show j.val % 256 % 2 = _; omega
  refine tile_rot q off hs z _ _ _ a l j (cs r) (sn r) hz hj (by omega) ?_ ?_ ?_
  · rw [ld7 x12 a l r (hd j) hr hd', hc]
  · rw [ld7 x13 a l r (hd j) hr hd', hsn, e2]
  · rw [ld7 x14 a l r (hd j) hr hd', hsp, e2]

/-- A rotated tile whose tables are loaded from row 0 and column 128, at an index. -/
theorem tile9 (q : FVec Ideal S256x1024 .f32) (off : ℕ) (hs : S256x1024.Slices ![0, off] S256x128) {z : Fin 1024 → EReal}
    (a : Fin 256) (l : Fin 128) (r : Fin 512) (j : Fin 1024) (hz : ∀ j, q (ix2 a j) = z j) (hr : r.val = a.val)
    (hj : j.val = off + l.val) (he : off % 256 = 128) :
    rotv (extractStridedSlice S256x128 ![0, off] q hs) (View.ld x12 r0_9) (View.ld x13 r0_9) (View.ld x14 r0_9) (ix2 a l)
      = rotRow z (cs r) (sn r) j := by
  have hl := l.isLt
  have hd' : (hd j).val = 128 + l.val := by show j.val % 256 = _; omega
  have e2 : (hd j).val % 2 = j.val % 2 := by show j.val % 256 % 2 = _; omega
  refine tile_rot q off hs z _ _ _ a l j (cs r) (sn r) hz hj (by omega) ?_ ?_ ?_
  · rw [ld9 x12 a l r (hd j) hr hd', hc]
  · rw [ld9 x13 a l r (hd j) hr hd', hsn, e2]
  · rw [ld9 x14 a l r (hd j) hr hd', hsp, e2]

/-- A rotated tile whose tables are loaded from row 256 and column 0, at an index. -/
theorem tile19 (q : FVec Ideal S256x1024 .f32) (off : ℕ) (hs : S256x1024.Slices ![0, off] S256x128) {z : Fin 1024 → EReal}
    (a : Fin 256) (l : Fin 128) (r : Fin 512) (j : Fin 1024) (hz : ∀ j, q (ix2 a j) = z j) (hr : r.val = 256 + a.val)
    (hj : j.val = off + l.val) (he : off % 256 = 0) :
    rotv (extractStridedSlice S256x128 ![0, off] q hs) (View.ld x12 r0_19) (View.ld x13 r0_19) (View.ld x14 r0_19) (ix2 a l)
      = rotRow z (cs r) (sn r) j := by
  have hl := l.isLt
  have hd' : (hd j).val = l.val := by show j.val % 256 = _; omega
  have e2 : (hd j).val % 2 = j.val % 2 := by show j.val % 256 % 2 = _; omega
  refine tile_rot q off hs z _ _ _ a l j (cs r) (sn r) hz hj (by omega) ?_ ?_ ?_
  · rw [ld19 x12 a l r (hd j) hr hd', hc]
  · rw [ld19 x13 a l r (hd j) hr hd', hsn, e2]
  · rw [ld19 x14 a l r (hd j) hr hd', hsp, e2]

/-- A rotated tile whose tables are loaded from row 256 and column 128, at an index. -/
theorem tile21 (q : FVec Ideal S256x1024 .f32) (off : ℕ) (hs : S256x1024.Slices ![0, off] S256x128) {z : Fin 1024 → EReal}
    (a : Fin 256) (l : Fin 128) (r : Fin 512) (j : Fin 1024) (hz : ∀ j, q (ix2 a j) = z j) (hr : r.val = 256 + a.val)
    (hj : j.val = off + l.val) (he : off % 256 = 128) :
    rotv (extractStridedSlice S256x128 ![0, off] q hs) (View.ld x12 r0_21) (View.ld x13 r0_21) (View.ld x14 r0_21) (ix2 a l)
      = rotRow z (cs r) (sn r) j := by
  have hl := l.isLt
  have hd' : (hd j).val = 128 + l.val := by show j.val % 256 = _; omega
  have e2 : (hd j).val % 2 = j.val % 2 := by show j.val % 256 % 2 = _; omega
  refine tile_rot q off hs z _ _ _ a l j (cs r) (sn r) hz hj (by omega) ?_ ?_ ?_
  · rw [ld21 x12 a l r (hd j) hr hd', hc]
  · rw [ld21 x13 a l r (hd j) hr hd', hsn, e2]
  · rw [ld21 x14 a l r (hd j) hr hd', hsp, e2]

end Tables

/-- The residual stream of half a grid point, from the rows it loads. -/
abbrev stream (h : Vec Ideal S256x1024 .f32) (og : Vec Ideal S256x1024 .bf16) (wo : Vec Ideal S1024x1024 .bf16)
    (g : Vec Ideal S1x1024 .f32) (wg : Vec Ideal S1024x1024 .bf16) (p : Vec Ideal S1x256x256 .f32)
    (wp : Vec Ideal S256x1024 .bf16) : FVec Ideal S256x1024 .f32 :=
  k0_pay5 (k0_pay2 h og wo) (k0_pay4 h og wo g wg) p wp

/-- The residual stream's row as a function of the same row of the blocks. -/
abbrev strow {R : ℕ} (h : FVec Ideal ⟨2, ![R, 1024]⟩ .f32) (og : FVec Ideal ⟨2, ![R, 1024]⟩ .bf16) (wo : Vec Ideal S1024x1024 .bf16)
    (g : Vec Ideal S1x1024 .f32) (wg : Vec Ideal S1024x1024 .bf16) (p : FVec Ideal ⟨3, ![1, R, 256]⟩ .f32)
    (wp : Vec Ideal S256x1024 .bf16) (r : Fin R) : Fin 1024 → EReal :=
  pleRow (resRow (fun k => og (ix2 r k)) (fun k => h (ix2 r k)) (fun k j => wo (ix2 k j))) (fun k => p (ix3 0 r k))
    (fun k => g (ix2 0 k)) (fun k j => wg (ix2 k j)) (fun k j => wp (ix2 k j))

section Half

variable (h : Vec Ideal S256x1024 .f32) (og : Vec Ideal S256x1024 .bf16) (wo : Vec Ideal S1024x1024 .bf16)
    (g : Vec Ideal S1x1024 .f32) (wg : Vec Ideal S1024x1024 .bf16) (p : Vec Ideal S1x256x256 .f32)
    (wp : Vec Ideal S256x1024 .bf16) (gp : Vec Ideal S1x1024 .f32) (r : Fin 256)

/-- The stream of half a point at an index. -/
theorem stream_apply (j : Fin 1024) : stream h og wo g wg p wp (ix2 r j) = strow h og wo g wg p wp r j := by
  simp only [stream, ple_apply, gate_apply, res_apply]
  rfl

/-- The queries of half a point before the rotation, at an index. -/
theorem qh_apply (w : Vec Ideal S1024x1024 .bf16) (j : Fin 1024) :
    k0_pay9 (stream h og wo g wg p wp) gp w (ix2 r j)
      = dotRow (rmsRow (strow h og wo g wg p wp r) (fun k => gp (ix2 0 k))) (fun k j => w (ix2 k j)) j := by
  simp only [q_apply, norm_apply, stream_apply]

/-- The scaled keys of half a point before the rotation, at an index. -/
theorem kh_apply (w : Vec Ideal S1024x1024 .bf16) (j : Fin 1024) :
    k0_pay10 (stream h og wo g wg p wp) gp w (ix2 r j)
      = dotRow (rmsRow (strow h og wo g wg p wp r) (fun k => gp (ix2 0 k))) (fun k j => w (ix2 k j)) j
        * Ideal.ofBits .f32 0x3D800000#32 := by
  simp only [k_apply, norm_apply, stream_apply]

/-- The values of half a point at an index. -/
theorem vh_apply (w : Vec Ideal S1024x2048 .bf16) (j : Fin 2048) :
    k0_pay60 (k0_pay7 (stream h og wo g wg p wp) gp) w (ix2 r j)
      = dotRow (rmsRow (strow h og wo g wg p wp r) (fun k => gp (ix2 0 k))) (fun k j => w (ix2 k j)) j := by
  simp only [v_apply, norm_apply, stream_apply]

/-- The output gate of half a point at an index. -/
theorem sgh_apply (w : Vec Ideal S1024x2048 .bf16) (j : Fin 2048) :
    k0_pay61 (k0_pay7 (stream h og wo g wg p wp) gp) w (ix2 r j)
      = dotRow (rmsRow (strow h og wo g wg p wp r) (fun k => gp (ix2 0 k))) (fun k j => w (ix2 k j)) j
        * sigm (dotRow (rmsRow (strow h og wo g wg p wp r) (fun k => gp (ix2 0 k))) (fun k j => w (ix2 k j)) j) := by
  simp only [sg_apply, norm_apply, stream_apply]

end Half

end Cert.MidIdeal.Hand

end
-- ==== Proof.MidPoint.lean ====
/-
  The residual stream, the values and the gate one grid point of the call between the mixers stores.
-/
module

public import proofs.«01_k».proof.Proof.MidTiles

@[expose] public section

set_option maxRecDepth 16384

noncomputable section

namespace Cert.MidIdeal.Hand

open Cert.MidIdeal Cert.MidIdeal.Gen Idealize.ShloMosaic Idealize.ShloMosaic.TcCoe Cert.Rows

section Point

variable (x0 : Vec Ideal S512x1024 .bf16) (x1 : Vec Ideal S512x1024 .f32) (x2 : Vec Ideal S1x512x256 .f32)
  (x3 : Vec Ideal S1024x1024 .bf16) (x4 : Vec Ideal S1x1024 .f32) (x5 : Vec Ideal S1024x1024 .bf16)
  (x6 : Vec Ideal S256x1024 .bf16) (x7 : Vec Ideal S1x1024 .f32) (x8 x9 : Vec Ideal S1024x1024 .bf16)
  (x10 x11 : Vec Ideal S1024x2048 .bf16) (x12 x13 x14 : Vec Ideal S512x256 .f32)

set_option maxHeartbeats 4000000 in
/-- The residual stream one grid point stores, at an index. -/
theorem stream_out (r : Fin 512) (j : Fin 1024) :
    out0_15 x0 x1 x2 x3 x4 x5 x6 x7 x8 x9 x10 x11 x12 x13 x14 (ix2 r j) = strow x1 x0 x3 x4 x5 x2 x6 r j := by
  unfold_out out0_15
  canon_tiles x h
  · obtain ⟨a, b, rfl⟩ : ∃ (a : Fin 256) (b : Fin 1024), x = ix2 a b := ⟨x 0, x 1, eq_ix2 x⟩
    obtain rfl : r = ⟨256 + a.val, Nat.lt_of_lt_of_le (Nat.add_lt_add_left a.isLt 256) (by decide)⟩ := Fin.ext h0
    obtain rfl : j = b := Fin.ext h1
    refine (stream_apply (View.ld x1 r0_2) (View.ld x0 r0_2) (View.ld x3 r0_1) (View.ld x4 r0_3) (View.ld x5 r0_1) (View.ld x2 r0_6) (View.ld x6 r0_5) a j).trans ?_
    pointwise [strow]
  · obtain ⟨a, b, rfl⟩ : ∃ (a : Fin 256) (b : Fin 1024), x = ix2 a b := ⟨x 0, x 1, eq_ix2 x⟩
    obtain rfl : r = ⟨a.val, Nat.lt_of_lt_of_le a.isLt (by decide)⟩ := Fin.ext h0
    obtain rfl : j = b := Fin.ext h1
    refine (stream_apply (View.ld x1 r0_0) (View.ld x0 r0_0) (View.ld x3 r0_1) (View.ld x4 r0_3) (View.ld x5 r0_1) (View.ld x2 r0_4) (View.ld x6 r0_5) a j).trans ?_
    pointwise [strow]

set_option maxHeartbeats 4000000 in
/-- The values one grid point stores, at an index. -/
theorem vh_out (r : Fin 512) (j : Fin 2048) :
    out0_18 x0 x1 x2 x3 x4 x5 x6 x7 x8 x9 x10 x11 x12 x13 x14 (ix2 r j) = dotRow (rmsRow (strow x1 x0 x3 x4 x5 x2 x6 r) (fun k => x7 (ix2 0 k))) (fun k j => x10 (ix2 k j)) j := by
  unfold_out out0_18
  canon_tiles x h
  · obtain ⟨a, b, rfl⟩ : ∃ (a : Fin 256) (b : Fin 2048), x = ix2 a b := ⟨x 0, x 1, eq_ix2 x⟩
    obtain rfl : r = ⟨256 + a.val, Nat.lt_of_lt_of_le (Nat.add_lt_add_left a.isLt 256) (by decide)⟩ := Fin.ext h0
    obtain rfl : j = b := Fin.ext h1
    refine (vh_apply (View.ld x1 r0_2) (View.ld x0 r0_2) (View.ld x3 r0_1) (View.ld x4 r0_3) (View.ld x5 r0_1) (View.ld x2 r0_6) (View.ld x6 r0_5) (View.ld x7 r0_3) a (View.ld x10 r0_17) j).trans ?_
    pointwise [strow]
  · obtain ⟨a, b, rfl⟩ : ∃ (a : Fin 256) (b : Fin 2048), x = ix2 a b := ⟨x 0, x 1, eq_ix2 x⟩
    obtain rfl : r = ⟨a.val, Nat.lt_of_lt_of_le a.isLt (by decide)⟩ := Fin.ext h0
    obtain rfl : j = b := Fin.ext h1
    refine (vh_apply (View.ld x1 r0_0) (View.ld x0 r0_0) (View.ld x3 r0_1) (View.ld x4 r0_3) (View.ld x5 r0_1) (View.ld x2 r0_4) (View.ld x6 r0_5) (View.ld x7 r0_3) a (View.ld x10 r0_17) j).trans ?_
    pointwise [strow]

set_option maxHeartbeats 4000000 in
/-- The output gate one grid point stores, at an index. -/
theorem sgh_out (r : Fin 512) (j : Fin 2048) :
    out0_19 x0 x1 x2 x3 x4 x5 x6 x7 x8 x9 x10 x11 x12 x13 x14 (ix2 r j) = dotRow (rmsRow (strow x1 x0 x3 x4 x5 x2 x6 r) (fun k => x7 (ix2 0 k))) (fun k j => x11 (ix2 k j)) j * sigm (dotRow (rmsRow (strow x1 x0 x3 x4 x5 x2 x6 r) (fun k => x7 (ix2 0 k))) (fun k j => x11 (ix2 k j)) j) := by
  unfold_out out0_19
  canon_tiles x h
  · obtain ⟨a, b, rfl⟩ : ∃ (a : Fin 256) (b : Fin 2048), x = ix2 a b := ⟨x 0, x 1, eq_ix2 x⟩
    obtain rfl : r = ⟨256 + a.val, Nat.lt_of_lt_of_le (Nat.add_lt_add_left a.isLt 256) (by decide)⟩ := Fin.ext h0
    obtain rfl : j = b := Fin.ext h1
    refine (sgh_apply (View.ld x1 r0_2) (View.ld x0 r0_2) (View.ld x3 r0_1) (View.ld x4 r0_3) (View.ld x5 r0_1) (View.ld x2 r0_6) (View.ld x6 r0_5) (View.ld x7 r0_3) a (View.ld x11 r0_17) j).trans ?_
    pointwise [strow]
  · obtain ⟨a, b, rfl⟩ : ∃ (a : Fin 256) (b : Fin 2048), x = ix2 a b := ⟨x 0, x 1, eq_ix2 x⟩
    obtain rfl : r = ⟨a.val, Nat.lt_of_lt_of_le a.isLt (by decide)⟩ := Fin.ext h0
    obtain rfl : j = b := Fin.ext h1
    refine (sgh_apply (View.ld x1 r0_0) (View.ld x0 r0_0) (View.ld x3 r0_1) (View.ld x4 r0_3) (View.ld x5 r0_1) (View.ld x2 r0_4) (View.ld x6 r0_5) (View.ld x7 r0_3) a (View.ld x11 r0_17) j).trans ?_
    pointwise [strow]

end Point

end Cert.MidIdeal.Hand

end
-- ==== Proof.MidQ.lean ====
/-
  The rotated queries one grid point of the call between the mixers stores.
-/
module

public import proofs.«01_k».proof.Proof.MidTiles

@[expose] public section

set_option maxRecDepth 16384

noncomputable section

namespace Cert.MidIdeal.Hand

open Cert.MidIdeal Cert.MidIdeal.Gen Idealize.ShloMosaic Idealize.ShloMosaic.TcCoe Cert.Rows

section Point

variable (x0 : Vec Ideal S512x1024 .bf16) (x1 : Vec Ideal S512x1024 .f32) (x2 : Vec Ideal S1x512x256 .f32)
  (x3 : Vec Ideal S1024x1024 .bf16) (x4 : Vec Ideal S1x1024 .f32) (x5 : Vec Ideal S1024x1024 .bf16)
  (x6 : Vec Ideal S256x1024 .bf16) (x7 : Vec Ideal S1x1024 .f32) (x8 x9 : Vec Ideal S1024x1024 .bf16)
  (x10 x11 : Vec Ideal S1024x2048 .bf16) (x12 x13 x14 : Vec Ideal S512x256 .f32)

set_option maxHeartbeats 1000000 in
/-- Before the rotation, the rows from 0 of a point at an index. -/
theorem qhA (a : Fin 256) (j : Fin 1024) : (k0_pay118 x0 x1 x2 x3 x4 x5 x6 x7 x8 x9 x10 x11 x12 x13 x14) (ix2 a j)
    = (fun j => dotRow (rmsRow (strow x1 x0 x3 x4 x5 x2 x6 (⟨a.val, Nat.lt_of_lt_of_le a.isLt (by decide)⟩ : Fin 512)) (fun k => x7 (ix2 0 k))) (fun k j => x8 (ix2 k j)) j) j := by
  refine (qh_apply (View.ld x1 r0_0) (View.ld x0 r0_0) (View.ld x3 r0_1) (View.ld x4 r0_3) (View.ld x5 r0_1) (View.ld x2 r0_4) (View.ld x6 r0_5) (View.ld x7 r0_3) a (View.ld x8 r0_1) j).trans ?_
  pointwise [strow]

set_option maxHeartbeats 1000000 in
/-- Before the rotation, the rows from 256 of a point at an index. -/
theorem qhB (a : Fin 256) (j : Fin 1024) : (k0_pay125 x0 x1 x2 x3 x4 x5 x6 x7 x8 x9 x10 x11 x12 x13 x14) (ix2 a j)
    = (fun j => dotRow (rmsRow (strow x1 x0 x3 x4 x5 x2 x6 (⟨256 + a.val, Nat.lt_of_lt_of_le (Nat.add_lt_add_left a.isLt 256) (by decide)⟩ : Fin 512)) (fun k => x7 (ix2 0 k))) (fun k j => x8 (ix2 k j)) j) j := by
  refine (qh_apply (View.ld x1 r0_2) (View.ld x0 r0_2) (View.ld x3 r0_1) (View.ld x4 r0_3) (View.ld x5 r0_1) (View.ld x2 r0_6) (View.ld x6 r0_5) (View.ld x7 r0_3) a (View.ld x8 r0_1) j).trans ?_
  pointwise [strow]

variable {x12 x13 x14} {cs sn : Fin 512 → Fin 256 → EReal} (hc : ∀ r d, x12 (ix2 r d) = cs r d)
  (hsn : ∀ r d, x13 (ix2 r d) = if d.val % 2 = 0 then -sn r d else 0)
  (hsp : ∀ r d, x14 (ix2 r d) = if d.val % 2 = 0 then 0 else sn r d)
include hc hsn hsp

set_option maxHeartbeats 4000000 in
/-- The rotated queries one grid point stores, at an index: the rotary embedding of the row. -/
theorem q_out (r : Fin 512) (j : Fin 1024) :
    out0_16 x0 x1 x2 x3 x4 x5 x6 x7 x8 x9 x10 x11 x12 x13 x14 (ix2 r j)
      = rotRow (fun j => dotRow (rmsRow (strow x1 x0 x3 x4 x5 x2 x6 r) (fun k => x7 (ix2 0 k))) (fun k j => x8 (ix2 k j)) j) (cs r) (sn r) j := by
  unfold out0_16
  canon_tiles x h
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay125 x0 x1 x2 x3 x4 x5 x6 x7 x8 x9 x10 x11 x12 x13 x14) 896 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay125 x0 x1 x2 x3 x4 x5 x6 x7 x8 x9 x10 x11 x12 x13 x14) 768 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay125 x0 x1 x2 x3 x4 x5 x6 x7 x8 x9 x10 x11 x12 x13 x14) 640 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay125 x0 x1 x2 x3 x4 x5 x6 x7 x8 x9 x10 x11 x12 x13 x14) 512 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay125 x0 x1 x2 x3 x4 x5 x6 x7 x8 x9 x10 x11 x12 x13 x14) 384 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay125 x0 x1 x2 x3 x4 x5 x6 x7 x8 x9 x10 x11 x12 x13 x14) 256 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay125 x0 x1 x2 x3 x4 x5 x6 x7 x8 x9 x10 x11 x12 x13 x14) 128 (by decide) a l _ j (qhB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay125 x0 x1 x2 x3 x4 x5 x6 x7 x8 x9 x10 x11 x12 x13 x14) 0 (by decide) a l _ j (qhB x0 x1 x2 x3 x4 x5 x6 x7 x8 x9 x10 x11 x12 x13 x14 a) rfl (h1.trans (Nat.zero_add _).symm) rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay118 x0 x1 x2 x3 x4 x5 x6 x7 x8 x9 x10 x11 x12 x13 x14) 896 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay118 x0 x1 x2 x3 x4 x5 x6 x7 x8 x9 x10 x11 x12 x13 x14) 768 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay118 x0 x1 x2 x3 x4 x5 x6 x7 x8 x9 x10 x11 x12 x13 x14) 640 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay118 x0 x1 x2 x3 x4 x5 x6 x7 x8 x9 x10 x11 x12 x13 x14) 512 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay118 x0 x1 x2 x3 x4 x5 x6 x7 x8 x9 x10 x11 x12 x13 x14) 384 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay118 x0 x1 x2 x3 x4 x5 x6 x7 x8 x9 x10 x11 x12 x13 x14) 256 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay118 x0 x1 x2 x3 x4 x5 x6 x7 x8 x9 x10 x11 x12 x13 x14) 128 (by decide) a l _ j (qhA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay118 x0 x1 x2 x3 x4 x5 x6 x7 x8 x9 x10 x11 x12 x13 x14) 0 (by decide) a l _ j (qhA x0 x1 x2 x3 x4 x5 x6 x7 x8 x9 x10 x11 x12 x13 x14 a) rfl (h1.trans (Nat.zero_add _).symm) rfl

end Point

end Cert.MidIdeal.Hand

end
-- ==== Proof.MidK.lean ====
/-
  The rotated keys one grid point of the call between the mixers stores.
-/
module

public import proofs.«01_k».proof.Proof.MidTiles

@[expose] public section

set_option maxRecDepth 16384

noncomputable section

namespace Cert.MidIdeal.Hand

open Cert.MidIdeal Cert.MidIdeal.Gen Idealize.ShloMosaic Idealize.ShloMosaic.TcCoe Cert.Rows

section Point

variable (x0 : Vec Ideal S512x1024 .bf16) (x1 : Vec Ideal S512x1024 .f32) (x2 : Vec Ideal S1x512x256 .f32)
  (x3 : Vec Ideal S1024x1024 .bf16) (x4 : Vec Ideal S1x1024 .f32) (x5 : Vec Ideal S1024x1024 .bf16)
  (x6 : Vec Ideal S256x1024 .bf16) (x7 : Vec Ideal S1x1024 .f32) (x8 x9 : Vec Ideal S1024x1024 .bf16)
  (x10 x11 : Vec Ideal S1024x2048 .bf16) (x12 x13 x14 : Vec Ideal S512x256 .f32)

set_option maxHeartbeats 1000000 in
/-- Before the rotation, the rows from 0 of a point at an index. -/
theorem khA (a : Fin 256) (j : Fin 1024) : (k0_pay119 x0 x1 x2 x3 x4 x5 x6 x7 x8 x9 x10 x11 x12 x13 x14) (ix2 a j)
    = (fun j => dotRow (rmsRow (strow x1 x0 x3 x4 x5 x2 x6 (⟨a.val, Nat.lt_of_lt_of_le a.isLt (by decide)⟩ : Fin 512)) (fun k => x7 (ix2 0 k))) (fun k j => x9 (ix2 k j)) j * Ideal.ofBits .f32 0x3D800000#32) j := by
  refine (kh_apply (View.ld x1 r0_0) (View.ld x0 r0_0) (View.ld x3 r0_1) (View.ld x4 r0_3) (View.ld x5 r0_1) (View.ld x2 r0_4) (View.ld x6 r0_5) (View.ld x7 r0_3) a (View.ld x9 r0_1) j).trans ?_
  pointwise [strow]

set_option maxHeartbeats 1000000 in
/-- Before the rotation, the rows from 256 of a point at an index. -/
theorem khB (a : Fin 256) (j : Fin 1024) : (k0_pay126 x0 x1 x2 x3 x4 x5 x6 x7 x8 x9 x10 x11 x12 x13 x14) (ix2 a j)
    = (fun j => dotRow (rmsRow (strow x1 x0 x3 x4 x5 x2 x6 (⟨256 + a.val, Nat.lt_of_lt_of_le (Nat.add_lt_add_left a.isLt 256) (by decide)⟩ : Fin 512)) (fun k => x7 (ix2 0 k))) (fun k j => x9 (ix2 k j)) j * Ideal.ofBits .f32 0x3D800000#32) j := by
  refine (kh_apply (View.ld x1 r0_2) (View.ld x0 r0_2) (View.ld x3 r0_1) (View.ld x4 r0_3) (View.ld x5 r0_1) (View.ld x2 r0_6) (View.ld x6 r0_5) (View.ld x7 r0_3) a (View.ld x9 r0_1) j).trans ?_
  pointwise [strow]

variable {x12 x13 x14} {cs sn : Fin 512 → Fin 256 → EReal} (hc : ∀ r d, x12 (ix2 r d) = cs r d)
  (hsn : ∀ r d, x13 (ix2 r d) = if d.val % 2 = 0 then -sn r d else 0)
  (hsp : ∀ r d, x14 (ix2 r d) = if d.val % 2 = 0 then 0 else sn r d)
include hc hsn hsp

set_option maxHeartbeats 4000000 in
/-- The rotated keys one grid point stores, at an index: the rotary embedding of the row. -/
theorem k_out (r : Fin 512) (j : Fin 1024) :
    out0_17 x0 x1 x2 x3 x4 x5 x6 x7 x8 x9 x10 x11 x12 x13 x14 (ix2 r j)
      = rotRow (fun j => dotRow (rmsRow (strow x1 x0 x3 x4 x5 x2 x6 r) (fun k => x7 (ix2 0 k))) (fun k j => x9 (ix2 k j)) j * Ideal.ofBits .f32 0x3D800000#32) (cs r) (sn r) j := by
  unfold out0_17
  canon_tiles x h
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay126 x0 x1 x2 x3 x4 x5 x6 x7 x8 x9 x10 x11 x12 x13 x14) 896 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay126 x0 x1 x2 x3 x4 x5 x6 x7 x8 x9 x10 x11 x12 x13 x14) 768 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay126 x0 x1 x2 x3 x4 x5 x6 x7 x8 x9 x10 x11 x12 x13 x14) 640 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay126 x0 x1 x2 x3 x4 x5 x6 x7 x8 x9 x10 x11 x12 x13 x14) 512 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay126 x0 x1 x2 x3 x4 x5 x6 x7 x8 x9 x10 x11 x12 x13 x14) 384 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay126 x0 x1 x2 x3 x4 x5 x6 x7 x8 x9 x10 x11 x12 x13 x14) 256 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile21 hc hsn hsp (k0_pay126 x0 x1 x2 x3 x4 x5 x6 x7 x8 x9 x10 x11 x12 x13 x14) 128 (by decide) a l _ j (khB x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨256 + a.val, Nat.lt_of_lt_of_le (Nat.add_lt_add_left a.isLt 256) (by decide)⟩ := Fin.ext h0
    exact tile19 hc hsn hsp (k0_pay126 x0 x1 x2 x3 x4 x5 x6 x7 x8 x9 x10 x11 x12 x13 x14) 0 (by decide) a l _ j (khB x0 x1 x2 x3 x4 x5 x6 x7 x8 x9 x10 x11 x12 x13 x14 a) rfl (h1.trans (Nat.zero_add _).symm) rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay119 x0 x1 x2 x3 x4 x5 x6 x7 x8 x9 x10 x11 x12 x13 x14) 896 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay119 x0 x1 x2 x3 x4 x5 x6 x7 x8 x9 x10 x11 x12 x13 x14) 768 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay119 x0 x1 x2 x3 x4 x5 x6 x7 x8 x9 x10 x11 x12 x13 x14) 640 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay119 x0 x1 x2 x3 x4 x5 x6 x7 x8 x9 x10 x11 x12 x13 x14) 512 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay119 x0 x1 x2 x3 x4 x5 x6 x7 x8 x9 x10 x11 x12 x13 x14) 384 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay119 x0 x1 x2 x3 x4 x5 x6 x7 x8 x9 x10 x11 x12 x13 x14) 256 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile9 hc hsn hsp (k0_pay119 x0 x1 x2 x3 x4 x5 x6 x7 x8 x9 x10 x11 x12 x13 x14) 128 (by decide) a l _ j (khA x0 x1 x2 x3 x4 x5 x6 x7 x8 x9 x10 x11 x12 x13 x14 a) rfl h1 rfl
  · obtain ⟨a, l, rfl⟩ : ∃ (a : Fin 256) (l : Fin 128), x = ix2 a l := ⟨x 0, x 1, eq_ix2 x⟩
    obtain rfl : r = ⟨a.val, Nat.lt_of_lt_of_le a.isLt (by decide)⟩ := Fin.ext h0
    exact tile7 hc hsn hsp (k0_pay119 x0 x1 x2 x3 x4 x5 x6 x7 x8 x9 x10 x11 x12 x13 x14) 0 (by decide) a l _ j (khA x0 x1 x2 x3 x4 x5 x6 x7 x8 x9 x10 x11 x12 x13 x14 a) rfl (h1.trans (Nat.zero_add _).symm) rfl

end Point

end Cert.MidIdeal.Hand

end
-- ==== Proof.MidTables.lean ====
/-
  The rotary tables the call between the two mixers is given, read at an index.
-/
module

public import proofs.«01_k».proof.Proof.Rows
public import proofs.«01_k».proof.Proof.Gen.MidIdeal.Frame
public import Idealize.ShloMosaic.Lib.Pipeline.ValueKit
public import Idealize.ShloMosaic.Lib.Claim
public import Idealize.ShloMosaic.Lib.StableHlo.ReadAt
public import Idealize.ShloMosaic.Lib.StableHlo.RunRead

@[expose] public section

set_option maxRecDepth 16384

noncomputable section

namespace Cert.MidIdeal.Hand

open Cert.MidIdeal Cert.MidIdeal.Gen Idealize.ShloMosaic Idealize.ShloMosaic.TcCoe Cert.Rows

variable (m : (ℓ : Loc nD τ sig) → Buf (Elt Ideal) ℓ)

/-- The table of angles when the call starts. -/
abbrev ang (c : Dev nD) : FVec Ideal S2048x256 .f32 := V m c main_v20

/-- The table of sines when the call starts. -/
abbrev sins (c : Dev nD) : FVec Ideal S2048x256 .f32 := V m c main_v30

/-- The even columns' mask when the call starts. -/
abbrev mask (c : Dev nD) : IVec S1x256 1 := V m c main_v25

set_option maxHeartbeats 4000000 in
/-- The table of cosines is the cosine of the table of angles. -/
theorem cos_tab (c : Dev nD) : (V m c main_v26 : FVec Ideal S2048x256 .f32) = Host.cos (ang m c) := by
  unfold ang V
  after_reads_simp

set_option maxHeartbeats 4000000 in
/-- The table of sines is the sine of the table of angles. -/
theorem sin_tab (c : Dev nD) : sins m c = Host.sin (ang m c) := by
  unfold sins ang V
  after_reads_simp

set_option maxHeartbeats 4000000 in
/-- The table that multiplies a column's right neighbour: minus the sine under the mask, zero elsewhere. -/
theorem next_sel (c : Dev nD) : (V m c main_v29 : FVec Ideal S2048x256 .f32) =
    select (broadcastInDim S2048x256 ![0, 1] bcast_S1x256_S2048x256_0_1 (mask m c)) (Host.negf (sins m c))
      (broadcastInDim S2048x256 ![] bcast_S_S2048x256 (constant S_ .f32 0x00000000#32)) := by
  unfold sins mask V
  after_reads_simp
  rfl

set_option maxHeartbeats 4000000 in
/-- The table that multiplies a column's left neighbour: zero under the mask, the sine elsewhere. -/
theorem prev_sel (c : Dev nD) : (V m c main_v31 : FVec Ideal S2048x256 .f32) =
    select (broadcastInDim S2048x256 ![0, 1] bcast_S1x256_S2048x256_0_1 (mask m c))
      (broadcastInDim S2048x256 ![] bcast_S_S2048x256 (constant S_ .f32 0x00000000#32)) (sins m c) := by
  unfold sins mask V
  after_reads_simp
  rfl

set_option maxHeartbeats 4000000 in
/-- The mask's bit at a column. -/
theorem mask_bit (c : Dev nD) (d : Fin 256) : mask m c (ix2 0 d) = if d.val % 2 = 0 then 1#1 else 0#1 := by
  unfold mask V
  after_reads_at
  revert d
  decide +kernel

/-- The exponents below the last one. -/
def expLow : FVec Ideal S127 .f32 :=
  addf (mulf (broadcastInDim S127 ![0] bcast_S1_S127_0 (shapeCast _ (id (constant S_ .f32 0x00000000#32)) shapeCasts_S_S1))
      (subf (broadcastInDim S127 ![] bcast_S_S127 (constant S_ .f32 0x3F800000#32))
        (Host.divf (sitofp .f32 (iotaInDim S127 32 0)) (broadcastInDim S127 ![] bcast_S_S127 (constant S_ .f32 0x42FE0000#32)))))
    (mulf (broadcastInDim S127 ![0] bcast_S1_S127_0 (shapeCast _ (id (constant S_ .f32 0x3F800000#32)) shapeCasts_S_S1))
      (Host.divf (sitofp .f32 (iotaInDim S127 32 0)) (broadcastInDim S127 ![] bcast_S_S127 (constant S_ .f32 0x42FE0000#32))))

/-- The last exponent. -/
def expTop : FVec Ideal S1 .f32 := broadcastInDim S1 ![] bcast_S_S1 (id (constant S_ .f32 0x3F800000#32))

/-- The angle of a position and a column: the position over ten thousand to the power of the column pair's exponent. -/
def theta : FVec Ideal S2048x256 .f32 :=
  mulf (broadcastInDim S2048x256 ![0, 1] bcast_S2048x1_S2048x256_0_1
      (broadcastInDim S2048x1 ![0] bcast_S2048_S2048x1_0 (sitofp .f32 (iotaInDim S2048 32 0))))
    (broadcastInDim S2048x256 ![0, 1] bcast_S1x256_S2048x256_0_1 (broadcastInDim S1x256 ![1] bcast_S256_S1x256_1
      (shapeCast _ (broadcastInDim S128x2 ![0] bcast_S128_S128x2_0
        (Host.divf (broadcastInDim S128 ![] bcast_S_S128 (constant S_ .f32 0x3F800000#32))
          (Host.powf (broadcastInDim S128 ![] bcast_S_S128 (constant S_ .f32 0x461C4000#32))
            (concatenate S128 0 [⟨S127, expLow⟩, ⟨S1, expTop⟩] concatenates_S127_S1_S128_d0)))) shapeCasts_S128x2_S256)))

/-- Two concatenations of equal parts are equal. -/
theorem cat_congr {x x' : FVec Ideal S127 .f32} {y y' : FVec Ideal S1 .f32} (hx : x = x') (hy : y = y') :
    concatenate S128 0 [⟨S127, x⟩, ⟨S1, y⟩] concatenates_S127_S1_S128_d0
      = concatenate S128 0 [⟨S127, x'⟩, ⟨S1, y'⟩] concatenates_S127_S1_S128_d0 := by
  subst hx; subst hy; rfl

set_option maxHeartbeats 4000000 in
/-- The table of angles in closed form. -/
theorem angles (c : Dev nD) : ang m c = theta := by
  unfold ang V
  after_reads_simp
  rw [cat_congr (x' := expLow) (y' := expTop)]
  · rfl
  · after_reads_simp
    rfl
  · after_reads_simp
    rfl

/-- The neighbour table read at an index: minus the sine at even columns, zero at odd ones. -/
theorem next_tab (c : Dev nD) (l : Fin 2048) (d : Fin 256) :
    (V m c main_v29 : FVec Ideal S2048x256 .f32) (ix2 l d) = if d.val % 2 = 0 then -(sins m c (ix2 l d)) else 0 := by
  rw [next_sel]
  pointwise
  rw [mask_bit]
  split <;> simp [Scalar.select]

/-- The neighbour table read at an index: zero at even columns, the sine at odd ones. -/
theorem prev_tab (c : Dev nD) (l : Fin 2048) (d : Fin 256) :
    (V m c main_v31 : FVec Ideal S2048x256 .f32) (ix2 l d) = if d.val % 2 = 0 then 0 else sins m c (ix2 l d) := by
  rw [prev_sel]
  pointwise
  rw [mask_bit]
  split <;> simp [Scalar.select]

end Cert.MidIdeal.Hand

end
-- ==== Proof.MidReads.lean ====
/-
  The arrays the host code prepares for the call between the two mixers, read at an index.
-/
module

public import proofs.«01_k».proof.Proof.MidTables

@[expose] public section

set_option maxRecDepth 16384

noncomputable section

namespace Cert.MidIdeal.Hand

open Cert.MidIdeal Cert.MidIdeal.Gen Idealize.ShloMosaic Idealize.ShloMosaic.TcCoe Cert.Rows

variable (m : (ℓ : Loc nD τ sig) → Buf (Elt Ideal) ℓ)

set_option maxHeartbeats 4000000 in
/-- The attention's output, its tokens in one row of tokens. -/
theorem og_read (c : Dev nD) (r : Fin 32768) (k : Fin 1024) : (V m c main_v32 : FVec Ideal S32768x1024 .bf16) (ix2 r k)
    = (m ((c : Thread nD τ).loc main_arg0) : FVec Ideal S16x2048x1024 .bf16) (ix3 (tb r) (tl r) k) := by
  unfold V
  after_reads_at

set_option maxHeartbeats 4000000 in
/-- The residual stream, its tokens in one row of tokens. -/
theorem x_read (c : Dev nD) (r : Fin 32768) (k : Fin 1024) : (V m c main_v0 : FVec Ideal S32768x1024 .f32) (ix2 r k)
    = (m ((c : Thread nD τ).loc main_arg1) : FVec Ideal S16x2048x1024 .f32) (ix3 (tb r) (tl r) k) := by
  unfold V
  after_reads_at

set_option maxHeartbeats 4000000 in
/-- The embeddings, their tokens in one row of tokens. -/
theorem p_read (c : Dev nD) (r : Fin 32768) (k : Fin 256) : (V m c main_v1 : FVec Ideal S2x32768x256 .f32) (ix3 0 r k)
    = (m ((c : Thread nD τ).loc main_arg2) : FVec Ideal S2x16x2048x256 .f32) (ix4 0 (tb r) (tl r) k) := by
  unfold V
  after_reads_at

set_option maxHeartbeats 4000000 in
/-- The output projection. -/
theorem wo_read (c : Dev nD) (k j : Fin 1024) : (V m c main_v34 : FVec Ideal S1024x1024 .bf16) (ix2 k j)
    = (m ((c : Thread nD τ).loc main_arg3) : FVec Ideal S1x1024x1024 .f32) (ix3 0 k j) := by
  unfold V
  after_reads_at

set_option maxHeartbeats 4000000 in
/-- The gate's norm gain. -/
theorem g_read (c : Dev nD) (k : Fin 1024) : (V m c main_v37 : FVec Ideal S1x1024 .f32) (ix2 0 k)
    = (m ((c : Thread nD τ).loc main_arg4) : FVec Ideal S2x1024 .f32) (ix2 0 k) := by
  unfold V
  after_reads_at

set_option maxHeartbeats 4000000 in
/-- The gate's projection. -/
theorem wg_read (c : Dev nD) (k j : Fin 1024) : (V m c main_v40 : FVec Ideal S1024x1024 .bf16) (ix2 k j)
    = (m ((c : Thread nD τ).loc main_arg5) : FVec Ideal S2x1024x1024 .f32) (ix3 0 k j) := by
  unfold V
  after_reads_at

set_option maxHeartbeats 4000000 in
/-- The embedding's projection. -/
theorem wp_read (c : Dev nD) (k : Fin 256) (j : Fin 1024) : (V m c main_v43 : FVec Ideal S256x1024 .bf16) (ix2 k j)
    = (m ((c : Thread nD τ).loc main_arg6) : FVec Ideal S2x256x1024 .f32) (ix3 0 k j) := by
  unfold V
  after_reads_at

set_option maxHeartbeats 4000000 in
/-- The second layer's norm gain. -/
theorem gp_read (c : Dev nD) (k : Fin 1024) : (V m c main_v46 : FVec Ideal S1x1024 .f32) (ix2 0 k)
    = (m ((c : Thread nD τ).loc main_arg7) : FVec Ideal S2x1024 .f32) (ix2 1 k) := by
  unfold V
  after_reads_at

set_option maxHeartbeats 4000000 in
/-- The projection to queries. -/
theorem wq_read (c : Dev nD) (k j : Fin 1024) : (V m c main_v4 : FVec Ideal S1024x1024 .bf16) (ix2 k j)
    = (m ((c : Thread nD τ).loc main_arg8) : FVec Ideal S1x1024x6144 .f32) (ix3 0 k ⟨j.val, by omega⟩) := by
  unfold V
  after_reads_at

set_option maxHeartbeats 4000000 in
/-- The projection to keys. -/
theorem wk_read (c : Dev nD) (k j : Fin 1024) : (V m c main_v5 : FVec Ideal S1024x1024 .bf16) (ix2 k j)
    = (m ((c : Thread nD τ).loc main_arg8) : FVec Ideal S1x1024x6144 .f32) (ix3 0 k ⟨1024 + j.val, by omega⟩) := by
  unfold V
  after_reads_at

set_option maxHeartbeats 4000000 in
/-- The projection to values. -/
theorem wv_read (c : Dev nD) (k : Fin 1024) (j : Fin 2048) : (V m c main_v6 : FVec Ideal S1024x2048 .bf16) (ix2 k j)
    = (m ((c : Thread nD τ).loc main_arg8) : FVec Ideal S1x1024x6144 .f32) (ix3 0 k ⟨2048 + j.val, by omega⟩) := by
  unfold V
  after_reads_at

set_option maxHeartbeats 4000000 in
/-- The projection to the output gate. -/
theorem ws_read (c : Dev nD) (k : Fin 1024) (j : Fin 2048) : (V m c main_v7 : FVec Ideal S1024x2048 .bf16) (ix2 k j)
    = (m ((c : Thread nD τ).loc main_arg8) : FVec Ideal S1x1024x6144 .f32) (ix3 0 k ⟨4096 + j.val, by omega⟩) := by
  unfold V
  after_reads_at

end Cert.MidIdeal.Hand

end
-- ==== Proof.MidBlocks.lean ====
/-
  The blocks of the call between the two mixers, read at an index.
-/
module

public import proofs.«01_k».proof.Proof.MidReads
public import proofs.«01_k».proof.Proof.Gen.MidIdeal.Value

@[expose] public section

set_option maxRecDepth 16384

noncomputable section

namespace Cert.MidIdeal.Hand

open Cert.MidIdeal Cert.MidIdeal.Gen Idealize.ShloMosaic Idealize.ShloMosaic.TcCoe Cert.Rows Idealize.SL.Sem
open Idealize.ShloMosaic.Pipeline (Dat)

variable (m : (ℓ : Loc nD τ sig) → Buf (Elt Ideal) ℓ) (ρ : Dev nD → PrngReg)

/-- Where each token window's block lies at a grid point. -/
theorem idx : ∀ t : Fin cfg0.N,
    win0_0.index t = ![(grid0.coords t 0).val * 4 + (grid0.coords t 1).val, 0]
    ∧ win0_1.index t = ![(grid0.coords t 0).val * 4 + (grid0.coords t 1).val, 0]
    ∧ win0_2.index t = ![0, (grid0.coords t 0).val * 4 + (grid0.coords t 1).val, 0]
    ∧ win0_15.index t = ![(grid0.coords t 0).val * 4 + (grid0.coords t 1).val, 0]
    ∧ win0_16.index t = ![(grid0.coords t 0).val * 4 + (grid0.coords t 1).val, 0]
    ∧ win0_17.index t = ![(grid0.coords t 0).val * 4 + (grid0.coords t 1).val, 0]
    ∧ win0_18.index t = ![(grid0.coords t 0).val * 4 + (grid0.coords t 1).val, 0]
    ∧ win0_19.index t = ![(grid0.coords t 0).val * 4 + (grid0.coords t 1).val, 0]
    ∧ win0_12.index t = ![(grid0.coords t 1).val, 0] ∧ win0_13.index t = ![(grid0.coords t 1).val, 0]
    ∧ win0_14.index t = ![(grid0.coords t 1).val, 0] :=
  (by decide +kernel : ∀ t : Fin grid0.N, _)

/-- Where each weight's block lies at a grid point. -/
theorem widx : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, _)

/-- A grid point's rows are tokens. -/
theorem tok_lt (t : Fin cfg0.N) (a : Fin 512) :
    ((grid0.coords t 0).val * 4 + (grid0.coords t 1).val) * 512 + a.val < 32768 := by
  have h0 : (grid0.coords t 0).val < 16 := (grid0.coords t 0).isLt
  have h1 : (grid0.coords t 1).val < 4 := (grid0.coords t 1).isLt
  omega

/-- The token of a grid point's row. -/
abbrev tok (t : Fin cfg0.N) (a : Fin 512) : Fin 32768 :=
  ⟨((grid0.coords t 0).val * 4 + (grid0.coords t 1).val) * 512 + a.val, tok_lt t a⟩

/-- Window 0's block of an array, at an index. -/
theorem read0 (A : FVec Ideal S32768x1024 .bf16) (t : Fin cfg0.N) (a : Fin 512) (k : Fin 1024) :
    ((cfg0.win 0).blk t).view.read (Elt Ideal) A (ix2 a k) = A (ix2 (tok t a) k) := by
  blk_ext [idx t]

/-- Window 1's block of an array, at an index. -/
theorem read1 (A : FVec Ideal S32768x1024 .f32) (t : Fin cfg0.N) (a : Fin 512) (k : Fin 1024) :
    ((cfg0.win 1).blk t).view.read (Elt Ideal) A (ix2 a k) = A (ix2 (tok t a) k) := by
  blk_ext [idx t]

/-- Window 2's block of an array, at an index. -/
theorem read2 (A : FVec Ideal S2x32768x256 .f32) (t : Fin cfg0.N) (a : Fin 512) (k : Fin 256) :
    ((cfg0.win 2).blk t).view.read (Elt Ideal) A (ix3 0 a k) = A (ix3 0 (tok t a) k) := by
  blk_ext [idx t]

/-- Window 3's block of an array, at an index. -/
theorem read3 (A : FVec Ideal S1024x1024 .bf16) (t : Fin cfg0.N) (k j : Fin 1024) :
    ((cfg0.win 3).blk t).view.read (Elt Ideal) A (ix2 k j) = A (ix2 k j) := by
  blk_ext [widx t]

/-- Window 4's block of an array, at an index. -/
theorem read4 (A : FVec Ideal S1x1024 .f32) (t : Fin cfg0.N) (k : Fin 1024) :
    ((cfg0.win 4).blk t).view.read (Elt Ideal) A (ix2 0 k) = A (ix2 0 k) := by
  blk_ext [widx t]

/-- Window 5's block of an array, at an index. -/
theorem read5 (A : FVec Ideal S1024x1024 .bf16) (t : Fin cfg0.N) (k j : Fin 1024) :
    ((cfg0.win 5).blk t).view.read (Elt Ideal) A (ix2 k j) = A (ix2 k j) := by
  blk_ext [widx t]

/-- Window 6's block of an array, at an index. -/
theorem read6 (A : FVec Ideal S256x1024 .bf16) (t : Fin cfg0.N) (k : Fin 256) (j : Fin 1024) :
    ((cfg0.win 6).blk t).view.read (Elt Ideal) A (ix2 k j) = A (ix2 k j) := by
  blk_ext [widx t]

/-- Window 7's block of an array, at an index. -/
theorem read7 (A : FVec Ideal S1x1024 .f32) (t : Fin cfg0.N) (k : Fin 1024) :
    ((cfg0.win 7).blk t).view.read (Elt Ideal) A (ix2 0 k) = A (ix2 0 k) := by
  blk_ext [widx t]

/-- Window 8's block of an array, at an index. -/
theorem read8 (A : FVec Ideal S1024x1024 .bf16) (t : Fin cfg0.N) (k j : Fin 1024) :
    ((cfg0.win 8).blk t).view.read (Elt Ideal) A (ix2 k j) = A (ix2 k j) := by
  blk_ext [widx t]

/-- Window 9's block of an array, at an index. -/
theorem read9 (A : FVec Ideal S1024x1024 .bf16) (t : Fin cfg0.N) (k j : Fin 1024) :
    ((cfg0.win 9).blk t).view.read (Elt Ideal) A (ix2 k j) = A (ix2 k j) := by
  blk_ext [widx t]

/-- Window 10's block of an array, at an index. -/
theorem read10 (A : FVec Ideal S1024x2048 .bf16) (t : Fin cfg0.N) (k : Fin 1024) (j : Fin 2048) :
    ((cfg0.win 10).blk t).view.read (Elt Ideal) A (ix2 k j) = A (ix2 k j) := by
  blk_ext [widx t]

/-- Window 11's block of an array, at an index. -/
theorem read11 (A : FVec Ideal S1024x2048 .bf16) (t : Fin cfg0.N) (k : Fin 1024) (j : Fin 2048) :
    ((cfg0.win 11).blk t).view.read (Elt Ideal) A (ix2 k j) = A (ix2 k j) := by
  blk_ext [widx t]

/-- Window 12's block of an array, at an index. -/
theorem read12 (A : FVec Ideal S2048x256 .f32) (t : Fin cfg0.N) (a : Fin 512) (k : Fin 256) :
    ((cfg0.win 12).blk t).view.read (Elt Ideal) A (ix2 a k) = A (ix2 (tl (tok t a)) k) := by
  have h1 : (grid0.coords t 1).val < 4 := (grid0.coords t 1).isLt
  blk_ext [idx t]

/-- Window 13's block of an array, at an index. -/
theorem read13 (A : FVec Ideal S2048x256 .f32) (t : Fin cfg0.N) (a : Fin 512) (k : Fin 256) :
    ((cfg0.win 13).blk t).view.read (Elt Ideal) A (ix2 a k) = A (ix2 (tl (tok t a)) k) := by
  have h1 : (grid0.coords t 1).val < 4 := (grid0.coords t 1).isLt
  blk_ext [idx t]

/-- Window 14's block of an array, at an index. -/
theorem read14 (A : FVec Ideal S2048x256 .f32) (t : Fin cfg0.N) (a : Fin 512) (k : Fin 256) :
    ((cfg0.win 14).blk t).view.read (Elt Ideal) A (ix2 a k) = A (ix2 (tl (tok t a)) k) := by
  have h1 : (grid0.coords t 1).val < 4 := (grid0.coords t 1).isLt
  blk_ext [idx t]

end Cert.MidIdeal.Hand

end
-- ==== Proof.MidValue.lean ====
/-
  The five arrays the call between the two mixers leaves: each is its row function of the argument arrays' rows.
-/
module

public import proofs.«01_k».proof.Proof.MidPoint
public import proofs.«01_k».proof.Proof.MidQ
public import proofs.«01_k».proof.Proof.MidK
public import proofs.«01_k».proof.Proof.MidBlocks

@[expose] public section

set_option maxRecDepth 16384

noncomputable section

namespace Cert.MidIdeal.Hand

open Cert.MidIdeal Cert.MidIdeal.Gen Idealize.ShloMosaic Idealize.ShloMosaic.TcCoe Cert.Rows Idealize.SL.Sem
open Idealize.ShloMosaic.Pipeline (Dat)

variable (m : (ℓ : Loc nD τ sig) → Buf (Elt Ideal) ℓ)

/-- Rows of the residual stream of equal parts are equal. -/
theorem row_congr {og og' h h' : Fin 1024 → EReal} {w w' : Fin 1024 → Fin 1024 → EReal} {p p' : Fin 256 → EReal}
    {g g' : Fin 1024 → EReal} {wg wg' : Fin 1024 → Fin 1024 → EReal} {wp wp' : Fin 256 → Fin 1024 → EReal}
    (e1 : og = og') (e2 : h = h') (e3 : w = w') (e4 : p = p') (e5 : g = g') (e6 : wg = wg') (e7 : wp = wp') :
    pleRow (resRow og h w) p g wg wp = pleRow (resRow og' h' w') p' g' wg' wp' := by
  subst e1 e2 e3 e4 e5 e6 e7; rfl

/-- The row of the residual stream at a grid point is the token's row. -/
theorem strow_blk (c : Dev nD) (t : Fin cfg0.N) (a : Fin 512) :
    strow (iblk m c 1 t) (iblk m c 0 t) (iblk m c 3 t) (iblk m c 4 t) (iblk m c 5 t) (iblk m c 2 t) (iblk m c 6 t) a
      = midRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t a) := by
  exact row_congr (funext fun k => (read0 (V m c main_v32) t a k).trans (og_read m c (tok t a) k))
    (funext fun k => (read1 (V m c main_v0) t a k).trans (x_read m c (tok t a) k))
    (funext fun k => funext fun j => (read3 (V m c main_v34) t k j).trans (wo_read m c k j))
    (funext fun k => (read2 (V m c main_v1) t a k).trans (p_read m c (tok t a) k))
    (funext fun k => (read4 (V m c main_v37) t k).trans (g_read m c k))
    (funext fun k => funext fun j => (read5 (V m c main_v40) t k j).trans (wg_read m c k j))
    (funext fun k => funext fun j => (read6 (V m c main_v43) t k j).trans (wp_read m c k j))

/-- The second layer's normed row at a grid point is the token's row. -/
theorem norm_blk (c : Dev nD) (t : Fin cfg0.N) (a : Fin 512) :
    rmsRow (strow (iblk m c 1 t) (iblk m c 0 t) (iblk m c 3 t) (iblk m c 4 t) (iblk m c 5 t) (iblk m c 2 t) (iblk m c 6 t) a)
        (fun k => (iblk m c 7 t : Vec Ideal S1x1024 .f32) (ix2 0 k))
      = normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tok t a) := by
  rw [strow_blk]
  unfold normRow iblk
  congr 1
  exact funext fun k => (read7 (V m c main_v46) t k).trans (gp_read m c k)

set_option maxHeartbeats 4000000 in
/-- The residual stream after the run. -/
theorem final15 (c : Dev nD) :
    (dats m 0 c).arrAt 15 cfg0.N = hSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  idx_vars y
  have he : ((cfg0.win 15).blk t).view.emb (ix2 y0 y1) = ix2 (tok t y0) y1 := by
    blk_ext [idx t]
  rw [he]
  blk_simp
  rw [after0_15]
  refine (stream_out _ _ _ _ _ _ _ _ _ _ _ _ _ _ _ _ _).trans ?_
  exact congrFun (strow_blk m c t y0) y1

set_option maxHeartbeats 4000000 in
/-- The values after the run. -/
theorem final18 (c : Dev nD) :
    (dats m 0 c).arrAt 18 cfg0.N = vSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 18 _ (by decide +kernel) fun t hf y => ?_
  idx_vars y
  have he : ((cfg0.win 18).blk t).view.emb (ix2 y0 y1) = ix2 (tok t y0) y1 := by
    blk_ext [idx t]
  rw [he]
  blk_simp
  rw [after0_18]
  refine (vh_out _ _ _ _ _ _ _ _ _ _ _ _ _ _ _ _ _).trans ?_
  rw [norm_blk]
  unfold vSpec iblk
  exact congrArg (fun w => dotRow _ w y1) (funext fun k => funext fun j => (read10 (V m c main_v6) t k j).trans (wv_read m c k j))

set_option maxHeartbeats 4000000 in
/-- The output gate after the run. -/
theorem final19 (c : Dev nD) :
    (dats m 0 c).arrAt 19 cfg0.N = sgSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 19 _ (by decide +kernel) fun t hf y => ?_
  idx_vars y
  have he : ((cfg0.win 19).blk t).view.emb (ix2 y0 y1) = ix2 (tok t y0) y1 := by
    blk_ext [idx t]
  rw [he]
  blk_simp
  rw [after0_19]
  refine (sgh_out _ _ _ _ _ _ _ _ _ _ _ _ _ _ _ _ _).trans ?_
  rw [norm_blk]
  unfold sgSpec iblk
  exact congrArg (fun w => dotRow _ w y1 * sigm (dotRow _ w y1))
    (funext fun k => funext fun j => (read11 (V m c main_v7) t k j).trans (ws_read m c k j))

set_option maxHeartbeats 4000000 in
/-- The rotated queries after the run. -/
theorem final16 (c : Dev nD) :
    (dats m 0 c).arrAt 16 cfg0.N = qSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta) := by
  refine (dats m 0 c).arrAt_eq_of_covers 16 _ (by decide +kernel) fun t hf y => ?_
  idx_vars y
  have he : ((cfg0.win 16).blk t).view.emb (ix2 y0 y1) = ix2 (tok t y0) y1 := by
    blk_ext [idx t]
  rw [he]
  blk_simp
  rw [after0_16]
  refine (q_out _ _ _ _ _ _ _ _ _ _ _ _
    (cs := fun r d => (Host.cos theta : FVec Ideal S2048x256 .f32) (ix2 (tl (tok t r)) d))
    (sn := fun r d => (Host.sin theta : FVec Ideal S2048x256 .f32) (ix2 (tl (tok t r)) d)) ?_ ?_ ?_ y0 y1).trans ?_
  · intro r d
    refine (read12 (V m c main_v26) t r d).trans ?_
    rw [cos_tab, angles]
  · intro r d
    refine (read13 (V m c main_v29) t r d).trans ?_
    rw [next_tab, sin_tab, angles]
  · intro r d
    refine (read14 (V m c main_v31) t r d).trans ?_
    rw [prev_tab, sin_tab, angles]
  · rw [norm_blk]
    unfold qSpec iblk
    exact congrArg (fun w => rotRow (dotRow _ w) _ _ y1)
      (funext fun k => funext fun j => (read8 (V m c main_v4) t k j).trans (wq_read m c k j))

set_option maxHeartbeats 4000000 in
/-- The rotated keys after the run. -/
theorem final17 (c : Dev nD) :
    (dats m 0 c).arrAt 17 cfg0.N = kSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta) := by
  refine (dats m 0 c).arrAt_eq_of_covers 17 _ (by decide +kernel) fun t hf y => ?_
  idx_vars y
  have he : ((cfg0.win 17).blk t).view.emb (ix2 y0 y1) = ix2 (tok t y0) y1 := by
    blk_ext [idx t]
  rw [he]
  blk_simp
  rw [after0_17]
  refine (k_out _ _ _ _ _ _ _ _ _ _ _ _
    (cs := fun r d => (Host.cos theta : FVec Ideal S2048x256 .f32) (ix2 (tl (tok t r)) d))
    (sn := fun r d => (Host.sin theta : FVec Ideal S2048x256 .f32) (ix2 (tl (tok t r)) d)) ?_ ?_ ?_ y0 y1).trans ?_
  · intro r d
    refine (read12 (V m c main_v26) t r d).trans ?_
    rw [cos_tab, angles]
  · intro r d
    refine (read13 (V m c main_v29) t r d).trans ?_
    rw [next_tab, sin_tab, angles]
  · intro r d
    refine (read14 (V m c main_v31) t r d).trans ?_
    rw [prev_tab, sin_tab, angles]
  · rw [norm_blk]
    unfold kSpec iblk
    exact congrArg (fun w => rotRow (fun j => dotRow _ w j * Ideal.ofBits .f32 0x3D800000#32) _ _ y1)
      (funext fun k => funext fun j => (read9 (V m c main_v5) t k j).trans (wk_read m c k j))

end Cert.MidIdeal.Hand

end
-- ==== Proof.MidRot.lean ====
/-
  The rotated queries and keys that the reference of the call between the two mixers returns, as row functions.
-/
module

public import proofs.«01_k».proof.Proof.Rows
public import proofs.«01_k».proof.Proof.Gen.MidRefIdeal.Run
public import Idealize.ShloMosaic.Lib.Tactic.CleanTypes

@[expose] public section

set_option maxRecDepth 16384

noncomputable section

namespace Cert.MidRefIdeal.Hand

open Cert.MidRefIdeal Cert.MidRefIdeal.Gen Cert.MidRefIdeal.Value Idealize.ShloMosaic Idealize.ShloMosaic.TcCoe Cert.Rows Idealize.SL.Sem

variable (m : (ℓ : Loc nD τ sig) → Buf (Elt Ideal) ℓ)

/-- The exponents below the last one. -/
def expLow : FVec Ideal S127 .f32 :=
  addf (mulf (broadcastInDim S127 ![0] bcast_S1_S127_0 (shapeCast _ (id (constant S_ .f32 0x00000000#32)) shapeCasts_S_S1))
      (subf (broadcastInDim S127 ![] bcast_S_S127 (constant S_ .f32 0x3F800000#32))
        (Host.divf (sitofp .f32 (iotaInDim S127 32 0)) (broadcastInDim S127 ![] bcast_S_S127 (constant S_ .f32 0x42FE0000#32)))))
    (mulf (broadcastInDim S127 ![0] bcast_S1_S127_0 (shapeCast _ (id (constant S_ .f32 0x3F800000#32)) shapeCasts_S_S1))
      (Host.divf (sitofp .f32 (iotaInDim S127 32 0)) (broadcastInDim S127 ![] bcast_S_S127 (constant S_ .f32 0x42FE0000#32))))

/-- The last exponent. -/
def expTop : FVec Ideal S1 .f32 := broadcastInDim S1 ![] bcast_S_S1 (id (constant S_ .f32 0x3F800000#32))

/-- The angle of a position and a column: the position over ten thousand to the power of the column pair's exponent. -/
def theta : FVec Ideal S2048x256 .f32 :=
  mulf (broadcastInDim S2048x256 ![0, 1] bcast_S2048x1_S2048x256_0_1
      (broadcastInDim S2048x1 ![0] bcast_S2048_S2048x1_0 (sitofp .f32 (iotaInDim S2048 32 0))))
    (broadcastInDim S2048x256 ![0, 1] bcast_S1x256_S2048x256_0_1 (broadcastInDim S1x256 ![1] bcast_S256_S1x256_1
      (shapeCast _ (broadcastInDim S128x2 ![0] bcast_S128_S128x2_0
        (Host.divf (broadcastInDim S128 ![] bcast_S_S128 (constant S_ .f32 0x3F800000#32))
          (Host.powf (broadcastInDim S128 ![] bcast_S_S128 (constant S_ .f32 0x461C4000#32))
            (concatenate S128 0 [⟨S127, expLow⟩, ⟨S1, expTop⟩] concatenates_S127_S1_S128_d0)))) shapeCasts_S128x2_S256)))

/-- The reference's rotation by a quarter turn of each pair of columns of four heads of 256. -/
def turn (y : FVec Ideal S16x2048x4x256 .f32) : FVec Ideal S16x2048x4x256 .f32 :=
  shapeCast _ (concatenate S16x2048x4x128x2 4
      [⟨S16x2048x4x128x1, (broadcastInDim S16x2048x4x128x1 ![0, 1, 2, 3] bcast_S16x2048x4x128_S16x2048x4x128x1_0_1_2_3
          (Host.negf (Host.slice S16x2048x4x128 ![0, 0, 0, 1] ![1, 1, 1, 2] y slicesBy_S16x2048x4x256_S16x2048x4x128_0s1_0s1_0s1_1s2)))⟩,
       ⟨S16x2048x4x128x1, (broadcastInDim S16x2048x4x128x1 ![0, 1, 2, 3] bcast_S16x2048x4x128_S16x2048x4x128x1_0_1_2_3
          (Host.slice S16x2048x4x128 ![0, 0, 0, 0] ![1, 1, 1, 2] y slicesBy_S16x2048x4x256_S16x2048x4x128_0s1_0s1_0s1_0s2))⟩]
      concatenates_S16x2048x4x128x1_S16x2048x4x128x1_S16x2048x4x128x2_d4) shapeCasts_S16x2048x4x128x2_S16x2048x4x256

set_option maxHeartbeats 1000000 in
/-- The rotation at an index: minus the right neighbour at even columns, the left neighbour at odd ones. -/
theorem turn_apply (y : FVec Ideal S16x2048x4x256 .f32) (a : Fin 16) (b : Fin 2048) (h : Fin 4) (d : Fin 256) :
    turn y (ix4 a b h d) = if hd : d.val % 2 = 0 then -y (ix4 a b h ⟨d.val + 1, by omega⟩) else y (ix4 a b h ⟨d.val - 1, by omega⟩) := by
  unfold turn
  pointwise
  by_cases hd : d.val % 2 = 0
  · have e : (⟨1 + 2 * (d.val / 2), by omega⟩ : Fin 256) = ⟨d.val + 1, by omega⟩ := Fin.ext (by simp only; omega)
    rw [dif_pos (by omega), dif_pos hd, e]
  · have e : (⟨2 * (d.val / 2), by omega⟩ : Fin 256) = ⟨d.val - 1, by omega⟩ := Fin.ext (by simp only; omega)
    rw [dif_neg (by omega), dif_neg hd, e]

/-- The reference's rotary embedding of four heads of 256. -/
def rotT (y y' : FVec Ideal S16x2048x4x256 .f32) (th th' : FVec Ideal S2048x256 .f32) : FVec Ideal S32768x1024 .bf16 :=
  truncf .bf16 (shapeCast _ (addf (mulf y
      (broadcastInDim S16x2048x4x256 ![0, 1, 2, 3] bcast_S1x2048x1x256_S16x2048x4x256_0_1_2_3
        (broadcastInDim S1x2048x1x256 ![1, 3] bcast_S2048x256_S1x2048x1x256_1_3 th)))
    (mulf y'
      (broadcastInDim S16x2048x4x256 ![0, 1, 2, 3] bcast_S1x2048x1x256_S16x2048x4x256_0_1_2_3
        (broadcastInDim S1x2048x1x256 ![1, 3] bcast_S2048x256_S1x2048x1x256_1_3 th'))))
    shapeCasts_S16x2048x4x256_S32768x1024) bitsLt_bf16_f32

/-- The rotation at a column of a row of four heads, by the column's pair. -/
theorem turn_pair (y : FVec Ideal S16x2048x4x256 .f32) (a : Fin 16) (b : Fin 2048) (j : Fin 1024) :
    turn y (ix4 a b ⟨j.val / 256, by omega⟩ (hd j))
      = if j.val % 2 = 0 then -y (ix4 a b ⟨(pair j).val / 256, by omega⟩ (hd (pair j)))
        else y (ix4 a b ⟨(pair j).val / 256, by omega⟩ (hd (pair j))) := by
  by_cases hj : j.val % 2 = 0
  · have hp : (pair j).val = j.val + 1 := by unfold pair; rw [dif_pos hj]
    have e3 : (⟨j.val / 256, by omega⟩ : Fin 4) = ⟨(pair j).val / 256, by omega⟩ := Fin.ext (by simp only [hp]; omega)
    have e4 : (⟨(hd j).val + 1, by simp only [hd]; omega⟩ : Fin 256) = hd (pair j) := Fin.ext (by simp only [hd, hp]; omega)
    rw [turn_apply, dif_pos (by simp only [hd]; omega), if_pos hj]
    exact congrArg₂ (fun h d => -y (ix4 a b h d)) e3 e4
  · have hp : (pair j).val = j.val - 1 := by unfold pair; rw [dif_neg hj]
    have e3 : (⟨j.val / 256, by omega⟩ : Fin 4) = ⟨(pair j).val / 256, by omega⟩ := Fin.ext (by simp only [hp]; omega)
    have e4 : (⟨(hd j).val - 1, by simp only [hd]; omega⟩ : Fin 256) = hd (pair j) := Fin.ext (by simp only [hd, hp]; omega)
    rw [turn_apply, dif_neg (by simp only [hd]; omega), if_neg hj]
    exact congrArg₂ (fun h d => y (ix4 a b h d)) e3 e4

/-- The reference's rotary embedding at an index, before the rotation is opened. -/
theorem rotT_open (y y' : FVec Ideal S16x2048x4x256 .f32) (th th' : FVec Ideal S2048x256 .f32) (r : Fin 32768) (j : Fin 1024) :
    rotT y y' th th' (ix2 r j) = y (ix4 (tb r) (tl r) ⟨j.val / 256, by omega⟩ (hd j)) * th (ix2 (tl r) (hd j))
      + y' (ix4 (tb r) (tl r) ⟨j.val / 256, by omega⟩ (hd j)) * th' (ix2 (tl r) (hd j)) := by
  unfold rotT
  pointwise

/-- The reference's rotary embedding at an index is that of the token's row. -/
theorem rotT_apply (y : FVec Ideal S16x2048x4x256 .f32) (th th' : FVec Ideal S2048x256 .f32) (r : Fin 32768) (j : Fin 1024) :
    rotT y (turn y) th th' (ix2 r j) = rotRow (fun j => y (ix4 (tb r) (tl r) ⟨j.val / 256, by omega⟩ (hd j)))
      (fun d => th (ix2 (tl r) d)) (fun d => th' (ix2 (tl r) d)) j := by
  rw [rotT_open, turn_pair]
  rfl

/-- The first 1024 columns of the projection, cut into heads. -/
def qs (z : FVec Ideal S16x2048x6144 .f32) : FVec Ideal S16x2048x4x256 .f32 :=
  shapeCast _ (extractStridedSlice S16x2048x1024 ![0, 0, 0] z slices_S16x2048x6144_S16x2048x1024_0_0_0)
    shapeCasts_S16x2048x1024_S16x2048x4x256

/-- The second 1024 columns of the projection, cut into heads and scaled. -/
def ks (z : FVec Ideal S16x2048x6144 .f32) : FVec Ideal S16x2048x4x256 .f32 :=
  mulf (shapeCast _ (extractStridedSlice S16x2048x1024 ![0, 0, 1024] z slices_S16x2048x6144_S16x2048x1024_0_0_1024)
    shapeCasts_S16x2048x1024_S16x2048x4x256) (broadcastInDim S16x2048x4x256 ![] bcast_S_S16x2048x4x256 (constant S_ .f32 0x3D800000#32))

/-- The queries before the rotation are the projection's first 1024 columns. -/
theorem qs_apply (z : FVec Ideal S16x2048x6144 .f32) (a : Fin 16) (b : Fin 2048) (j : Fin 1024) :
    qs z (ix4 a b ⟨j.val / 256, by omega⟩ (hd j)) = z (ix3 a b ⟨j.val, by omega⟩) := by
  unfold qs
  pointwise
  congr 2
  exact Fin.ext (by simp only; omega)

/-- The keys before the rotation are the projection's second 1024 columns, scaled. -/
theorem ks_apply (z : FVec Ideal S16x2048x6144 .f32) (a : Fin 16) (b : Fin 2048) (j : Fin 1024) :
    ks z (ix4 a b ⟨j.val / 256, by omega⟩ (hd j)) = z (ix3 a b ⟨1024 + j.val, by omega⟩) * Ideal.ofBits .f32 0x3D800000#32 := by
  unfold ks
  pointwise
  congr 3
  exact Fin.ext (by simp only; omega)

set_option maxHeartbeats 4000000 in
/-- The reference's rotated queries are the rotation of a slice of the projection of the normed rows. -/
theorem q_split (c : Dev nD) : ∃ z : FVec Ideal S16x2048x6144 .f32,
    res_main_v104 m c = rotT (qs z) (turn (qs z)) (Host.cos theta) (Host.sin theta) ∧
    ∀ (r : Fin 32768) (j : Fin 6144), z (ix3 (tb r) (tl r) j)
      = dotRow (normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (fun k j => (m ((c : Thread nD τ).loc main_arg8) : FVec Ideal S1x1024x6144 .f32) (ix3 0 k j)) j := by
  unfold res_main_v104
  clean_types
  refine ⟨_, rfl, fun r j => ?_⟩
  pointwise
  simp only [normRow, midRow, pleRow, rmsRow, resRow, dotRow, sigm]

/-- The reference's rotated queries. -/
theorem q_eq (c : Dev nD) : res_main_v104 m c = qSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta) := by
  obtain ⟨z, hz, hd⟩ := q_split m c
  rw [hz]
  funext i
  obtain ⟨r, j, rfl⟩ : ∃ (r : Fin 32768) (j : Fin 1024), i = ix2 r j := ⟨i 0, i 1, eq_ix2 i⟩
  rw [rotT_apply]
  simp only [qs_apply, hd]
  rfl

set_option maxHeartbeats 4000000 in
/-- The reference's rotated keys are the rotation of a slice of the projection of the normed rows. -/
theorem k_split (c : Dev nD) : ∃ z : FVec Ideal S16x2048x6144 .f32,
    res_main_v106 m c = rotT (ks z) (turn (ks z)) (Host.cos theta) (Host.sin theta) ∧
    ∀ (r : Fin 32768) (j : Fin 6144), z (ix3 (tb r) (tl r) j)
      = dotRow (normRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (fun k j => (m ((c : Thread nD τ).loc main_arg8) : FVec Ideal S1x1024x6144 .f32) (ix3 0 k j)) j := by
  unfold res_main_v106
  clean_types
  refine ⟨_, rfl, fun r j => ?_⟩
  pointwise
  simp only [normRow, midRow, pleRow, rmsRow, resRow, dotRow, sigm]

/-- The reference's rotated keys. -/
theorem k_eq (c : Dev nD) : res_main_v106 m c = kSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta) := by
  obtain ⟨z, hz, hd⟩ := k_split m c
  rw [hz]
  funext i
  obtain ⟨r, j, rfl⟩ : ∃ (r : Fin 32768) (j : Fin 1024), i = ix2 r j := ⟨i 0, i 1, eq_ix2 i⟩
  rw [rotT_apply]
  simp only [ks_apply, hd]
  rfl

end Cert.MidRefIdeal.Hand

end
-- ==== Proof.MidRef.lean ====
/-
  The five arrays the reference of the call between the two mixers returns: each is its row function of the arguments' rows.
-/
module

public import proofs.«01_k».proof.Proof.MidRot
public import proofs.«01_k».proof.Proof.Gen.MidRefIdeal.Run
public import Idealize.ShloMosaic.Lib.Tactic.CleanTypes

@[expose] public section

set_option maxRecDepth 16384

noncomputable section

namespace Cert.MidRefIdeal.Hand

open Cert.MidRefIdeal Cert.MidRefIdeal.Gen Cert.MidRefIdeal.Value Idealize.ShloMosaic Idealize.ShloMosaic.TcCoe Cert.Rows Idealize.SL.Sem

variable (m : (ℓ : Loc nD τ sig) → Buf (Elt Ideal) ℓ)

set_option maxHeartbeats 4000000 in
/-- The reference's values. -/
theorem v_eq (c : Dev nD) :
    res_main_v108 m c = vSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  unfold res_main_v108
  clean_types
  funext i
  idx_vars i
  pointwise
  simp only [vSpec, normRow, midRow, pleRow, rmsRow, resRow, dotRow, sigm]
  rfl

set_option maxHeartbeats 4000000 in
/-- The reference's output gate. -/
theorem sg_eq (c : Dev nD) :
    res_main_v110 m c = sgSpec (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  unfold res_main_v110
  clean_types
  funext i
  idx_vars i
  pointwise
  simp only [sgSpec, normRow, midRow, pleRow, rmsRow, resRow, dotRow, sigm]
  rfl

set_option maxHeartbeats 4000000 in
/-- The reference's five results after its run, and its arguments kept. -/
theorem run_eq (ρ : Dev nD → PrngReg) : θ_run defs (onTc (τ := τ) (main (F := Ideal))) ⟨m, fun _ => 0, ρ⟩ fun r => ∀ c : Dev nD,
    r.2.mem ((c.tc : Thread nD τ).loc main_v102) = hSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ r.2.mem ((c.tc : Thread nD τ).loc main_v104) = qSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta)
    ∧ r.2.mem ((c.tc : Thread nD τ).loc main_v106) = kSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Host.cos theta) (Host.sin theta)
    ∧ r.2.mem ((c.tc : Thread nD τ).loc main_v108) = vSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c.tc : Thread nD τ).loc main_v110) = sgSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine (θ_run defs _ _).mono (fun _ h c => ?_) (run (F := Ideal) m ρ)
  obtain ⟨h0, h1, h2, h3, h4, hargs⟩ := h c
  refine ⟨h0.trans ?_, h1.trans (q_eq m c), h2.trans (k_eq m c), h3.trans (v_eq m c), h4.trans (sg_eq m c), hargs⟩
  clean_types
  funext i
  idx_vars i
  pointwise
  simp only [hSpec, normRow, midRow, pleRow, rmsRow, resRow, dotRow, sigm]
  rfl

end Cert.MidRefIdeal.Hand

end
-- ==== Proof.MidClaim.lean ====
/- The claims about the call between the layer's two mixers. -/
module

public import proofs.«01_k».proof.Defs
public import proofs.«01_k».proof.Proof.Gen.Mid.Frame
public import proofs.«01_k».proof.Proof.Gen.MidIdeal.Value
public import proofs.«01_k».proof.Proof.Gen.MidRefIdeal.Run
public import proofs.«01_k».proof.Proof.MidValue
public import proofs.«01_k».proof.Proof.MidRef
public import Idealize.ShloMosaic.Lib.Quiescent

@[expose] public section

noncomputable section

namespace Cert.Proof

open Idealize.ShloMosaic Idealize.SL.Sem

/-- The kernel as compiled runs to the end, faults nowhere, keeps its arguments and leaves every semaphore at zero. -/
theorem mid_frame : quiescent_Mid (hMid := Cert.Mid.Gen.facts) :=
  fun m ρ _ => Cert.Mid.Gen.frame m ρ

/-- The same of the kernel read over the extended reals. -/
theorem mid_frame_ideal : quiescent_MidIdeal (hMidIdeal := Cert.MidIdeal.Gen.facts) :=
  fun m ρ _ => Cert.MidIdeal.Gen.frame m ρ

/-- The reference runs to the end, keeps its arguments, and has no semaphore to leave raised. -/
theorem mid_frame_ref : quiescent_MidRefIdeal (hMidRefIdeal := Cert.MidRefIdeal.Gen.facts) :=
  fun m ρ _ => (θ_run Cert.MidRefIdeal.defs _ _).mono
    (fun r h => ⟨fun c => (h c).2.2.2.2.2, sem_eq_zero_of_no_sems (by decide) r.2⟩) (Cert.MidRefIdeal.Value.run (F := Ideal) m ρ)

/-- The tables of angles of the kernel's program and of the reference's are one term. -/
theorem theta_eq : Cert.MidRefIdeal.Hand.theta = Cert.MidIdeal.Hand.theta := rfl

/-- A function of nine arguments takes equal arguments to equal values. -/
theorem congr9 {α0 α1 α2 α3 α4 α5 α6 α7 α8 β : Type} (f : α0 → α1 → α2 → α3 → α4 → α5 → α6 → α7 → α8 → β) {a0 b0 : α0} {a1 b1 : α1} {a2 b2 : α2} {a3 b3 : α3} {a4 b4 : α4} {a5 b5 : α5} {a6 b6 : α6} {a7 b7 : α7} {a8 b8 : α8}
    (e0 : a0 = b0) (e1 : a1 = b1) (e2 : a2 = b2) (e3 : a3 = b3) (e4 : a4 = b4) (e5 : a5 = b5) (e6 : a6 = b6) (e7 : a7 = b7) (e8 : a8 = b8) :
    f a0 a1 a2 a3 a4 a5 a6 a7 a8 = f b0 b1 b2 b3 b4 b5 b6 b7 b8 := by
  subst e0 e1 e2 e3 e4 e5 e6 e7 e8; rfl

/-- From equal arguments the kernel's five result arrays and the reference's are the same functions of them. -/
theorem mid_algebraic : algebraic_MidIdeal_MidRefIdeal (hMidIdeal := Cert.MidIdeal.Gen.facts)
    (hMidRefIdeal := Cert.MidRefIdeal.Gen.facts) := by
  intro m ρ m' ρ' _ hagree
  refine ⟨_, _, _, _, _, Cert.MidIdeal.Value.run_blocks (F := Ideal) m ρ, ?_⟩
  refine (θ_run Cert.MidRefIdeal.defs _ _).mono (fun _ h c => ?_) (Cert.MidRefIdeal.Hand.run_eq m' ρ')
  obtain ⟨h0, h1, h2, h3, h4, hargs⟩ := h c
  obtain ⟨e0, e1, e2, e3, e4, e5, e6, e7, e8⟩ := hagree c
  refine ⟨?_, ?_, ?_, ?_, ?_, hargs⟩
  · refine h0.trans ((congr9 (fun a0 a1 a2 a3 a4 a5 a6 _ _ => Cert.Rows.hSpec a0 a1 a2 a3 a4 a5 a6) e0 e1 e2 e3 e4 e5 e6 e7 e8).trans ?_)
    exact (Cert.MidIdeal.Hand.final15 m c).symm
  · refine h1.trans ((congr9 (fun a0 a1 a2 a3 a4 a5 a6 a7 a8 => Cert.Rows.qSpec a0 a1 a2 a3 a4 a5 a6 a7 a8 (Idealize.ShloMosaic.Host.cos Cert.MidRefIdeal.Hand.theta) (Idealize.ShloMosaic.Host.sin Cert.MidRefIdeal.Hand.theta)) e0 e1 e2 e3 e4 e5 e6 e7 e8).trans ?_)
    rw [theta_eq]
    exact (Cert.MidIdeal.Hand.final16 m c).symm
  · refine h2.trans ((congr9 (fun a0 a1 a2 a3 a4 a5 a6 a7 a8 => Cert.Rows.kSpec a0 a1 a2 a3 a4 a5 a6 a7 a8 (Idealize.ShloMosaic.Host.cos Cert.MidRefIdeal.Hand.theta) (Idealize.ShloMosaic.Host.sin Cert.MidRefIdeal.Hand.theta)) e0 e1 e2 e3 e4 e5 e6 e7 e8).trans ?_)
    rw [theta_eq]
    exact (Cert.MidIdeal.Hand.final17 m c).symm
  · refine h3.trans ((congr9 (fun a0 a1 a2 a3 a4 a5 a6 a7 a8 => Cert.Rows.vSpec a0 a1 a2 a3 a4 a5 a6 a7 a8) e0 e1 e2 e3 e4 e5 e6 e7 e8).trans ?_)
    exact (Cert.MidIdeal.Hand.final18 m c).symm
  · refine h4.trans ((congr9 (fun a0 a1 a2 a3 a4 a5 a6 a7 a8 => Cert.Rows.sgSpec a0 a1 a2 a3 a4 a5 a6 a7 a8) e0 e1 e2 e3 e4 e5 e6 e7 e8).trans ?_)
    exact (Cert.MidIdeal.Hand.final19 m c).symm

end Cert.Proof

end
-- ==== Proof.lean ====
/- The assembly of the claims. -/
module

public import proofs.«01_k».proof.Defs
public import proofs.«01_k».proof.Proof.RetClaim
public import proofs.«01_k».proof.Proof.OutClaim
public import proofs.«01_k».proof.Proof.MidClaim

@[expose] public section

noncomputable section

namespace Cert.Proof

/-- Every claim of the certificate. -/
theorem claim : Cert.Claim :=
  ⟨Cert.Ret.Gen.facts, Cert.RetIdeal.Gen.facts, Cert.RetRefIdeal.Gen.facts,
    Cert.Out.Gen.facts, Cert.OutIdeal.Gen.facts, Cert.OutRefIdeal.Gen.facts,
    Cert.Mid.Gen.facts, Cert.MidIdeal.Gen.facts, Cert.MidRefIdeal.Gen.facts,
    ret_frame, ret_frame_ideal, ret_frame_ref, out_frame, out_frame_ideal, out_frame_ref,
    mid_frame, mid_frame_ideal, mid_frame_ref,
    trivial, trivial, trivial, ret_algebraic, out_algebraic, mid_algebraic⟩

end Cert.Proof

end
